-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def Pre_Decay (m : (ℓ : Loc Cert.Decay.nD Cert.Decay.τ Cert.Decay.sig) → Buf (Elt Bits) ℓ) : Prop :=
  True

def Pre_DecayIdeal (m : (ℓ : Loc Cert.DecayIdeal.nD Cert.DecayIdeal.τ Cert.DecayIdeal.sig) → Buf (Elt Ideal) ℓ) : Prop :=
  True

def Pre_DecayReferenceIdeal (m : (ℓ : Loc Cert.DecayReferenceIdeal.nD Cert.DecayReferenceIdeal.τ Cert.DecayReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Decay [hDecay : Cert.Decay.Facts] : Prop :=
  ∀ (m : (ℓ : Loc Cert.Decay.nD Cert.Decay.τ Cert.Decay.sig) → Buf (Elt Bits) ℓ) (g : Dev Cert.Decay.nD → PrngReg), Pre_Decay m →
    θ_run (Cert.Decay.defs (F := Bits)) (onTc (τ := Cert.Decay.τ) (Cert.Decay.main (F := Bits))) ⟨m, fun _ => 0, g⟩ (fun r => (∀ c : Dev Cert.Decay.nD,
      r.2.mem ((c.tc : Thread Cert.Decay.nD Cert.Decay.τ).loc Cert.Decay.main_arg0) = m ((c.tc : Thread Cert.Decay.nD Cert.Decay.τ).loc Cert.Decay.main_arg0))
      ∧ r.2.sem = fun _ => 0)

def quiescent_DecayIdeal [hDecayIdeal : Cert.DecayIdeal.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0))
      ∧ r.2.sem = fun _ => 0)

def quiescent_DecayReferenceIdeal [hDecayReferenceIdeal : Cert.DecayReferenceIdeal.Facts] : Prop :=
  ∀ (m : (ℓ : Loc Cert.DecayReferenceIdeal.nD Cert.DecayReferenceIdeal.τ Cert.DecayReferenceIdeal.sig) → Buf (Elt Ideal) ℓ) (g : Dev Cert.DecayReferenceIdeal.nD → PrngReg), Pre_DecayReferenceIdeal m →
    θ_run (Cert.DecayReferenceIdeal.defs (F := Ideal)) (onTc (τ := Cert.DecayReferenceIdeal.τ) (Cert.DecayReferenceIdeal.main (F := Ideal))) ⟨m, fun _ => 0, g⟩ (fun r => (∀ c : Dev Cert.DecayReferenceIdeal.nD,
      r.2.mem ((c.tc : Thread Cert.DecayReferenceIdeal.nD Cert.DecayReferenceIdeal.τ).loc Cert.DecayReferenceIdeal.main_arg0) = m ((c.tc : Thread Cert.DecayReferenceIdeal.nD Cert.DecayReferenceIdeal.τ).loc Cert.DecayReferenceIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Decay_DecayIdeal : Prop :=
  IdealRules.named_const.Statement Cert.DecayIdeal.κ "log2e" .f32 0x3FB8AA3B#32 (((Real.log 2)⁻¹ : ℝ) : EReal)

def algebraic_DecayIdeal_DecayReferenceIdeal [hDecayIdeal : Cert.DecayIdeal.Facts] [hDecayReferenceIdeal : Cert.DecayReferenceIdeal.Facts] : Prop :=
  ∀ (m : (ℓ : Loc Cert.DecayIdeal.nD Cert.DecayIdeal.τ Cert.DecayIdeal.sig) → Buf (Elt Ideal) ℓ) (g : Dev Cert.DecayIdeal.nD → PrngReg)
    (m' : (ℓ : Loc Cert.DecayReferenceIdeal.nD Cert.DecayReferenceIdeal.τ Cert.DecayReferenceIdeal.sig) → Buf (Elt Ideal) ℓ) (g' : Dev Cert.DecayReferenceIdeal.nD → PrngReg), Pre_DecayIdeal m →
    (∀ c : Dev Cert.DecayIdeal.nD,
      m' ((c.tc : Thread Cert.DecayReferenceIdeal.nD Cert.DecayReferenceIdeal.τ).loc Cert.DecayReferenceIdeal.main_arg0) = m ((c.tc : Thread Cert.DecayIdeal.nD Cert.DecayIdeal.τ).loc Cert.DecayIdeal.main_arg0)) →
    ∃ (v0 : (c : Dev Cert.DecayIdeal.nD) → Buf (Elt Ideal) ((c.tc : Thread Cert.DecayIdeal.nD Cert.DecayIdeal.τ).loc Cert.DecayIdeal.main_v1)),
      θ_run (Cert.DecayIdeal.defs (F := Ideal)) (onTc (τ := Cert.DecayIdeal.τ) (Cert.DecayIdeal.main (F := Ideal))) ⟨m, fun _ => 0, g⟩ (fun r => ∀ c : Dev Cert.DecayIdeal.nD,
          r.2.mem ((c.tc : Thread Cert.DecayIdeal.nD Cert.DecayIdeal.τ).loc Cert.DecayIdeal.main_v1) = v0 c
          ∧ r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0))
      ∧ θ_run (Cert.DecayReferenceIdeal.defs (F := Ideal)) (onTc (τ := Cert.DecayReferenceIdeal.τ) (Cert.DecayReferenceIdeal.main (F := Ideal))) ⟨m', fun _ => 0, g'⟩ (fun r => ∀ c : Dev Cert.DecayReferenceIdeal.nD,
          r.2.mem ((c.tc : Thread Cert.DecayReferenceIdeal.nD Cert.DecayReferenceIdeal.τ).loc Cert.DecayReferenceIdeal.main_v5) = v0 c
          ∧ r.2.mem ((c.tc : Thread Cert.DecayReferenceIdeal.nD Cert.DecayReferenceIdeal.τ).loc Cert.DecayReferenceIdeal.main_arg0) = m' ((c.tc : Thread Cert.DecayReferenceIdeal.nD Cert.DecayReferenceIdeal.τ).loc Cert.DecayReferenceIdeal.main_arg0))

def Claim : Prop :=
  ∃ (hKernel : Cert.Kernel.Facts) (hKernelIdeal : Cert.KernelIdeal.Facts) (hReferenceIdeal : Cert.ReferenceIdeal.Facts) (hDecay : Cert.Decay.Facts) (hDecayIdeal : Cert.DecayIdeal.Facts) (hDecayReferenceIdeal : Cert.DecayReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Decay (hDecay := hDecay)
    ∧ quiescent_DecayIdeal (hDecayIdeal := hDecayIdeal)
    ∧ quiescent_DecayReferenceIdeal (hDecayReferenceIdeal := hDecayReferenceIdeal)
    ∧ preserves_Kernel_KernelIdeal
    ∧ algebraic_KernelIdeal_ReferenceIdeal_pre_pre (hKernelIdeal := hKernelIdeal) (hReferenceIdeal := hReferenceIdeal) (hPre_pre := hPre_pre)
    ∧ preserves_Decay_DecayIdeal
    ∧ algebraic_DecayIdeal_DecayReferenceIdeal (hDecayIdeal := hDecayIdeal) (hDecayReferenceIdeal := hDecayReferenceIdeal)
-- ==== Pre_pre.lean ====
abbrev S2x8192x56x128 : Shape := ⟨4, ![2, 8192, 56, 128]⟩
abbrev S2x56 : Shape := ⟨2, ![2, 56]⟩
abbrev S2x8192x8x128 : Shape := ⟨4, ![2, 8192, 8, 128]⟩
abbrev S2x8 : Shape := ⟨2, ![2, 8]⟩
abbrev S2x8x128 : Shape := ⟨3, ![2, 8, 128]⟩
abbrev S2x56x8192 : Shape := ⟨3, ![2, 56, 8192]⟩
abbrev S2x8192 : Shape := ⟨2, ![2, 8192]⟩
abbrev S_ : Shape := ⟨0, ![]⟩
abbrev S2x8191 : Shape := ⟨2, ![2, 8191]⟩

class Facts : Prop where
  bcast_S_S2x56x8192 : S_.BroadcastsInDim S2x56x8192 (![] : Fin 0 → Fin S2x56x8192.rank)
  slices_S2x8192_S2x8191_0_0 : S2x8192.Slices ![0, 0] S2x8191
  slices_S2x8192_S2x8191_0_1 : S2x8192.Slices ![0, 1] S2x8191

variable [Facts]

def fn {F : FTy → Type} [FloatOps F] (main_arg0 : FVec F S2x8192x56x128 .fp8e4m3) (main_arg1 : FVec F S2x56 .f32) (main_arg2 : FVec F S2x8192x8x128 .fp8e4m3) (main_arg3 : FVec F S2x8 .f32) (main_arg4 : FVec F S2x8192x8x128 .fp8e4m3) (main_arg5 : FVec F S2x8x128 .f32) (main_arg6 : FVec F S2x56x8192 .f32) (main_arg7 : IVec S2x8192 32) : IVec S2x56x8192 1 × IVec S2x8191 1 :=
  let main_v0 : FVec F S2x56x8192 .f32 := Host.absf main_arg6
  let main_cst : FVec F S_ .f32 := constant S_ .f32 0x7F800000#32
  let main_v1 : FVec F S2x56x8192 .f32 := broadcastInDim S2x56x8192 ![] bcast_S_S2x56x8192 main_cst
  let main_v2 : IVec S2x56x8192 1 := cmpf .olt main_v0 main_v1
  let main_v3 : IVec S2x8191 32 := (extractStridedSlice S2x8191 ![0, 0] · slices_S2x8192_S2x8191_0_0) main_arg7
  let main_v4 : IVec S2x8191 32 := (extractStridedSlice S2x8191 ![0, 1] · slices_S2x8192_S2x8191_0_1) main_arg7
  let main_v5 : IVec S2x8191 1 := cmpi .sle main_v3 main_v4
  (main_v2, main_v5)
-- ==== Kernel.lean ====
abbrev S2x8192x56x128 : Shape := ⟨4, ![2, 8192, 56, 128]⟩
abbrev S2x56 : Shape := ⟨2, ![2, 56]⟩
abbrev S2x8192x8x128 : Shape := ⟨4, ![2, 8192, 8, 128]⟩
abbrev S2x8 : Shape := ⟨2, ![2, 8]⟩
abbrev S2x8x128 : Shape := ⟨3, ![2, 8, 128]⟩
abbrev S2x56x8192 : Shape := ⟨3, ![2, 56, 8192]⟩
abbrev S2x8192 : Shape := ⟨2, ![2, 8192]⟩
abbrev S2x8x7x8192 : Shape := ⟨4, ![2, 8, 7, 8192]⟩
abbrev S_ : Shape := ⟨0, ![]⟩
abbrev S2x8x8x8192 : Shape := ⟨4, ![2, 8, 8, 8192]⟩
abbrev S2x8x7 : Shape := ⟨3, ![2, 8, 7]⟩
abbrev S2x8x1 : Shape := ⟨3, ![2, 8, 1]⟩
abbrev S2x32 : Shape := ⟨2, ![2, 32]⟩
abbrev S2x1x8192 : Shape := ⟨3, ![2, 1, 8192]⟩
abbrev S2x32x1 : Shape := ⟨3, ![2, 32, 1]⟩
abbrev S2x32x8192 : Shape := ⟨3, ![2, 32, 8192]⟩
abbrev S2x8192x7168 : Shape := ⟨3, ![2, 8192, 7168]⟩
abbrev S2x8192x1024 : Shape := ⟨3, ![2, 8192, 1024]⟩
abbrev S2x8x128x8192 : Shape := ⟨4, ![2, 8, 128, 8192]⟩
abbrev S2x8192x1 : Shape := ⟨3, ![2, 8192, 1]⟩
abbrev S2x8x1x128 : Shape := ⟨4, ![2, 8, 1, 128]⟩
abbrev S1x256x896 : Shape := ⟨3, ![1, 256, 896]⟩
abbrev S1x8192x128 : Shape := ⟨3, ![1, 8192, 128]⟩
abbrev S1x1x128x8192 : Shape := ⟨4, ![1, 1, 128, 8192]⟩
abbrev S1x1x8x8192 : Shape := ⟨4, ![1, 1, 8, 8192]⟩
abbrev S1x256x1 : Shape := ⟨3, ![1, 256, 1]⟩
abbrev S1x1x8192 : Shape := ⟨3, ![1, 1, 8192]⟩
abbrev S1x1x1x128 : Shape := ⟨4, ![1, 1, 1, 128]⟩
abbrev S1x1x8x256 : Shape := ⟨4, ![1, 1, 8, 256]⟩
abbrev S7x256x128 : Shape := ⟨3, ![7, 256, 128]⟩
abbrev S7x128x256 : Shape := ⟨3, ![7, 128, 256]⟩
abbrev S1x1 : Shape := ⟨2, ![1, 1]⟩
abbrev S256x256 : Shape := ⟨2, ![256, 256]⟩
abbrev S256x1 : Shape := ⟨2, ![256, 1]⟩
abbrev S1x256x128 : Shape := ⟨3, ![1, 256, 128]⟩
abbrev S256x128 : Shape := ⟨2, ![256, 128]⟩
abbrev S1x1x256 : Shape := ⟨3, ![1, 1, 256]⟩
abbrev S1x256 : Shape := ⟨2, ![1, 256]⟩
abbrev S1x1x1x256 : Shape := ⟨4, ![1, 1, 1, 256]⟩
abbrev S256 : Shape := ⟨1, ![256]⟩
abbrev S1x1x128x256 : Shape := ⟨4, ![1, 1, 128, 256]⟩
abbrev S128x256 : Shape := ⟨2, ![128, 256]⟩
abbrev S1x128x256 : Shape := ⟨3, ![1, 128, 256]⟩
abbrev S1x128 : Shape := ⟨2, ![1, 128]⟩
abbrev S8x256 : Shape := ⟨2, ![8, 256]⟩
abbrev S2x8192x8x7 : Shape := ⟨4, ![2, 8192, 8, 7]⟩
abbrev S2x8192x56 : Shape := ⟨3, ![2, 8192, 56]⟩

abbrev nBuf : Space → Nat
  | .hbm => 63
  | .vmem => 21
  | .smem => 2
  | _ => 0

abbrev bufTy : (tb : Table) → Fin (tcTables nBuf tb) → BufTy
  | .hbm, ⟨0, _⟩ => ⟨S2x8192x56x128, .fp8e4m3⟩
  | .hbm, ⟨1, _⟩ => ⟨S2x56, .f32⟩
  | .hbm, ⟨2, _⟩ => ⟨S2x8192x8x128, .fp8e4m3⟩
  | .hbm, ⟨3, _⟩ => ⟨S2x8, .f32⟩
  | .hbm, ⟨4, _⟩ => ⟨S2x8192x8x128, .fp8e4m3⟩
  | .hbm, ⟨5, _⟩ => ⟨S2x8x128, .f32⟩
  | .hbm, ⟨6, _⟩ => ⟨S2x56x8192, .f32⟩
  | .hbm, ⟨7, _⟩ => ⟨S2x8192, .i32⟩
  | .hbm, ⟨8, _⟩ => ⟨S2x8x7x8192, .f32⟩
  | .hbm, ⟨9, _⟩ => ⟨S_, .i32⟩
  | .hbm, ⟨10, _⟩ => ⟨S_, .f32⟩
  | .hbm, ⟨11, _⟩ => ⟨S2x8x8x8192, .f32⟩
  | .hbm, ⟨12, _⟩ => ⟨S2x8x7, .f32⟩
  | .hbm, ⟨13, _⟩ => ⟨S2x8x1, .f32⟩
  | .hbm, ⟨14, _⟩ => ⟨S2x8x7, .f32⟩
  | .hbm, ⟨15, _⟩ => ⟨S2x8x7, .f32⟩
  | .hbm, ⟨16, _⟩ => ⟨S_, .f32⟩
  | .hbm, ⟨17, _⟩ => ⟨S2x8x7, .f32⟩
  | .hbm, ⟨18, _⟩ => ⟨S2x8x7, .f32⟩
  | .hbm, ⟨19, _⟩ => ⟨S_, .f32⟩
  | .hbm, ⟨20, _⟩ => ⟨S_, .f32⟩
  | .hbm, ⟨21, _⟩ => ⟨S2x8x7, .f32⟩
  | .hbm, ⟨22, _⟩ => ⟨S2x8x7, .f32⟩
  | .hbm, ⟨23, _⟩ => ⟨S2x56, .f32⟩
  | .hbm, ⟨24, _⟩ => ⟨S2x32, .i32⟩
  | .hbm, ⟨25, _⟩ => ⟨S2x1x8192, .i32⟩
  | .hbm, ⟨26, _⟩ => ⟨S2x32x1, .i32⟩
  | .hbm, ⟨27, _⟩ => ⟨S2x32x8192, .i32⟩
  | .hbm, ⟨28, _⟩ => ⟨S2x32x8192, .i32⟩
  | .hbm, ⟨29, _⟩ => ⟨S2x32x8192, .i1⟩
  | .hbm, ⟨30, _⟩ => ⟨S2x32x8192, .i32⟩
  | .hbm, ⟨31, _⟩ => ⟨S_, .i1⟩
  | .hbm, ⟨32, _⟩ => ⟨S_, .i32⟩
  | .hbm, ⟨33, _⟩ => ⟨S2x32, .i1⟩
  | .hbm, ⟨34, _⟩ => ⟨S2x32, .i32⟩
  | .hbm, ⟨35, _⟩ => ⟨S_, .i32⟩
  | .hbm, ⟨36, _⟩ => ⟨S_, .i32⟩
  | .hbm, ⟨37, _⟩ => ⟨S2x32, .i32⟩
  | .hbm, ⟨38, _⟩ => ⟨S2x32, .i32⟩
  | .hbm, ⟨39, _⟩ => ⟨S2x32, .i32⟩
  | .hbm, ⟨40, _⟩ => ⟨S_, .i32⟩
  | .hbm, ⟨41, _⟩ => ⟨S2x32, .i32⟩
  | .hbm, ⟨42, _⟩ => ⟨S2x32, .i1⟩
  | .hbm, ⟨43, _⟩ => ⟨S2x32, .i32⟩
  | .hbm, ⟨44, _⟩ => ⟨S2x32, .i32⟩
  | .hbm, ⟨45, _⟩ => ⟨S_, .i32⟩
  | .hbm, ⟨46, _⟩ => ⟨S2x32, .i32⟩
  | .hbm, ⟨47, _⟩ => ⟨S2x32, .i1⟩
  | .hbm, ⟨48, _⟩ => ⟨S2x32, .i1⟩
  | .hbm, ⟨49, _⟩ => ⟨S_, .i32⟩
  | .hbm, ⟨50, _⟩ => ⟨S2x32, .i32⟩
  | .hbm, ⟨51, _⟩ => ⟨S2x32, .i32⟩
  | .hbm, ⟨52, _⟩ => ⟨S2x8192x7168, .fp8e4m3⟩
  | .hbm, ⟨53, _⟩ => ⟨S2x8192x1024, .fp8e4m3⟩
  | .hbm, ⟨54, _⟩ => ⟨S2x8x128x8192, .fp8e4m3⟩
  | .hbm, ⟨55, _⟩ => ⟨S2x8192x1, .i32⟩
  | .hbm, ⟨56, _⟩ => ⟨S2x1x8192, .i32⟩
  | .hbm, ⟨57, _⟩ => ⟨S2x8x1x128, .f32⟩
  | .hbm, ⟨58, _⟩ => ⟨S2x8192x7168, .bf16⟩
  | .hbm, ⟨59, _⟩ => ⟨S2x8x8x8192, .f32⟩
  | .hbm, ⟨60, _⟩ => ⟨S2x8x7x8192, .f32⟩
  | .hbm, ⟨61, _⟩ => ⟨S2x8192x8x7, .f32⟩
  | .hbm, ⟨62, _⟩ => ⟨S2x8192x56, .f32⟩
  | .local _ .vmem, ⟨0, _⟩ => ⟨S1x256x896, .fp8e4m3⟩
  | .local _ .vmem, ⟨1, _⟩ => ⟨S1x256x896, .fp8e4m3⟩
  | .local _ .vmem, ⟨2, _⟩ => ⟨S1x8192x128, .fp8e4m3⟩
  | .local _ .vmem, ⟨3, _⟩ => ⟨S1x8192x128, .fp8e4m3⟩
  | .local _ .vmem, ⟨4, _⟩ => ⟨S1x1x128x8192, .fp8e4m3⟩
  | .local _ .vmem, ⟨5, _⟩ => ⟨S1x1x128x8192, .fp8e4m3⟩
  | .local _ .vmem, ⟨6, _⟩ => ⟨S1x1x8x8192, .f32⟩
  | .local _ .vmem, ⟨7, _⟩ => ⟨S1x1x8x8192, .f32⟩
  | .local _ .vmem, ⟨8, _⟩ => ⟨S1x256x1, .i32⟩
  | .local _ .vmem, ⟨9, _⟩ => ⟨S1x256x1, .i32⟩
  | .local _ .vmem, ⟨10, _⟩ => ⟨S1x1x8192, .i32⟩
  | .local _ .vmem, ⟨11, _⟩ => ⟨S1x1x8192, .i32⟩
  | .local _ .vmem, ⟨12, _⟩ => ⟨S1x1x1x128, .f32⟩
  | .local _ .vmem, ⟨13, _⟩ => ⟨S1x1x1x128, .f32⟩
  | .local _ .vmem, ⟨14, _⟩ => ⟨S1x256x896, .bf16⟩
  | .local _ .vmem, ⟨15, _⟩ => ⟨S1x256x896, .bf16⟩
  | .local _ .vmem, ⟨16, _⟩ => ⟨S1x1x8x256, .f32⟩
  | .local _ .vmem, ⟨17, _⟩ => ⟨S1x1x8x256, .f32⟩
  | .local _ .vmem, ⟨18, _⟩ => ⟨S7x256x128, .f32⟩
  | .local _ .vmem, ⟨19, _⟩ => ⟨S7x256x128, .f32⟩
  | .local _ .vmem, ⟨20, _⟩ => ⟨S7x128x256, .f32⟩
  | .local _ .smem, ⟨0, _⟩ => ⟨S2x32, .i32⟩
  | .local _ .smem, ⟨1, _⟩ => ⟨S2x56, .f32⟩
  | _, _ => ⟨S2x8192x56x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_v0 : Ref sig .tc := ⟨.hbm, 30, rfl⟩
abbrev main_call1_c : Ref sig .tc := ⟨.hbm, 31, rfl⟩
abbrev main_call1_c_0 : Ref sig .tc := ⟨.hbm, 32, rfl⟩
abbrev main_call1_v1_0 : Ref sig .tc := ⟨.hbm, 33, rfl⟩
abbrev main_v18 : Ref sig .tc := ⟨.hbm, 34, rfl⟩
abbrev main_c_1 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26_0 : Ref sig .tc := ⟨.hbm, 58, rfl⟩
abbrev main_v26_1 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v19 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg7_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 8, 32], ![false, false, false]⟩

abbrev pre0 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg2 : BitVec 32 := BitVec.ofNat 32 (i 2).val
  let v1 : Index := Scalar.indexCast arg2
  ![v0.toNat, v1.toNat]
@[reducible] def k0_t1_loop (i : grid0.Coords) (v2 : BitVec 32) : Scf.Loop 32 :=
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_14 : BitVec 32 := 1#32
  ⟨v2, v24, c1_i32_14⟩

def k0_mult1 (i : grid0.Coords) (v2 : BitVec 32) (k0_t1 : Fin (k0_t1_loop i v2).trips) : BitVec 32 :=
  let c1_i32_14 : BitVec 32 := 1#32
  let arg17 : BitVec 32 := Scf.iv v2 c1_i32_14 k0_t1
  let c256_i32_202 : BitVec 32 := 256#32
  let v316 : BitVec 32 := Scalar.muli arg17 c256_i32_202
  v316
def k0_off2 (i : grid0.Coords) (v2 : BitVec 32) (k0_t1 : Fin (k0_t1_loop i v2).trips) : Fin 3 → Nat :=
  let c0_203 : Index := 0#32
  let c1_i32_14 : BitVec 32 := 1#32
  let arg17 : BitVec 32 := Scf.iv v2 c1_i32_14 k0_t1
  let c256_i32_202 : BitVec 32 := 256#32
  let v316 : BitVec 32 := Scalar.muli arg17 c256_i32_202
  let v317 : BitVec 32 := v316
  let v318 : Index := Scalar.indexCast v317
  let c0_204 : Index := 0#32
  ![0, v318.toNat, 0]
def k0_off3 (i : grid0.Coords) (v2 : BitVec 32) (k0_t1 : Fin (k0_t1_loop i v2).trips) : Fin 3 → Nat :=
  let c0_209 : Index := 0#32
  let c0_210 : Index := 0#32
  let c1_i32_14 : BitVec 32 := 1#32
  let arg17 : BitVec 32 := Scf.iv v2 c1_i32_14 k0_t1
  let c256_i32_202 : BitVec 32 := 256#32
  let v316 : BitVec 32 := Scalar.muli arg17 c256_i32_202
  let v317 : BitVec 32 := v316
  let v324 : Index := Scalar.indexCast v317
  ![0, 0, v324.toNat]
def k0_off4 (i : grid0.Coords) (c0_i32_212 : BitVec 32) : Fin 2 → Nat :=
  let arg0 : BitVec 32 := BitVec.ofNat 32 (i 0).val
  let v338 : Index := Scalar.indexCast arg0
  let arg1 : BitVec 32 := BitVec.ofNat 32 (i 1).val
  let c7_i32 : BitVec 32 := 7#32
  let v336 : BitVec 32 := Scalar.muli arg1 c7_i32
  let v337 : BitVec 32 := Scalar.addi v336 c0_i32_212
  let v339 : Index := Scalar.indexCast v337
  ![v338.toNat, v339.toNat]
def k0_off5 (i : grid0.Coords) (v2 : BitVec 32) (k0_t1 : Fin (k0_t1_loop i v2).trips) : Fin 4 → Nat :=
  let c0_213 : Index := 0#32
  let c0_214 : Index := 0#32
  let c0_215 : Index := 0#32
  let c1_i32_14 : BitVec 32 := 1#32
  let arg17 : BitVec 32 := Scf.iv v2 c1_i32_14 k0_t1
  let c256_i32_202 : BitVec 32 := 256#32
  let v316 : BitVec 32 := Scalar.muli arg17 c256_i32_202
  let v317 : BitVec 32 := v316
  let v343 : Index := Scalar.indexCast v317
  ![0, 0, 0, v343.toNat]
def k0_mult2 (i : grid0.Coords) (v2 : BitVec 32) (k0_t1 : Fin (k0_t1_loop i v2).trips) : BitVec 32 :=
  let c1_i32_14 : BitVec 32 := 1#32
  let arg17 : BitVec 32 := Scf.iv v2 c1_i32_14 k0_t1
  let c256_i32_223 : BitVec 32 := 256#32
  let v359 : BitVec 32 := Scalar.muli arg17 c256_i32_223
  v359
def k0_off6 (i : grid0.Coords) (v2 : BitVec 32) (k0_t1 : Fin (k0_t1_loop i v2).trips) : Fin 4 → Nat :=
  let c0_235 : Index := 0#32
  let c0_236 : Index := 0#32
  let c1_237 : Index := 1#32
  let c1_i32_14 : BitVec 32 := 1#32
  let arg17 : BitVec 32 := Scf.iv v2 c1_i32_14 k0_t1
  let c256_i32_223 : BitVec 32 := 256#32
  let v359 : BitVec 32 := Scalar.muli arg17 c256_i32_223
  let v360 : BitVec 32 := v359
  let v386 : Index := Scalar.indexCast v360
  ![0, 0, 1, v386.toNat]
def k0_mult3 (i : grid0.Coords) (v2 : BitVec 32) (k0_t1 : Fin (k0_t1_loop i v2).trips) : BitVec 32 :=
  let c1_i32_14 : BitVec 32 := 1#32
  let arg17 : BitVec 32 := Scf.iv v2 c1_i32_14 k0_t1
  let c256_i32_245 : BitVec 32 := 256#32
  let v402 : BitVec 32 := Scalar.muli arg17 c256_i32_245
  v402
def k0_off7 (i : grid0.Coords) (v2 : BitVec 32) (k0_t1 : Fin (k0_t1_loop i v2).trips) : Fin 4 → Nat :=
  let c0_257 : Index := 0#32
  let c0_258 : Index := 0#32
  let c2_259 : Index := 2#32
  let c1_i32_14 : BitVec 32 := 1#32
  let arg17 : BitVec 32 := Scf.iv v2 c1_i32_14 k0_t1
  let c256_i32_245 : BitVec 32 := 256#32
  let v402 : BitVec 32 := Scalar.muli arg17 c256_i32_245
  let v403 : BitVec 32 := v402
  let v429 : Index := Scalar.indexCast v403
  ![0, 0, 2, v429.toNat]
def k0_mult4 (i : grid0.Coords) (v2 : BitVec 32) (k0_t1 : Fin (k0_t1_loop i v2).trips) : BitVec 32 :=
  let c1_i32_14 : BitVec 32 := 1#32
  let arg17 : BitVec 32 := Scf.iv v2 c1_i32_14 k0_t1
  let c256_i32_267 : BitVec 32 := 256#32
  let v445 : BitVec 32 := Scalar.muli arg17 c256_i32_267
  v445
def k0_off8 (i : grid0.Coords) (v2 : BitVec 32) (k0_t1 : Fin (k0_t1_loop i v2).trips) : Fin 4 → Nat :=
  let c0_279 : Index := 0#32
  let c0_280 : Index := 0#32
  let c3_281 : Index := 3#32
  let c1_i32_14 : BitVec 32 := 1#32
  let arg17 : BitVec 32 := Scf.iv v2 c1_i32_14 k0_t1
  let c256_i32_267 : BitVec 32 := 256#32
  let v445 : BitVec 32 := Scalar.muli arg17 c256_i32_267
  let v446 : BitVec 32 := v445
  let v472 : Index := Scalar.indexCast v446
  ![0, 0, 3, v472.toNat]
def k0_mult5 (i : grid0.Coords) (v2 : BitVec 32) (k0_t1 : Fin (k0_t1_loop i v2).trips) : BitVec 32 :=
  let c1_i32_14 : BitVec 32 := 1#32
  let arg17 : BitVec 32 := Scf.iv v2 c1_i32_14 k0_t1
  let c256_i32_289 : BitVec 32 := 256#32
  let v488 : BitVec 32 := Scalar.muli arg17 c256_i32_289
  v488
def k0_off9 (i : grid0.Coords) (v2 : BitVec 32) (k0_t1 : Fin (k0_t1_loop i v2).trips) : Fin 4 → Nat :=
  let c0_301 : Index := 0#32
  let c0_302 : Index := 0#32
  let c4_303 : Index := 4#32
  let c1_i32_14 : BitVec 32 := 1#32
  let arg17 : BitVec 32 := Scf.iv v2 c1_i32_14 k0_t1
  let c256_i32_289 : BitVec 32 := 256#32
  let v488 : BitVec 32 := Scalar.muli arg17 c256_i32_289
  let v489 : BitVec 32 := v488
  let v515 : Index := Scalar.indexCast v489
  ![0, 0, 4, v515.toNat]
def k0_mult6 (i : grid0.Coords) (v2 : BitVec 32) (k0_t1 : Fin (k0_t1_loop i v2).trips) : BitVec 32 :=
  let c1_i32_14 : BitVec 32 := 1#32
  let arg17 : BitVec 32 := Scf.iv v2 c1_i32_14 k0_t1
  let c256_i32_311 : BitVec 32 := 256#32
  let v531 : BitVec 32 := Scalar.muli arg17 c256_i32_311
  v531
def k0_off10 (i : grid0.Coords) (v2 : BitVec 32) (k0_t1 : Fin (k0_t1_loop i v2).trips) : Fin 4 → Nat :=
  let c0_323 : Index := 0#32
  let c0_324 : Index := 0#32
  let c5_325 : Index := 5#32
  let c1_i32_14 : BitVec 32 := 1#32
  let arg17 : BitVec 32 := Scf.iv v2 c1_i32_14 k0_t1
  let c256_i32_311 : BitVec 32 := 256#32
  let v531 : BitVec 32 := Scalar.muli arg17 c256_i32_311
  let v532 : BitVec 32 := v531
  let v558 : Index := Scalar.indexCast v532
  ![0, 0, 5, v558.toNat]
def k0_mult7 (i : grid0.Coords) (v2 : BitVec 32) (k0_t1 : Fin (k0_t1_loop i v2).trips) : BitVec 32 :=
  let c1_i32_14 : BitVec 32 := 1#32
  let arg17 : BitVec 32 := Scf.iv v2 c1_i32_14 k0_t1
  let c256_i32_333 : BitVec 32 := 256#32
  let v574 : BitVec 32 := Scalar.muli arg17 c256_i32_333
  v574
def k0_off11 (i : grid0.Coords) (v2 : BitVec 32) (k0_t1 : Fin (k0_t1_loop i v2).trips) : Fin 4 → Nat :=
  let c0_345 : Index := 0#32
  let c0_346 : Index := 0#32
  let c6_347 : Index := 6#32
  let c1_i32_14 : BitVec 32 := 1#32
  let arg17 : BitVec 32 := Scf.iv v2 c1_i32_14 k0_t1
  let c256_i32_333 : BitVec 32 := 256#32
  let v574 : BitVec 32 := Scalar.muli arg17 c256_i32_333
  let v575 : BitVec 32 := v574
  let v601 : Index := Scalar.indexCast v575
  ![0, 0, 6, v601.toNat]
@[reducible] def k0_t2_loop (i : grid0.Coords) (v2 : BitVec 32) : Scf.Loop 32 :=
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let v21 : BitVec 32 := Scalar.addi v2 v20
  let c1_i32_15 : BitVec 32 := 1#32
  ⟨v24, v21, c1_i32_15⟩
def k0_mult8 (i : grid0.Coords) (v2 : BitVec 32) (k0_t2 : Fin (k0_t2_loop i v2).trips) : BitVec 32 :=
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_202 : BitVec 32 := 256#32
  let v316 : BitVec 32 := Scalar.muli arg17 c256_i32_202
  v316
def k0_off12 (i : grid0.Coords) (v2 : BitVec 32) (k0_t2 : Fin (k0_t2_loop i v2).trips) : Fin 3 → Nat :=
  let c0_203 : Index := 0#32
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_202 : BitVec 32 := 256#32
  let v316 : BitVec 32 := Scalar.muli arg17 c256_i32_202
  let v317 : BitVec 32 := v316
  let v318 : Index := Scalar.indexCast v317
  let c0_204 : Index := 0#32
  ![0, v318.toNat, 0]
def k0_off13 (i : grid0.Coords) (v2 : BitVec 32) (k0_t2 : Fin (k0_t2_loop i v2).trips) : Fin 3 → Nat :=
  let c0_209 : Index := 0#32
  let c0_210 : Index := 0#32
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_202 : BitVec 32 := 256#32
  let v316 : BitVec 32 := Scalar.muli arg17 c256_i32_202
  let v317 : BitVec 32 := v316
  let v324 : Index := Scalar.indexCast v317
  ![0, 0, v324.toNat]
def k0_off14 (i : grid0.Coords) (c0_i32_212 : BitVec 32) : Fin 2 → Nat :=
  let arg0 : BitVec 32 := BitVec.ofNat 32 (i 0).val
  let v338 : Index := Scalar.indexCast arg0
  let arg1 : BitVec 32 := BitVec.ofNat 32 (i 1).val
  let c7_i32 : BitVec 32 := 7#32
  let v336 : BitVec 32 := Scalar.muli arg1 c7_i32
  let v337 : BitVec 32 := Scalar.addi v336 c0_i32_212
  let v339 : Index := Scalar.indexCast v337
  ![v338.toNat, v339.toNat]
def k0_off15 (i : grid0.Coords) (v2 : BitVec 32) (k0_t2 : Fin (k0_t2_loop i v2).trips) : Fin 4 → Nat :=
  let c0_213 : Index := 0#32
  let c0_214 : Index := 0#32
  let c0_215 : Index := 0#32
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_202 : BitVec 32 := 256#32
  let v316 : BitVec 32 := Scalar.muli arg17 c256_i32_202
  let v317 : BitVec 32 := v316
  let v343 : Index := Scalar.indexCast v317
  ![0, 0, 0, v343.toNat]
def k0_mult9 (i : grid0.Coords) (v2 : BitVec 32) (k0_t2 : Fin (k0_t2_loop i v2).trips) : BitVec 32 :=
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_223 : BitVec 32 := 256#32
  let v359 : BitVec 32 := Scalar.muli arg17 c256_i32_223
  v359
def k0_off16 (i : grid0.Coords) (v2 : BitVec 32) (k0_t2 : Fin (k0_t2_loop i v2).trips) : Fin 4 → Nat :=
  let c0_235 : Index := 0#32
  let c0_236 : Index := 0#32
  let c1_237 : Index := 1#32
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_223 : BitVec 32 := 256#32
  let v359 : BitVec 32 := Scalar.muli arg17 c256_i32_223
  let v360 : BitVec 32 := v359
  let v386 : Index := Scalar.indexCast v360
  ![0, 0, 1, v386.toNat]
def k0_mult10 (i : grid0.Coords) (v2 : BitVec 32) (k0_t2 : Fin (k0_t2_loop i v2).trips) : BitVec 32 :=
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_245 : BitVec 32 := 256#32
  let v402 : BitVec 32 := Scalar.muli arg17 c256_i32_245
  v402
def k0_off17 (i : grid0.Coords) (v2 : BitVec 32) (k0_t2 : Fin (k0_t2_loop i v2).trips) : Fin 4 → Nat :=
  let c0_257 : Index := 0#32
  let c0_258 : Index := 0#32
  let c2_259 : Index := 2#32
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_245 : BitVec 32 := 256#32
  let v402 : BitVec 32 := Scalar.muli arg17 c256_i32_245
  let v403 : BitVec 32 := v402
  let v429 : Index := Scalar.indexCast v403
  ![0, 0, 2, v429.toNat]
def k0_mult11 (i : grid0.Coords) (v2 : BitVec 32) (k0_t2 : Fin (k0_t2_loop i v2).trips) : BitVec 32 :=
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_267 : BitVec 32 := 256#32
  let v445 : BitVec 32 := Scalar.muli arg17 c256_i32_267
  v445
def k0_off18 (i : grid0.Coords) (v2 : BitVec 32) (k0_t2 : Fin (k0_t2_loop i v2).trips) : Fin 4 → Nat :=
  let c0_279 : Index := 0#32
  let c0_280 : Index := 0#32
  let c3_281 : Index := 3#32
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_267 : BitVec 32 := 256#32
  let v445 : BitVec 32 := Scalar.muli arg17 c256_i32_267
  let v446 : BitVec 32 := v445
  let v472 : Index := Scalar.indexCast v446
  ![0, 0, 3, v472.toNat]
def k0_mult12 (i : grid0.Coords) (v2 : BitVec 32) (k0_t2 : Fin (k0_t2_loop i v2).trips) : BitVec 32 :=
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_289 : BitVec 32 := 256#32
  let v488 : BitVec 32 := Scalar.muli arg17 c256_i32_289
  v488
def k0_off19 (i : grid0.Coords) (v2 : BitVec 32) (k0_t2 : Fin (k0_t2_loop i v2).trips) : Fin 4 → Nat :=
  let c0_301 : Index := 0#32
  let c0_302 : Index := 0#32
  let c4_303 : Index := 4#32
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_289 : BitVec 32 := 256#32
  let v488 : BitVec 32 := Scalar.muli arg17 c256_i32_289
  let v489 : BitVec 32 := v488
  let v515 : Index := Scalar.indexCast v489
  ![0, 0, 4, v515.toNat]
def k0_mult13 (i : grid0.Coords) (v2 : BitVec 32) (k0_t2 : Fin (k0_t2_loop i v2).trips) : BitVec 32 :=
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_311 : BitVec 32 := 256#32
  let v531 : BitVec 32 := Scalar.muli arg17 c256_i32_311
  v531
def k0_off20 (i : grid0.Coords) (v2 : BitVec 32) (k0_t2 : Fin (k0_t2_loop i v2).trips) : Fin 4 → Nat :=
  let c0_323 : Index := 0#32
  let c0_324 : Index := 0#32
  let c5_325 : Index := 5#32
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_311 : BitVec 32 := 256#32
  let v531 : BitVec 32 := Scalar.muli arg17 c256_i32_311
  let v532 : BitVec 32 := v531
  let v558 : Index := Scalar.indexCast v532
  ![0, 0, 5, v558.toNat]
def k0_mult14 (i : grid0.Coords) (v2 : BitVec 32) (k0_t2 : Fin (k0_t2_loop i v2).trips) : BitVec 32 :=
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_333 : BitVec 32 := 256#32
  let v574 : BitVec 32 := Scalar.muli arg17 c256_i32_333
  v574
def k0_off21 (i : grid0.Coords) (v2 : BitVec 32) (k0_t2 : Fin (k0_t2_loop i v2).trips) : Fin 4 → Nat :=
  let c0_345 : Index := 0#32
  let c0_346 : Index := 0#32
  let c6_347 : Index := 6#32
  let arg2 : BitVec 32 := BitVec.ofNat 32 (i 2).val
  let c1_i32 : BitVec 32 := 1#32
  let v19 : BitVec 32 := Scalar.addi arg2 c1_i32
  let v20 : BitVec 32 := Scalar.subi v19 v2
  let c1_i32_13 : BitVec 32 := 1#32
  let v22 : BitVec 32 := Scalar.divsi v20 c1_i32_13
  let v23 : BitVec 32 := Scalar.muli v22 c1_i32_13
  let v24 : BitVec 32 := Scalar.addi v2 v23
  let c1_i32_15 : BitVec 32 := 1#32
  let arg17 : BitVec 32 := Scf.iv v24 c1_i32_15 k0_t2
  let c256_i32_333 : BitVec 32 := 256#32
  let v574 : BitVec 32 := Scalar.muli arg17 c256_i32_333
  let v575 : BitVec 32 := v574
  let v601 : Index := Scalar.indexCast v575
  ![0, 0, 6, v601.toNat]
@[reducible] def k0_t3_loop (i : grid0.Coords) (v2 : BitVec 32) : Scf.Loop 32 :=
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_62 : BitVec 32 := 1#32
  ⟨v2, v95, c1_i32_62⟩
def k0_mult15 (i : grid0.Coords) (v2 : BitVec 32) (k0_t3 : Fin (k0_t3_loop i v2).trips) : BitVec 32 :=
  let c1_i32_62 : BitVec 32 := 1#32
  let arg17 : BitVec 32 := Scf.iv v2 c1_i32_62 k0_t3
  let c256_i32_202 : BitVec 32 := 256#32
  let v316 : BitVec 32 := Scalar.muli arg17 c256_i32_202
  v316
def k0_off22 (i : grid0.Coords) (v2 : BitVec 32) (k0_t3 : Fin (k0_t3_loop i v2).trips) : Fin 4 → Nat :=
  let c0_203 : Index := 0#32
  let c0_204 : Index := 0#32
  let c0_205 : Index := 0#32
  let c1_i32_62 : BitVec 32 := 1#32
  let arg17 : BitVec 32 := Scf.iv v2 c1_i32_62 k0_t3
  let c256_i32_202 : BitVec 32 := 256#32
  let v316 : BitVec 32 := Scalar.muli arg17 c256_i32_202
  let v317 : BitVec 32 := v316
  let v318 : Index := Scalar.indexCast v317
  ![0, 0, 0, v318.toNat]
def k0_mult16 (i : grid0.Coords) (v2 : BitVec 32) (k0_t3 : Fin (k0_t3_loop i v2).trips) : BitVec 32 :=
  let c1_i32_62 : BitVec 32 := 1#32
  let arg17 : BitVec 32 := Scf.iv v2 c1_i32_62 k0_t3
  let c256_i32_206 : BitVec 32 := 256#32
  let v322 : BitVec 32 := Scalar.muli arg17 c256_i32_206
  v322
def k0_off23 (i : grid0.Coords) (v2 : BitVec 32) (k0_t3 : Fin (k0_t3_loop i v2).trips) : Fin 3 → Nat :=
  let c0_207 : Index := 0#32
  let c1_i32_62 : BitVec 32 := 1#32
  let arg17 : BitVec 32 := Scf.iv v2 c1_i32_62 k0_t3
  let c256_i32_206 : BitVec 32 := 256#32
  let v322 : BitVec 32 := Scalar.muli arg17 c256_i32_206
  let v323 : BitVec 32 := v322
  let v324 : Index := Scalar.indexCast v323
  let c0_208 : Index := 0#32
  ![0, v324.toNat, 0]
def k0_off24 (i : grid0.Coords) (v2 : BitVec 32) (k0_t3 : Fin (k0_t3_loop i v2).trips) : Fin 3 → Nat :=
  let c0_213 : Index := 0#32
  let c0_214 : Index := 0#32
  let c1_i32_62 : BitVec 32 := 1#32
  let arg17 : BitVec 32 := Scf.iv v2 c1_i32_62 k0_t3
  let c256_i32_206 : BitVec 32 := 256#32
  let v322 : BitVec 32 := Scalar.muli arg17 c256_i32_206
  let v323 : BitVec 32 := v322
  let v330 : Index := Scalar.indexCast v323
  ![0, 0, v330.toNat]
def k0_off25 (i : grid0.Coords) (c0_i32_216 : BitVec 32) : Fin 2 → Nat :=
  let arg0 : BitVec 32 := BitVec.ofNat 32 (i 0).val
  let v344 : Index := Scalar.indexCast arg0
  let arg1 : BitVec 32 := BitVec.ofNat 32 (i 1).val
  let c7_i32 : BitVec 32 := 7#32
  let v342 : BitVec 32 := Scalar.muli arg1 c7_i32
  let v343 : BitVec 32 := Scalar.addi v342 c0_i32_216
  let v345 : Index := Scalar.indexCast v343
  ![v344.toNat, v345.toNat]
def k0_off26 (i : grid0.Coords) (v2 : BitVec 32) (k0_t3 : Fin (k0_t3_loop i v2).trips) : Fin 4 → Nat :=
  let c0_217 : Index := 0#32
  let c0_218 : Index := 0#32
  let c0_219 : Index := 0#32
  let c1_i32_62 : BitVec 32 := 1#32
  let arg17 : BitVec 32 := Scf.iv v2 c1_i32_62 k0_t3
  let c256_i32_206 : BitVec 32 := 256#32
  let v322 : BitVec 32 := Scalar.muli arg17 c256_i32_206
  let v323 : BitVec 32 := v322
  let v349 : Index := Scalar.indexCast v323
  ![0, 0, 0, v349.toNat]
def k0_mult17 (i : grid0.Coords) (v2 : BitVec 32) (k0_t3 : Fin (k0_t3_loop i v2).trips) : BitVec 32 :=
  let c1_i32_62 : BitVec 32 := 1#32
  let arg17 : BitVec 32 := Scf.iv v2 c1_i32_62 k0_t3
  let c256_i32_237 : BitVec 32 := 256#32
  let v378 : BitVec 32 := Scalar.muli arg17 c256_i32_237
  v378
def k0_off27 (i : grid0.Coords) (v2 : BitVec 32) (k0_t3 : Fin (k0_t3_loop i v2).trips) : Fin 4 → Nat :=
  let c0_249 : Index := 0#32
  let c0_250 : Index := 0#32
  let c1_251 : Index := 1#32
  let c1_i32_62 : BitVec 32 := 1#32
  let arg17 : BitVec 32 := Scf.iv v2 c1_i32_62 k0_t3
  let c256_i32_237 : BitVec 32 := 256#32
  let v378 : BitVec 32 := Scalar.muli arg17 c256_i32_237
  let v379 : BitVec 32 := v378
  let v405 : Index := Scalar.indexCast v379
  ![0, 0, 1, v405.toNat]
def k0_mult18 (i : grid0.Coords) (v2 : BitVec 32) (k0_t3 : Fin (k0_t3_loop i v2).trips) : BitVec 32 :=
  let c1_i32_62 : BitVec 32 := 1#32
  let arg17 : BitVec 32 := Scf.iv v2 c1_i32_62 k0_t3
  let c256_i32_269 : BitVec 32 := 256#32
  let v434 : BitVec 32 := Scalar.muli arg17 c256_i32_269
  v434
def k0_off28 (i : grid0.Coords) (v2 : BitVec 32) (k0_t3 : Fin (k0_t3_loop i v2).trips) : Fin 4 → Nat :=
  let c0_281 : Index := 0#32
  let c0_282 : Index := 0#32
  let c2_283 : Index := 2#32
  let c1_i32_62 : BitVec 32 := 1#32
  let arg17 : BitVec 32 := Scf.iv v2 c1_i32_62 k0_t3
  let c256_i32_269 : BitVec 32 := 256#32
  let v434 : BitVec 32 := Scalar.muli arg17 c256_i32_269
  let v435 : BitVec 32 := v434
  let v461 : Index := Scalar.indexCast v435
  ![0, 0, 2, v461.toNat]
def k0_mult19 (i : grid0.Coords) (v2 : BitVec 32) (k0_t3 : Fin (k0_t3_loop i v2).trips) : BitVec 32 :=
  let c1_i32_62 : BitVec 32 := 1#32
  let arg17 : BitVec 32 := Scf.iv v2 c1_i32_62 k0_t3
  let c256_i32_301 : BitVec 32 := 256#32
  let v490 : BitVec 32 := Scalar.muli arg17 c256_i32_301
  v490
def k0_off29 (i : grid0.Coords) (v2 : BitVec 32) (k0_t3 : Fin (k0_t3_loop i v2).trips) : Fin 4 → Nat :=
  let c0_313 : Index := 0#32
  let c0_314 : Index := 0#32
  let c3_315 : Index := 3#32
  let c1_i32_62 : BitVec 32 := 1#32
  let arg17 : BitVec 32 := Scf.iv v2 c1_i32_62 k0_t3
  let c256_i32_301 : BitVec 32 := 256#32
  let v490 : BitVec 32 := Scalar.muli arg17 c256_i32_301
  let v491 : BitVec 32 := v490
  let v517 : Index := Scalar.indexCast v491
  ![0, 0, 3, v517.toNat]
def k0_mult20 (i : grid0.Coords) (v2 : BitVec 32) (k0_t3 : Fin (k0_t3_loop i v2).trips) : BitVec 32 :=
  let c1_i32_62 : BitVec 32 := 1#32
  let arg17 : BitVec 32 := Scf.iv v2 c1_i32_62 k0_t3
  let c256_i32_333 : BitVec 32 := 256#32
  let v546 : BitVec 32 := Scalar.muli arg17 c256_i32_333
  v546
def k0_off30 (i : grid0.Coords) (v2 : BitVec 32) (k0_t3 : Fin (k0_t3_loop i v2).trips) : Fin 4 → Nat :=
  let c0_345 : Index := 0#32
  let c0_346 : Index := 0#32
  let c4_347 : Index := 4#32
  let c1_i32_62 : BitVec 32 := 1#32
  let arg17 : BitVec 32 := Scf.iv v2 c1_i32_62 k0_t3
  let c256_i32_333 : BitVec 32 := 256#32
  let v546 : BitVec 32 := Scalar.muli arg17 c256_i32_333
  let v547 : BitVec 32 := v546
  let v573 : Index := Scalar.indexCast v547
  ![0, 0, 4, v573.toNat]
def k0_mult21 (i : grid0.Coords) (v2 : BitVec 32) (k0_t3 : Fin (k0_t3_loop i v2).trips) : BitVec 32 :=
  let c1_i32_62 : BitVec 32 := 1#32
  let arg17 : BitVec 32 := Scf.iv v2 c1_i32_62 k0_t3
  let c256_i32_365 : BitVec 32 := 256#32
  let v602 : BitVec 32 := Scalar.muli arg17 c256_i32_365
  v602
def k0_off31 (i : grid0.Coords) (v2 : BitVec 32) (k0_t3 : Fin (k0_t3_loop i v2).trips) : Fin 4 → Nat :=
  let c0_377 : Index := 0#32
  let c0_378 : Index := 0#32
  let c5_379 : Index := 5#32
  let c1_i32_62 : BitVec 32 := 1#32
  let arg17 : BitVec 32 := Scf.iv v2 c1_i32_62 k0_t3
  let c256_i32_365 : BitVec 32 := 256#32
  let v602 : BitVec 32 := Scalar.muli arg17 c256_i32_365
  let v603 : BitVec 32 := v602
  let v629 : Index := Scalar.indexCast v603
  ![0, 0, 5, v629.toNat]
def k0_mult22 (i : grid0.Coords) (v2 : BitVec 32) (k0_t3 : Fin (k0_t3_loop i v2).trips) : BitVec 32 :=
  let c1_i32_62 : BitVec 32 := 1#32
  let arg17 : BitVec 32 := Scf.iv v2 c1_i32_62 k0_t3
  let c256_i32_397 : BitVec 32 := 256#32
  let v658 : BitVec 32 := Scalar.muli arg17 c256_i32_397
  v658
def k0_off32 (i : grid0.Coords) (v2 : BitVec 32) (k0_t3 : Fin (k0_t3_loop i v2).trips) : Fin 4 → Nat :=
  let c0_409 : Index := 0#32
  let c0_410 : Index := 0#32
  let c6_411 : Index := 6#32
  let c1_i32_62 : BitVec 32 := 1#32
  let arg17 : BitVec 32 := Scf.iv v2 c1_i32_62 k0_t3
  let c256_i32_397 : BitVec 32 := 256#32
  let v658 : BitVec 32 := Scalar.muli arg17 c256_i32_397
  let v659 : BitVec 32 := v658
  let v685 : Index := Scalar.indexCast v659
  ![0, 0, 6, v685.toNat]
@[reducible] def k0_t4_loop (i : grid0.Coords) (v2 : BitVec 32) : Scf.Loop 32 :=
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let v92 : BitVec 32 := Scalar.addi v2 v91
  let c1_i32_63 : BitVec 32 := 1#32
  ⟨v95, v92, c1_i32_63⟩
def k0_mult23 (i : grid0.Coords) (v2 : BitVec 32) (k0_t4 : Fin (k0_t4_loop i v2).trips) : BitVec 32 :=
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_202 : BitVec 32 := 256#32
  let v316 : BitVec 32 := Scalar.muli arg17 c256_i32_202
  v316
def k0_off33 (i : grid0.Coords) (v2 : BitVec 32) (k0_t4 : Fin (k0_t4_loop i v2).trips) : Fin 4 → Nat :=
  let c0_203 : Index := 0#32
  let c0_204 : Index := 0#32
  let c0_205 : Index := 0#32
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_202 : BitVec 32 := 256#32
  let v316 : BitVec 32 := Scalar.muli arg17 c256_i32_202
  let v317 : BitVec 32 := v316
  let v318 : Index := Scalar.indexCast v317
  ![0, 0, 0, v318.toNat]
def k0_mult24 (i : grid0.Coords) (v2 : BitVec 32) (k0_t4 : Fin (k0_t4_loop i v2).trips) : BitVec 32 :=
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_206 : BitVec 32 := 256#32
  let v322 : BitVec 32 := Scalar.muli arg17 c256_i32_206
  v322
def k0_off34 (i : grid0.Coords) (v2 : BitVec 32) (k0_t4 : Fin (k0_t4_loop i v2).trips) : Fin 3 → Nat :=
  let c0_207 : Index := 0#32
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_206 : BitVec 32 := 256#32
  let v322 : BitVec 32 := Scalar.muli arg17 c256_i32_206
  let v323 : BitVec 32 := v322
  let v324 : Index := Scalar.indexCast v323
  let c0_208 : Index := 0#32
  ![0, v324.toNat, 0]
def k0_off35 (i : grid0.Coords) (v2 : BitVec 32) (k0_t4 : Fin (k0_t4_loop i v2).trips) : Fin 3 → Nat :=
  let c0_213 : Index := 0#32
  let c0_214 : Index := 0#32
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_206 : BitVec 32 := 256#32
  let v322 : BitVec 32 := Scalar.muli arg17 c256_i32_206
  let v323 : BitVec 32 := v322
  let v330 : Index := Scalar.indexCast v323
  ![0, 0, v330.toNat]
def k0_off36 (i : grid0.Coords) (c0_i32_216 : BitVec 32) : Fin 2 → Nat :=
  let arg0 : BitVec 32 := BitVec.ofNat 32 (i 0).val
  let v344 : Index := Scalar.indexCast arg0
  let arg1 : BitVec 32 := BitVec.ofNat 32 (i 1).val
  let c7_i32 : BitVec 32 := 7#32
  let v342 : BitVec 32 := Scalar.muli arg1 c7_i32
  let v343 : BitVec 32 := Scalar.addi v342 c0_i32_216
  let v345 : Index := Scalar.indexCast v343
  ![v344.toNat, v345.toNat]
def k0_off37 (i : grid0.Coords) (v2 : BitVec 32) (k0_t4 : Fin (k0_t4_loop i v2).trips) : Fin 4 → Nat :=
  let c0_217 : Index := 0#32
  let c0_218 : Index := 0#32
  let c0_219 : Index := 0#32
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_206 : BitVec 32 := 256#32
  let v322 : BitVec 32 := Scalar.muli arg17 c256_i32_206
  let v323 : BitVec 32 := v322
  let v349 : Index := Scalar.indexCast v323
  ![0, 0, 0, v349.toNat]
def k0_mult25 (i : grid0.Coords) (v2 : BitVec 32) (k0_t4 : Fin (k0_t4_loop i v2).trips) : BitVec 32 :=
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_237 : BitVec 32 := 256#32
  let v378 : BitVec 32 := Scalar.muli arg17 c256_i32_237
  v378
def k0_off38 (i : grid0.Coords) (v2 : BitVec 32) (k0_t4 : Fin (k0_t4_loop i v2).trips) : Fin 4 → Nat :=
  let c0_249 : Index := 0#32
  let c0_250 : Index := 0#32
  let c1_251 : Index := 1#32
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_237 : BitVec 32 := 256#32
  let v378 : BitVec 32 := Scalar.muli arg17 c256_i32_237
  let v379 : BitVec 32 := v378
  let v405 : Index := Scalar.indexCast v379
  ![0, 0, 1, v405.toNat]
def k0_mult26 (i : grid0.Coords) (v2 : BitVec 32) (k0_t4 : Fin (k0_t4_loop i v2).trips) : BitVec 32 :=
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_269 : BitVec 32 := 256#32
  let v434 : BitVec 32 := Scalar.muli arg17 c256_i32_269
  v434
def k0_off39 (i : grid0.Coords) (v2 : BitVec 32) (k0_t4 : Fin (k0_t4_loop i v2).trips) : Fin 4 → Nat :=
  let c0_281 : Index := 0#32
  let c0_282 : Index := 0#32
  let c2_283 : Index := 2#32
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_269 : BitVec 32 := 256#32
  let v434 : BitVec 32 := Scalar.muli arg17 c256_i32_269
  let v435 : BitVec 32 := v434
  let v461 : Index := Scalar.indexCast v435
  ![0, 0, 2, v461.toNat]
def k0_mult27 (i : grid0.Coords) (v2 : BitVec 32) (k0_t4 : Fin (k0_t4_loop i v2).trips) : BitVec 32 :=
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_301 : BitVec 32 := 256#32
  let v490 : BitVec 32 := Scalar.muli arg17 c256_i32_301
  v490
def k0_off40 (i : grid0.Coords) (v2 : BitVec 32) (k0_t4 : Fin (k0_t4_loop i v2).trips) : Fin 4 → Nat :=
  let c0_313 : Index := 0#32
  let c0_314 : Index := 0#32
  let c3_315 : Index := 3#32
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_301 : BitVec 32 := 256#32
  let v490 : BitVec 32 := Scalar.muli arg17 c256_i32_301
  let v491 : BitVec 32 := v490
  let v517 : Index := Scalar.indexCast v491
  ![0, 0, 3, v517.toNat]
def k0_mult28 (i : grid0.Coords) (v2 : BitVec 32) (k0_t4 : Fin (k0_t4_loop i v2).trips) : BitVec 32 :=
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_333 : BitVec 32 := 256#32
  let v546 : BitVec 32 := Scalar.muli arg17 c256_i32_333
  v546
def k0_off41 (i : grid0.Coords) (v2 : BitVec 32) (k0_t4 : Fin (k0_t4_loop i v2).trips) : Fin 4 → Nat :=
  let c0_345 : Index := 0#32
  let c0_346 : Index := 0#32
  let c4_347 : Index := 4#32
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_333 : BitVec 32 := 256#32
  let v546 : BitVec 32 := Scalar.muli arg17 c256_i32_333
  let v547 : BitVec 32 := v546
  let v573 : Index := Scalar.indexCast v547
  ![0, 0, 4, v573.toNat]
def k0_mult29 (i : grid0.Coords) (v2 : BitVec 32) (k0_t4 : Fin (k0_t4_loop i v2).trips) : BitVec 32 :=
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_365 : BitVec 32 := 256#32
  let v602 : BitVec 32 := Scalar.muli arg17 c256_i32_365
  v602
def k0_off42 (i : grid0.Coords) (v2 : BitVec 32) (k0_t4 : Fin (k0_t4_loop i v2).trips) : Fin 4 → Nat :=
  let c0_377 : Index := 0#32
  let c0_378 : Index := 0#32
  let c5_379 : Index := 5#32
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_365 : BitVec 32 := 256#32
  let v602 : BitVec 32 := Scalar.muli arg17 c256_i32_365
  let v603 : BitVec 32 := v602
  let v629 : Index := Scalar.indexCast v603
  ![0, 0, 5, v629.toNat]
def k0_mult30 (i : grid0.Coords) (v2 : BitVec 32) (k0_t4 : Fin (k0_t4_loop i v2).trips) : BitVec 32 :=
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_397 : BitVec 32 := 256#32
  let v658 : BitVec 32 := Scalar.muli arg17 c256_i32_397
  v658
def k0_off43 (i : grid0.Coords) (v2 : BitVec 32) (k0_t4 : Fin (k0_t4_loop i v2).trips) : Fin 4 → Nat :=
  let c0_409 : Index := 0#32
  let c0_410 : Index := 0#32
  let c6_411 : Index := 6#32
  let arg2 : BitVec 32 := BitVec.ofNat 32 (i 2).val
  let c1_i32_59 : BitVec 32 := 1#32
  let v90 : BitVec 32 := Scalar.addi arg2 c1_i32_59
  let v91 : BitVec 32 := Scalar.subi v90 v2
  let c1_i32_61 : BitVec 32 := 1#32
  let v93 : BitVec 32 := Scalar.divsi v91 c1_i32_61
  let v94 : BitVec 32 := Scalar.muli v93 c1_i32_61
  let v95 : BitVec 32 := Scalar.addi v2 v94
  let c1_i32_63 : BitVec 32 := 1#32
  let arg17 : BitVec 32 := Scf.iv v95 c1_i32_63 k0_t4
  let c256_i32_397 : BitVec 32 := 256#32
  let v658 : BitVec 32 := Scalar.muli arg17 c256_i32_397
  let v659 : BitVec 32 := v658
  let v685 : Index := Scalar.indexCast v659
  ![0, 0, 6, v685.toNat]

def k0_chk1_0 (i : grid0.Coords) (v2 : BitVec 32) : Prop :=
  ((k0_t1_loop i v2).OK) ∧
  (∀ k0_t1 : Fin (k0_t1_loop i v2).trips, 256 ∣ (k0_mult1 i v2 k0_t1).toNat) ∧
  (∀ k0_t1 : Fin (k0_t1_loop i v2).trips, ∀ a, (k0_off2 i v2 k0_t1) a + S1x256x128.size a ≤ S1x8192x128.size a) ∧
  (∀ k0_t1 : Fin (k0_t1_loop i v2).trips, ∀ a, (k0_off3 i v2 k0_t1) a + S1x1x256.size a ≤ S1x1x8192.size a) ∧
  (∀ k0_t1 : Fin (k0_t1_loop i v2).trips, ∀ a, (k0_off5 i v2 k0_t1) a + S1x1x1x256.size a ≤ S1x1x8x8192.size a) ∧
  (∀ k0_t1 : Fin (k0_t1_loop i v2).trips, 256 ∣ (k0_mult2 i v2 k0_t1).toNat) ∧
  (∀ k0_t1 : Fin (k0_t1_loop i v2).trips, ∀ a, (k0_off6 i v2 k0_t1) a + S1x1x1x256.size a ≤ S1x1x8x8192.size a) ∧
  (∀ k0_t1 : Fin (k0_t1_loop i v2).trips, 256 ∣ (k0_mult3 i v2 k0_t1).toNat) ∧
  (∀ k0_t1 : Fin (k0_t1_loop i v2).trips, ∀ a, (k0_off7 i v2 k0_t1) a + S1x1x1x256.size a ≤ S1x1x8x8192.size a) ∧
  (∀ k0_t1 : Fin (k0_t1_loop i v2).trips, 256 ∣ (k0_mult4 i v2 k0_t1).toNat) ∧
  (∀ k0_t1 : Fin (k0_t1_loop i v2).trips, ∀ a, (k0_off8 i v2 k0_t1) a + S1x1x1x256.size a ≤ S1x1x8x8192.size a) ∧
  (∀ k0_t1 : Fin (k0_t1_loop i v2).trips, 256 ∣ (k0_mult5 i v2 k0_t1).toNat) ∧
  (∀ k0_t1 : Fin (k0_t1_loop i v2).trips, ∀ a, (k0_off9 i v2 k0_t1) a + S1x1x1x256.size a ≤ S1x1x8x8192.size a) ∧
  (∀ k0_t1 : Fin (k0_t1_loop i v2).trips, 256 ∣ (k0_mult6 i v2 k0_t1).toNat) ∧
  (∀ k0_t1 : Fin (k0_t1_loop i v2).trips, ∀ a, (k0_off10 i v2 k0_t1) a + S1x1x1x256.size a ≤ S1x1x8x8192.size a) ∧
  (∀ k0_t1 : Fin (k0_t1_loop i v2).trips, 256 ∣ (k0_mult7 i v2 k0_t1).toNat) ∧
  (∀ k0_t1 : Fin (k0_t1_loop i v2).trips, ∀ a, (k0_off11 i v2 k0_t1) a + S1x1x1x256.size a ≤ S1x1x8x8192.size a) ∧
  ((k0_t2_loop i v2).OK) ∧
  (∀ k0_t2 : Fin (k0_t2_loop i v2).trips, 256 ∣ (k0_mult8 i v2 k0_t2).toNat) ∧
  (∀ k0_t2 : Fin (k0_t2_loop i v2).trips, ∀ a, (k0_off12 i v2 k0_t2) a + S1x256x128.size a ≤ S1x8192x128.size a) ∧
  (∀ k0_t2 : Fin (k0_t2_loop i v2).trips, ∀ a, (k0_off13 i v2 k0_t2) a + S1x1x256.size a ≤ S1x1x8192.size a) ∧
  (∀ k0_t2 : Fin (k0_t2_loop i v2).trips, ∀ a, (k0_off15 i v2 k0_t2) a + S1x1x1x256.size a ≤ S1x1x8x8192.size a) ∧
  (∀ k0_t2 : Fin (k0_t2_loop i v2).trips, 256 ∣ (k0_mult9 i v2 k0_t2).toNat) ∧
  (∀ k0_t2 : Fin (k0_t2_loop i v2).trips, ∀ a, (k0_off16 i v2 k0_t2) a + S1x1x1x256.size a ≤ S1x1x8x8192.size a) ∧
  (∀ k0_t2 : Fin (k0_t2_loop i v2).trips, 256 ∣ (k0_mult10 i v2 k0_t2).toNat) ∧
  (∀ k0_t2 : Fin (k0_t2_loop i v2).trips, ∀ a, (k0_off17 i v2 k0_t2) a + S1x1x1x256.size a ≤ S1x1x8x8192.size a) ∧
  (∀ k0_t2 : Fin (k0_t2_loop i v2).trips, 256 ∣ (k0_mult11 i v2 k0_t2).toNat) ∧
  (∀ k0_t2 : Fin (k0_t2_loop i v2).trips, ∀ a, (k0_off18 i v2 k0_t2) a + S1x1x1x256.size a ≤ S1x1x8x8192.size a) ∧
  (∀ k0_t2 : Fin (k0_t2_loop i v2).trips, 256 ∣ (k0_mult12 i v2 k0_t2).toNat) ∧
  (∀ k0_t2 : Fin (k0_t2_loop i v2).trips, ∀ a, (k0_off19 i v2 k0_t2) a + S1x1x1x256.size a ≤ S1x1x8x8192.size a) ∧
  (∀ k0_t2 : Fin (k0_t2_loop i v2).trips, 256 ∣ (k0_mult13 i v2 k0_t2).toNat) ∧
  (∀ k0_t2 : Fin (k0_t2_loop i v2).trips, ∀ a, (k0_off20 i v2 k0_t2) a + S1x1x1x256.size a ≤ S1x1x8x8192.size a)
def k0_chk1_1 (i : grid0.Coords) (v2 : BitVec 32) : Prop :=
  (∀ k0_t2 : Fin (k0_t2_loop i v2).trips, 256 ∣ (k0_mult14 i v2 k0_t2).toNat) ∧
  (∀ k0_t2 : Fin (k0_t2_loop i v2).trips, ∀ a, (k0_off21 i v2 k0_t2) a + S1x1x1x256.size a ≤ S1x1x8x8192.size a) ∧
  ((k0_t3_loop i v2).OK) ∧
  (∀ k0_t3 : Fin (k0_t3_loop i v2).trips, 256 ∣ (k0_mult15 i v2 k0_t3).toNat) ∧
  (∀ k0_t3 : Fin (k0_t3_loop i v2).trips, ∀ a, (k0_off22 i v2 k0_t3) a + S1x1x128x256.size a ≤ S1x1x128x8192.size a) ∧
  (∀ k0_t3 : Fin (k0_t3_loop i v2).trips, 256 ∣ (k0_mult16 i v2 k0_t3).toNat) ∧
  (∀ k0_t3 : Fin (k0_t3_loop i v2).trips, ∀ a, (k0_off23 i v2 k0_t3) a + S1x256x128.size a ≤ S1x8192x128.size a) ∧
  (∀ k0_t3 : Fin (k0_t3_loop i v2).trips, ∀ a, (k0_off24 i v2 k0_t3) a + S1x1x256.size a ≤ S1x1x8192.size a) ∧
  (∀ k0_t3 : Fin (k0_t3_loop i v2).trips, ∀ a, (k0_off26 i v2 k0_t3) a + S1x1x1x256.size a ≤ S1x1x8x8192.size a) ∧
  (∀ k0_t3 : Fin (k0_t3_loop i v2).trips, 256 ∣ (k0_mult17 i v2 k0_t3).toNat) ∧
  (∀ k0_t3 : Fin (k0_t3_loop i v2).trips, ∀ a, (k0_off27 i v2 k0_t3) a + S1x1x1x256.size a ≤ S1x1x8x8192.size a) ∧
  (∀ k0_t3 : Fin (k0_t3_loop i v2).trips, 256 ∣ (k0_mult18 i v2 k0_t3).toNat) ∧
  (∀ k0_t3 : Fin (k0_t3_loop i v2).trips, ∀ a, (k0_off28 i v2 k0_t3) a + S1x1x1x256.size a ≤ S1x1x8x8192.size a) ∧
  (∀ k0_t3 : Fin (k0_t3_loop i v2).trips, 256 ∣ (k0_mult19 i v2 k0_t3).toNat) ∧
  (∀ k0_t3 : Fin (k0_t3_loop i v2).trips, ∀ a, (k0_off29 i v2 k0_t3) a + S1x1x1x256.size a ≤ S1x1x8x8192.size a) ∧
  (∀ k0_t3 : Fin (k0_t3_loop i v2).trips, 256 ∣ (k0_mult20 i v2 k0_t3).toNat) ∧
  (∀ k0_t3 : Fin (k0_t3_loop i v2).trips, ∀ a, (k0_off30 i v2 k0_t3) a + S1x1x1x256.size a ≤ S1x1x8x8192.size a) ∧
  (∀ k0_t3 : Fin (k0_t3_loop i v2).trips, 256 ∣ (k0_mult21 i v2 k0_t3).toNat) ∧
  (∀ k0_t3 : Fin (k0_t3_loop i v2).trips, ∀ a, (k0_off31 i v2 k0_t3) a + S1x1x1x256.size a ≤ S1x1x8x8192.size a) ∧
  (∀ k0_t3 : Fin (k0_t3_loop i v2).trips, 256 ∣ (k0_mult22 i v2 k0_t3).toNat) ∧
  (∀ k0_t3 : Fin (k0_t3_loop i v2).trips, ∀ a, (k0_off32 i v2 k0_t3) a + S1x1x1x256.size a ≤ S1x1x8x8192.size a) ∧
  ((k0_t4_loop i v2).OK) ∧
  (∀ k0_t4 : Fin (k0_t4_loop i v2).trips, 256 ∣ (k0_mult23 i v2 k0_t4).toNat) ∧
  (∀ k0_t4 : Fin (k0_t4_loop i v2).trips, ∀ a, (k0_off33 i v2 k0_t4) a + S1x1x128x256.size a ≤ S1x1x128x8192.size a) ∧
  (∀ k0_t4 : Fin (k0_t4_loop i v2).trips, 256 ∣ (k0_mult24 i v2 k0_t4).toNat) ∧
  (∀ k0_t4 : Fin (k0_t4_loop i v2).trips, ∀ a, (k0_off34 i v2 k0_t4) a + S1x256x128.size a ≤ S1x8192x128.size a) ∧
  (∀ k0_t4 : Fin (k0_t4_loop i v2).trips, ∀ a, (k0_off35 i v2 k0_t4) a + S1x1x256.size a ≤ S1x1x8192.size a) ∧
  (∀ k0_t4 : Fin (k0_t4_loop i v2).trips, ∀ a, (k0_off37 i v2 k0_t4) a + S1x1x1x256.size a ≤ S1x1x8x8192.size a) ∧
  (∀ k0_t4 : Fin (k0_t4_loop i v2).trips, 256 ∣ (k0_mult25 i v2 k0_t4).toNat) ∧
  (∀ k0_t4 : Fin (k0_t4_loop i v2).trips, ∀ a, (k0_off38 i v2 k0_t4) a + S1x1x1x256.size a ≤ S1x1x8x8192.size a) ∧
  (∀ k0_t4 : Fin (k0_t4_loop i v2).trips, 256 ∣ (k0_mult26 i v2 k0_t4).toNat) ∧
  (∀ k0_t4 : Fin (k0_t4_loop i v2).trips, ∀ a, (k0_off39 i v2 k0_t4) a + S1x1x1x256.size a ≤ S1x1x8x8192.size a)
def k0_chk1_2 (i : grid0.Coords) (v2 : BitVec 32) : Prop :=
  (∀ k0_t4 : Fin (k0_t4_loop i v2).trips, 256 ∣ (k0_mult27 i v2 k0_t4).toNat) ∧
  (∀ k0_t4 : Fin (k0_t4_loop i v2).trips, ∀ a, (k0_off40 i v2 k0_t4) a + S1x1x1x256.size a ≤ S1x1x8x8192.size a) ∧
  (∀ k0_t4 : Fin (k0_t4_loop i v2).trips, 256 ∣ (k0_mult28 i v2 k0_t4).toNat) ∧
  (∀ k0_t4 : Fin (k0_t4_loop i v2).trips, ∀ a, (k0_off41 i v2 k0_t4) a + S1x1x1x256.size a ≤ S1x1x8x8192.size a) ∧
  (∀ k0_t4 : Fin (k0_t4_loop i v2).trips, 256 ∣ (k0_mult29 i v2 k0_t4).toNat) ∧
  (∀ k0_t4 : Fin (k0_t4_loop i v2).trips, ∀ a, (k0_off42 i v2 k0_t4) a + S1x1x1x256.size a ≤ S1x1x8x8192.size a) ∧
  (∀ k0_t4 : Fin (k0_t4_loop i v2).trips, 256 ∣ (k0_mult30 i v2 k0_t4).toNat) ∧
  (∀ k0_t4 : Fin (k0_t4_loop i v2).trips, ∀ a, (k0_off43 i v2 k0_t4) a + S1x1x1x256.size a ≤ S1x1x8x8192.size a)
def k0_chk1 (i : grid0.Coords) (v2 : BitVec 32) : Prop :=
  k0_chk1_0 i v2 ∧
  k0_chk1_1 i v2 ∧
  k0_chk1_2 i v2
theorem k0_t1_ok : ∀ (i : grid0.Coords) (v2 : BitVec 32) (k0_hw1 : k0_chk1 i v2), (k0_t1_loop i v2).OK := fun i v2 k0_hw1 => k0_hw1.1.1
theorem k0_mult1_dvd : ∀ (i : grid0.Coords) (v2 : BitVec 32) (k0_hw1 : k0_chk1 i v2) (k0_t1 : Fin (k0_t1_loop i v2).trips), 256 ∣ (k0_mult1 i v2 k0_t1).toNat := fun i v2 k0_hw1 k0_t1 => k0_hw1.1.2.1 k0_t1
theorem k0_off2_inb : ∀ (i : grid0.Coords) (v2 : BitVec 32) (k0_hw1 : k0_chk1 i v2) (k0_t1 : Fin (k0_t1_loop i v2).trips), ∀ a, (k0_off2 i v2 k0_t1) a + S1x256x128.size a ≤ S1x8192x128.size a := fun i v2 k0_hw1 k0_t1 => k0_hw1.1.2.2.1 k0_t1
theorem k0_off3_inb : ∀ (i : grid0.Coords) (v2 : BitVec 32) (k0_hw1 : k0_chk1 i v2) (k0_t1 : Fin (k0_t1_loop i v2).trips), ∀ a, (k0_off3 i v2 k0_t1) a + S1x1x256.size a ≤ S1x1x8192.size a := fun i v2 k0_hw1 k0_t1 => k0_hw1.1.2.2.2.1 k0_t1
theorem k0_off5_inb : ∀ (i : grid0.Coords) (v2 : BitVec 32) (k0_hw1 : k0_chk1 i v2) (k0_t1 : Fin (k0_t1_loop i v2).trips), ∀ a, (k0_off5 i v2 k0_t1) a + S1x1x1x256.size a ≤ S1x1x8x8192.size a := fun i v2 k0_hw1 k0_t1 => k0_hw1.1.2.2.2.2.1 k0_t1
theorem k0_mult2_dvd : ∀ (i : grid0.Coords) (v2 : BitVec 32) (k0_hw1 : k0_chk1 i v2) (k0_t1 : Fin (k0_t1_loop i v2).trips), 256 ∣ (k0_mult2 i v2 k0_t1).toNat := fun i v2 k0_hw1 k0_t1 => k0_hw1.1.2.2.2.2.2.1 k0_t1
theorem k0_off6_inb : ∀ (i : grid0.Coords) (v2 : BitVec 32) (k0_hw1 : k0_chk1 i v2) (k0_t1 : Fin (k0_t1_loop i v2).trips), ∀ a, (k0_off6 i v2 k0_t1) a + S1x1x1x256.size a ≤ S1x1x8x8192.size a := fun i v2 k0_hw1 k0_t1 => k0_hw1.1.2.2.2.2.2.2.1 k0_t1
theorem k0_mult3_dvd : ∀ (i : grid0.Coords) (v2 : BitVec 32) (k0_hw1 : k0_chk1 i v2) (k0_t1 : Fin (k0_t1_loop i v2).trips), 256 ∣ (k0_mult3 i v2 k0_t1).toNat := fun i v2 k0_hw1 k0_t1 => k0_hw1.1.2.2.2.2.2.2.2.1 k0_t1
theorem k0_off7_inb : ∀ (i : grid0.Coords) (v2 : BitVec 32) (k0_hw1 : k0_chk1 i v2) (k0_t1 : Fin (k0_t1_loop i v2).trips), ∀ a, (k0_off7 i v2 k0_t1) a + S1x1x1x256.size a ≤ S1x1x8x8192.size a := fun i v2 k0_hw1 k0_t1 => k0_hw1.1.2.2.2.2.2.2.2.2.1 k0_t1
theorem k0_mult4_dvd : ∀ (i : grid0.Coords) (v2 : BitVec 32) (k0_hw1 : k0_chk1 i v2) (k0_t1 : Fin (k0_t1_loop i v2).trips), 256 ∣ (k0_mult4 i v2 k0_t1).toNat := fun i v2 k0_hw1 k0_t1 => k0_hw1.1.2.2.2.2.2.2.2.2.2.1 k0_t1
theorem k0_off8_inb : ∀ (i : grid0.Coords) (v2 : BitVec 32) (k0_hw1 : k0_chk1 i v2) (k0_t1 : Fin (k0_t1_loop i v2).trips), ∀ a, (k0_off8 i v2 k0_t1) a + S1x1x1x256.size a ≤ S1x1x8x8192.size a := fun i v2 k0_hw1 k0_t1 => k0_hw1.1.2.2.2.2.2.2.2.2.2.2.1 k0_t1
theorem k0_mult5_dvd : ∀ (i : grid0.Coords) (v2 : BitVec 32) (k0_hw1 : k0_chk1 i v2) (k0_t1 : Fin (k0_t1_loop i v2).trips), 256 ∣ (k0_mult5 i v2 k0_t1).toNat := fun i v2 k0_hw1 k0_t1 => k0_hw1.1.2.2.2.2.2.2.2.2.2.2.2.1 k0_t1
theorem k0_off9_inb : ∀ (i : grid0.Coords) (v2 : BitVec 32) (k0_hw1 : k0_chk1 i v2) (k0_t1 : Fin (k0_t1_loop i v2).trips), ∀ a, (k0_off9 i v2 k0_t1) a + S1x1x1x256.size a ≤ S1x1x8x8192.size a := fun i v2 k0_hw1 k0_t1 => k0_hw1.1.2.2.2.2.2.2.2.2.2.2.2.2.1 k0_t1
theorem k0_mult6_dvd : ∀ (i : grid0.Coords) (v2 : BitVec 32) (k0_hw1 : k0_chk1 i v2) (k0_t1 : Fin (k0_t1_loop i v2).trips), 256 ∣ (k0_mult6 i v2 k0_t1).toNat := fun i v2 k0_hw1 k0_t1 => k0_hw1.1.2.2.2.2.2.2.2.2.2.2.2.2.2.1 k0_t1
theorem k0_off10_inb : ∀ (i : grid0.Coords) (v2 : BitVec 32) (k0_hw1 : k0_chk1 i v2) (k0_t1 : Fin (k0_t1_loop i v2).trips), ∀ a, (k0_off10 i v2 k0_t1) a + S1x1x1x256.size a ≤ S1x1x8x8192.size a := fun i v2 k0_hw1 k0_t1 => k0_hw1.1.2.2.2.2.2.2.2.2.2.2.2.2.2.2.1 k0_t1
theorem k0_mult7_dvd : ∀ (i : grid0.Coords) (v2 : BitVec 32) (k0_hw1 : k0_chk1 i v2) (k0_t1 : Fin (k0_t1_loop i v2).trips), 256 ∣ (k0_mult7 i v2 k0_t1).toNat := fun i v2 k0_hw1 k0_t1 => k0_hw1.1.2.2.2.2.2.2.2.2.2.2.2.2.2.2.2.1 k0_t1
theorem k0_off11_inb : ∀ (i : grid0.Coords) (v2 : BitVec 32) (k0_hw1 : k0_chk1 i v2) (k0_t1 : Fin (k0_t1_loop i v2).trips), ∀ a, (k0_off11 i v2 k0_t1) a + S1x1x1x256.size a ≤ S1x1x8x8192.size a := fun i v2 k0_hw1 k0_t1 => k0_hw1.1.2.2.2.2.2.2.2.2.2.2.2.2.2.2.2.2.1 k0_t1
theorem k0_t2_ok : ∀ (i : grid0.Coords) (v2 : BitVec 32) (k0_hw1 : k0_chk1 i v2), (k0_t2_loop i v2).OK := fun i v2 k0_hw1 => k0_hw1.1.2.2.2.2.2.2.2.2.2.2.2.2.2.2.2.2.2.1
theorem k0_mult8_dvd : ∀ (i : grid0.Coords) (v2 : BitVec 32) (k0_hw1 : k0_chk1 i v2) (k0_t2 : Fin (k0_t2_loop i v2).trips), 256 ∣ (k0_mult8 i v2 k0_t2).toNat := fun i v2 k0_hw1 k0_t2 => k0_hw1.1.2.2.2.2.2.2.2.2.2.2.2.2.2.2.2.2.2.2.1 k0_t2
theorem k0_off12_inb : ∀ (i : grid0.Coords) (v2 : BitVec 32) (k0_hw1 : k0_chk1 i v2) (k0_t2 : Fin (k0_t2_loop i v2).trips), ∀ a, (k0_off12 i v2 k0_t2) a + S1x256x128.size a ≤ S1x8192x128.size a := fun i v2 k0_hw1 k0_t2 => k0_hw1.1.2.2.2.2.2.2.2.2.2.2.2.2.2.2.2.2.2.2.2.1 k0_t2
theorem k0_off13_inb : ∀ (i : grid0.Coords) (v2 : BitVec 32) (k0_hw1 : k0_chk1 i v2) (k0_t2 : Fin (k0_t2_loop i v2).trips), ∀ a, (k0_off13 i v2 k0_t2) a + S1x1x256.size a ≤ S1x1x8192.size a := fun i v2 k0_hw1 k0_t2 => k0_hw1.1.2.2.2.2.2.2.2.2.2.2.2.2.2.2.2.2.2.2.2.2.1 k0_t2
theorem k0_off15_inb : ∀ (i : grid0.Coords) (v2 : BitVec 32) (k0_hw1 : k0_chk1 i v2) (k0_t2 : Fin (k0_t2_loop i v2).trips), ∀ a, (k0_off15 i v2 k0_t2) a + S1x1x1x256.size a ≤ S1x1x8x8192.size a := fun i v2 k0_hw1 k0_t2 => k0_hw1.1.2.2.2.2.2.2.2.2.2.2.2.2.2.2.2.2.2.2.2.2.2.1 k0_t2
theorem k0_mult9_dvd : ∀ (i : grid0.Coords) (v2 : BitVec 32) (k0_hw1 : k0_chk1 i v2) (k0_t2 : Fin (k0_t2_loop i v2).trips), 256 ∣ (k0_mult9 i v2 k0_t2).toNat := fun i v2 k0_hw1 k0_t2 => k0_hw1.1.2.2.2.2.2.2.2.2.2.2.2.2.2.2.2.2.2.2.2.2.2.2.1 k0_t2
theorem k0_off16_inb : ∀ (i : grid0.Coords) (v2 : BitVec 32) (k0_hw1 : k0_chk1 i v2) (k0_t2 : Fin (k0_t2_loop i v2).trips), ∀ a, (k0_off16 i v2 k0_t2) a + S1x1x1x256.size a ≤ S1x1x8x8192.size a := fun i v2 k0_hw1 k0_t2 => k0_hw1.1.2.2.2.2.2.2.2.2.2.2.2.2.2.2.2.2.2.2.2.2.2.2.2.1 k0_t2
theorem k0_mult10_dvd : ∀ (i : grid0.Coords) (v2 : BitVec 32) (k0_hw1 : k0_chk1 i v2) (k0_t2 : Fin (k0_t2_loop i v2).trips), 256 ∣ (k0_mult10 i v2 k0_t2).toNat := fun i v2 k0_hw1 k0_t2 => k0_hw1.1.2.2.2.2.2.2.2.2.2.2.2.2.2.2.2.2.2.2.2.2.2.2.2.2.1 k0_t2
theorem k0_off17_inb : ∀ (i : grid0.Coords) (v2 : BitVec 32) (k0_hw1 : k0_chk1 i v2) (k0_t2 : Fin (k0_t2_loop i v2).trips), ∀ a, (k0_off17 i v2 k0_t2) a + S1x1x1x256.size a ≤ S1x1x8x8192.size a := fun i v2 k0_hw1 k0_t2 => k0_hw1.1.2.2.2.2.2.2.2.2.2.2.2.2.2.2.2.2.2.2.2.2.2.2.2.2.2.1 k0_t2
theorem k0_mult11_dvd : ∀ (i : grid0.Coords) (v2 : BitVec 32) (k0_hw1 : k0_chk1 i v2) (k0_t2 : Fin (k0_t2_loop i v2).trips), 256 ∣ (k0_mult11 i v2 k0_t2).toNat := fun i v2 k0_hw1 k0_t2 => k0_hw1.1.2.2.2.2.2.2.2.2.2.2.2.2.2.2.2.2.2.2.2.2.2.2.2.2.2.2.1 k0_t2
theorem k0_off18_inb : ∀ (i : grid0.Coords) (v2 : BitVec 32) (k0_hw1 : k0_chk1 i v2) (k0_t2 : Fin (k0_t2_loop i v2).trips), ∀ a, (k0_off18 i v2 k0_t2) a + S1x1x1x256.size a ≤ S1x1x8x8192.size a := fun i v2 k0_hw1 k0_t2 => k0_hw1.1.2.2.2.2.2.2.2.2.2.2.2.2.2.2.2.2.2.2.2.2.2.2.2.2.2.2.2.1 k0_t2
theorem k0_mult12_dvd : ∀ (i : grid0.Coords) (v2 : BitVec 32) (k0_hw1 : k0_chk1 i v2) (k0_t2 : Fin (k0_t2_loop i v2).trips), 256 ∣ (k0_mult12 i v2 k0_t2).toNat := fun i v2 k0_hw1 k0_t2 => k0_hw1.1.2.2.2.2.2.2.2.2.2.2.2.2.2.2.2.2.2.2.2.2.2.2.2.2.2.2.2.2.1 k0_t2
theorem k0_off19_inb : ∀ (i : grid0.Coords) (v2 : BitVec 32) (k0_hw1 : k0_chk1 i v2) (k0_t2 : Fin (k0_t2_loop i v2).trips), ∀ a, (k0_off19 i v2 k0_t2) a + S1x1x1x256.size a ≤ S1x1x8x8192.size a := fun i v2 k0_hw1 k0_t2 => k0_hw1.1.2.2.2.2.2.2.2.2.2.2.2.2.2.2.2.2.2.2.2.2.2.2.2.2.2.2.2.2.2.1 k0_t2
theorem k0_mult13_dvd : ∀ (i : grid0.Coords) (v2 : BitVec 32) (k0_hw1 : k0_chk1 i v2) (k0_t2 : Fin (k0_t2_loop i v2).trips), 256 ∣ (k0_mult13 i v2 k0_t2).toNat := fun i v2 k0_hw1 k0_t2 => k0_hw1.1.2.2.2.2.2.2.2.2.2.2.2.2.2.2.2.2.2.2.2.2.2.2.2.2.2.2.2.2.2.2.1 k0_t2
theorem k0_off20_inb : ∀ (i : grid0.Coords) (v2 : BitVec 32) (k0_hw1 : k0_chk1 i v2) (k0_t2 : Fin (k0_t2_loop i v2).trips), ∀ a, (k0_off20 i v2 k0_t2) a + S1x1x1x256.size a ≤ S1x1x8x8192.size a := fun i v2 k0_hw1 k0_t2 => k0_hw1.1.2.2.2.2.2.2.2.2.2.2.2.2.2.2.2.2.2.2.2.2.2.2.2.2.2.2.2.2.2.2.2 k0_t2
theorem k0_mult14_dvd : ∀ (i : grid0.Coords) (v2 : BitVec 32) (k0_hw1 : k0_chk1 i v2) (k0_t2 : Fin (k0_t2_loop i v2).trips), 256 ∣ (k0_mult14 i v2 k0_t2).toNat := fun i v2 k0_hw1 k0_t2 => k0_hw1.2.1.1 k0_t2
theorem k0_off21_inb : ∀ (i : grid0.Coords) (v2 : BitVec 32) (k0_hw1 : k0_chk1 i v2) (k0_t2 : Fin (k0_t2_loop i v2).trips), ∀ a, (k0_off21 i v2 k0_t2) a + S1x1x1x256.size a ≤ S1x1x8x8192.size a := fun i v2 k0_hw1 k0_t2 => k0_hw1.2.1.2.1 k0_t2
theorem k0_t3_ok : ∀ (i : grid0.Coords) (v2 : BitVec 32) (k0_hw1 : k0_chk1 i v2), (k0_t3_loop i v2).OK := fun i v2 k0_hw1 => k0_hw1.2.1.2.2.1
theorem k0_mult15_dvd : ∀ (i : grid0.Coords) (v2 : BitVec 32) (k0_hw1 : k0_chk1 i v2) (k0_t3 : Fin (k0_t3_loop i v2).trips), 256 ∣ (k0_mult15 i v2 k0_t3).toNat := fun i v2 k0_hw1 k0_t3 => k0_hw1.2.1.2.2.2.1 k0_t3
theorem k0_off22_inb : ∀ (i : grid0.Coords) (v2 : BitVec 32) (k0_hw1 : k0_chk1 i v2) (k0_t3 : Fin (k0_t3_loop i v2).trips), ∀ a, (k0_off22 i v2 k0_t3) a + S1x1x128x256.size a ≤ S1x1x128x8192.size a := fun i v2 k0_hw1 k0_t3 => k0_hw1.2.1.2.2.2.2.1 k0_t3
theorem k0_mult16_dvd : ∀ (i : grid0.Coords) (v2 : BitVec 32) (k0_hw1 : k0_chk1 i v2) (k0_t3 : Fin (k0_t3_loop i v2).trips), 256 ∣ (k0_mult16 i v2 k0_t3).toNat := fun i v2 k0_hw1 k0_t3 => k0_hw1.2.1.2.2.2.2.2.1 k0_t3
theorem k0_off23_inb : ∀ (i : grid0.Coords) (v2 : BitVec 32) (k0_hw1 : k0_chk1 i v2) (k0_t3 : Fin (k0_t3_loop i v2).trips), ∀ a, (k0_off23 i v2 k0_t3) a + S1x256x128.size a ≤ S1x8192x128.size a := fun i v2 k0_hw1 k0_t3 => k0_hw1.2.1.2.2.2.2.2.2.1 k0_t3
theorem k0_off24_inb : ∀ (i : grid0.Coords) (v2 : BitVec 32) (k0_hw1 : k0_chk1 i v2) (k0_t3 : Fin (k0_t3_loop i v2).trips), ∀ a, (k0_off24 i v2 k0_t3) a + S1x1x256.size a ≤ S1x1x8192.size a := fun i v2 k0_hw1 k0_t3 => k0_hw1.2.1.2.2.2.2.2.2.2.1 k0_t3
theorem k0_off26_inb : ∀ (i : grid0.Coords) (v2 : BitVec 32) (k0_hw1 : k0_chk1 i v2) (k0_t3 : Fin (k0_t3_loop i v2).trips), ∀ a, (k0_off26 i v2 k0_t3) a + S1x1x1x256.size a ≤ S1x1x8x8192.size a := fun i v2 k0_hw1 k0_t3 => k0_hw1.2.1.2.2.2.2.2.2.2.2.1 k0_t3
theorem k0_mult17_dvd : ∀ (i : grid0.Coords) (v2 : BitVec 32) (k0_hw1 : k0_chk1 i v2) (k0_t3 : Fin (k0_t3_loop i v2).trips), 256 ∣ (k0_mult17 i v2 k0_t3).toNat := fun i v2 k0_hw1 k0_t3 => k0_hw1.2.1.2.2.2.2.2.2.2.2.2.1 k0_t3
theorem k0_off27_inb : ∀ (i : grid0.Coords) (v2 : BitVec 32) (k0_hw1 : k0_chk1 i v2) (k0_t3 : Fin (k0_t3_loop i v2).trips), ∀ a, (k0_off27 i v2 k0_t3) a + S1x1x1x256.size a ≤ S1x1x8x8192.size a := fun i v2 k0_hw1 k0_t3 => k0_hw1.2.1.2.2.2.2.2.2.2.2.2.2.1 k0_t3
theorem k0_mult18_dvd : ∀ (i : grid0.Coords) (v2 : BitVec 32) (k0_hw1 : k0_chk1 i v2) (k0_t3 : Fin (k0_t3_loop i v2).trips), 256 ∣ (k0_mult18 i v2 k0_t3).toNat := fun i v2 k0_hw1 k0_t3 => k0_hw1.2.1.2.2.2.2.2.2.2.2.2.2.2.1 k0_t3
theorem k0_off28_inb : ∀ (i : grid0.Coords) (v2 : BitVec 32) (k0_hw1 : k0_chk1 i v2) (k0_t3 : Fin (k0_t3_loop i v2).trips), ∀ a, (k0_off28 i v2 k0_t3) a + S1x1x1x256.size a ≤ S1x1x8x8192.size a := fun i v2 k0_hw1 k0_t3 => k0_hw1.2.1.2.2.2.2.2.2.2.2.2.2.2.2.1 k0_t3
theorem k0_mult19_dvd : ∀ (i : grid0.Coords) (v2 : BitVec 32) (k0_hw1 : k0_chk1 i v2) (k0_t3 : Fin (k0_t3_loop i v2).trips), 256 ∣ (k0_mult19 i v2 k0_t3).toNat := fun i v2 k0_hw1 k0_t3 => k0_hw1.2.1.2.2.2.2.2.2.2.2.2.2.2.2.2.1 k0_t3
theorem k0_off29_inb : ∀ (i : grid0.Coords) (v2 : BitVec 32) (k0_hw1 : k0_chk1 i v2) (k0_t3 : Fin (k0_t3_loop i v2).trips), ∀ a, (k0_off29 i v2 k0_t3) a + S1x1x1x256.size a ≤ S1x1x8x8192.size a := fun i v2 k0_hw1 k0_t3 => k0_hw1.2.1.2.2.2.2.2.2.2.2.2.2.2.2.2.2.1 k0_t3
theorem k0_mult20_dvd : ∀ (i : grid0.Coords) (v2 : BitVec 32) (k0_hw1 : k0_chk1 i v2) (k0_t3 : Fin (k0_t3_loop i v2).trips), 256 ∣ (k0_mult20 i v2 k0_t3).toNat := fun i v2 k0_hw1 k0_t3 => k0_hw1.2.1.2.2.2.2.2.2.2.2.2.2.2.2.2.2.2.1 k0_t3
theorem k0_off30_inb : ∀ (i : grid0.Coords) (v2 : BitVec 32) (k0_hw1 : k0_chk1 i v2) (k0_t3 : Fin (k0_t3_loop i v2).trips), ∀ a, (k0_off30 i v2 k0_t3) a + S1x1x1x256.size a ≤ S1x1x8x8192.size a := fun i v2 k0_hw1 k0_t3 => k0_hw1.2.1.2.2.2.2.2.2.2.2.2.2.2.2.2.2.2.2.1 k0_t3
theorem k0_mult21_dvd : ∀ (i : grid0.Coords) (v2 : BitVec 32) (k0_hw1 : k0_chk1 i v2) (k0_t3 : Fin (k0_t3_loop i v2).trips), 256 ∣ (k0_mult21 i v2 k0_t3).toNat := fun i v2 k0_hw1 k0_t3 => k0_hw1.2.1.2.2.2.2.2.2.2.2.2.2.2.2.2.2.2.2.2.1 k0_t3
theorem k0_off31_inb : ∀ (i : grid0.Coords) (v2 : BitVec 32) (k0_hw1 : k0_chk1 i v2) (k0_t3 : Fin (k0_t3_loop i v2).trips), ∀ a, (k0_off31 i v2 k0_t3) a + S1x1x1x256.size a ≤ S1x1x8x8192.size a := fun i v2 k0_hw1 k0_t3 => k0_hw1.2.1.2.2.2.2.2.2.2.2.2.2.2.2.2.2.2.2.2.2.1 k0_t3
theorem k0_mult22_dvd : ∀ (i : grid0.Coords) (v2 : BitVec 32) (k0_hw1 : k0_chk1 i v2) (k0_t3 : Fin (k0_t3_loop i v2).trips), 256 ∣ (k0_mult22 i v2 k0_t3).toNat := fun i v2 k0_hw1 k0_t3 => k0_hw1.2.1.2.2.2.2.2.2.2.2.2.2.2.2.2.2.2.2.2.2.2.1 k0_t3
theorem k0_off32_inb : ∀ (i : grid0.Coords) (v2 : BitVec 32) (k0_hw1 : k0_chk1 i v2) (k0_t3 : Fin (k0_t3_loop i v2).trips), ∀ a, (k0_off32 i v2 k0_t3) a + S1x1x1x256.size a ≤ S1x1x8x8192.size a := fun i v2 k0_hw1 k0_t3 => k0_hw1.2.1.2.2.2.2.2.2.2.2.2.2.2.2.2.2.2.2.2.2.2.2.1 k0_t3
theorem k0_t4_ok : ∀ (i : grid0.Coords) (v2 : BitVec 32) (k0_hw1 : k0_chk1 i v2), (k0_t4_loop i v2).OK := fun i v2 k0_hw1 => k0_hw1.2.1.2.2.2.2.2.2.2.2.2.2.2.2.2.2.2.2.2.2.2.2.2.1
theorem k0_mult23_dvd : ∀ (i : grid0.Coords) (v2 : BitVec 32) (k0_hw1 : k0_chk1 i v2) (k0_t4 : Fin (k0_t4_loop i v2).trips), 256 ∣ (k0_mult23 i v2 k0_t4).toNat := fun i v2 k0_hw1 k0_t4 => k0_hw1.2.1.2.2.2.2.2.2.2.2.2.2.2.2.2.2.2.2.2.2.2.2.2.2.1 k0_t4
theorem k0_off33_inb : ∀ (i : grid0.Coords) (v2 : BitVec 32) (k0_hw1 : k0_chk1 i v2) (k0_t4 : Fin (k0_t4_loop i v2).trips), ∀ a, (k0_off33 i v2 k0_t4) a + S1x1x128x256.size a ≤ S1x1x128x8192.size a := fun i v2 k0_hw1 k0_t4 => k0_hw1.2.1.2.2.2.2.2.2.2.2.2.2.2.2.2.2.2.2.2.2.2.2.2.2.2.1 k0_t4
theorem k0_mult24_dvd : ∀ (i : grid0.Coords) (v2 : BitVec 32) (k0_hw1 : k0_chk1 i v2) (k0_t4 : Fin (k0_t4_loop i v2).trips), 256 ∣ (k0_mult24 i v2 k0_t4).toNat := fun i v2 k0_hw1 k0_t4 => k0_hw1.2.1.2.2.2.2.2.2.2.2.2.2.2.2.2.2.2.2.2.2.2.2.2.2.2.2.1 k0_t4
theorem k0_off34_inb : ∀ (i : grid0.Coords) (v2 : BitVec 32) (k0_hw1 : k0_chk1 i v2) (k0_t4 : Fin (k0_t4_loop i v2).trips), ∀ a, (k0_off34 i v2 k0_t4) a + S1x256x128.size a ≤ S1x8192x128.size a := fun i v2 k0_hw1 k0_t4 => k0_hw1.2.1.2.2.2.2.2.2.2.2.2.2.2.2.2.2.2.2.2.2.2.2.2.2.2.2.2.1 k0_t4
theorem k0_off35_inb : ∀ (i : grid0.Coords) (v2 : BitVec 32) (k0_hw1 : k0_chk1 i v2) (k0_t4 : Fin (k0_t4_loop i v2).trips), ∀ a, (k0_off35 i v2 k0_t4) a + S1x1x256.size a ≤ S1x1x8192.size a := fun i v2 k0_hw1 k0_t4 => k0_hw1.2.1.2.2.2.2.2.2.2.2.2.2.2.2.2.2.2.2.2.2.2.2.2.2.2.2.2.2.1 k0_t4
theorem k0_off37_inb : ∀ (i : grid0.Coords) (v2 : BitVec 32) (k0_hw1 : k0_chk1 i v2) (k0_t4 : Fin (k0_t4_loop i v2).trips), ∀ a, (k0_off37 i v2 k0_t4) a + S1x1x1x256.size a ≤ S1x1x8x8192.size a := fun i v2 k0_hw1 k0_t4 => k0_hw1.2.1.2.2.2.2.2.2.2.2.2.2.2.2.2.2.2.2.2.2.2.2.2.2.2.2.2.2.2.1 k0_t4
theorem k0_mult25_dvd : ∀ (i : grid0.Coords) (v2 : BitVec 32) (k0_hw1 : k0_chk1 i v2) (k0_t4 : Fin (k0_t4_loop i v2).trips), 256 ∣ (k0_mult25 i v2 k0_t4).toNat := fun i v2 k0_hw1 k0_t4 => k0_hw1.2.1.2.2.2.2.2.2.2.2.2.2.2.2.2.2.2.2.2.2.2.2.2.2.2.2.2.2.2.2.1 k0_t4
theorem k0_off38_inb : ∀ (i : grid0.Coords) (v2 : BitVec 32) (k0_hw1 : k0_chk1 i v2) (k0_t4 : Fin (k0_t4_loop i v2).trips), ∀ a, (k0_off38 i v2 k0_t4) a + S1x1x1x256.size a ≤ S1x1x8x8192.size a := fun i v2 k0_hw1 k0_t4 => k0_hw1.2.1.2.2.2.2.2.2.2.2.2.2.2.2.2.2.2.2.2.2.2.2.2.2.2.2.2.2.2.2.2.1 k0_t4
theorem k0_mult26_dvd : ∀ (i : grid0.Coords) (v2 : BitVec 32) (k0_hw1 : k0_chk1 i v2) (k0_t4 : Fin (k0_t4_loop i v2).trips), 256 ∣ (k0_mult26 i v2 k0_t4).toNat := fun i v2 k0_hw1 k0_t4 => k0_hw1.2.1.2.2.2.2.2.2.2.2.2.2.2.2.2.2.2.2.2.2.2.2.2.2.2.2.2.2.2.2.2.2.1 k0_t4
theorem k0_off39_inb : ∀ (i : grid0.Coords) (v2 : BitVec 32) (k0_hw1 : k0_chk1 i v2) (k0_t4 : Fin (k0_t4_loop i v2).trips), ∀ a, (k0_off39 i v2 k0_t4) a + S1x1x1x256.size a ≤ S1x1x8x8192.size a := fun i v2 k0_hw1 k0_t4 => k0_hw1.2.1.2.2.2.2.2.2.2.2.2.2.2.2.2.2.2.2.2.2.2.2.2.2.2.2.2.2.2.2.2.2.2 k0_t4
theorem k0_mult27_dvd : ∀ (i : grid0.Coords) (v2 : BitVec 32) (k0_hw1 : k0_chk1 i v2) (k0_t4 : Fin (k0_t4_loop i v2).trips), 256 ∣ (k0_mult27 i v2 k0_t4).toNat := fun i v2 k0_hw1 k0_t4 => k0_hw1.2.2.1 k0_t4
theorem k0_off40_inb : ∀ (i : grid0.Coords) (v2 : BitVec 32) (k0_hw1 : k0_chk1 i v2) (k0_t4 : Fin (k0_t4_loop i v2).trips), ∀ a, (k0_off40 i v2 k0_t4) a + S1x1x1x256.size a ≤ S1x1x8x8192.size a := fun i v2 k0_hw1 k0_t4 => k0_hw1.2.2.2.1 k0_t4
theorem k0_mult28_dvd : ∀ (i : grid0.Coords) (v2 : BitVec 32) (k0_hw1 : k0_chk1 i v2) (k0_t4 : Fin (k0_t4_loop i v2).trips), 256 ∣ (k0_mult28 i v2 k0_t4).toNat := fun i v2 k0_hw1 k0_t4 => k0_hw1.2.2.2.2.1 k0_t4
theorem k0_off41_inb : ∀ (i : grid0.Coords) (v2 : BitVec 32) (k0_hw1 : k0_chk1 i v2) (k0_t4 : Fin (k0_t4_loop i v2).trips), ∀ a, (k0_off41 i v2 k0_t4) a + S1x1x1x256.size a ≤ S1x1x8x8192.size a := fun i v2 k0_hw1 k0_t4 => k0_hw1.2.2.2.2.2.1 k0_t4
theorem k0_mult29_dvd : ∀ (i : grid0.Coords) (v2 : BitVec 32) (k0_hw1 : k0_chk1 i v2) (k0_t4 : Fin (k0_t4_loop i v2).trips), 256 ∣ (k0_mult29 i v2 k0_t4).toNat := fun i v2 k0_hw1 k0_t4 => k0_hw1.2.2.2.2.2.2.1 k0_t4
theorem k0_off42_inb : ∀ (i : grid0.Coords) (v2 : BitVec 32) (k0_hw1 : k0_chk1 i v2) (k0_t4 : Fin (k0_t4_loop i v2).trips), ∀ a, (k0_off42 i v2 k0_t4) a + S1x1x1x256.size a ≤ S1x1x8x8192.size a := fun i v2 k0_hw1 k0_t4 => k0_hw1.2.2.2.2.2.2.2.1 k0_t4
theorem k0_mult30_dvd : ∀ (i : grid0.Coords) (v2 : BitVec 32) (k0_hw1 : k0_chk1 i v2) (k0_t4 : Fin (k0_t4_loop i v2).trips), 256 ∣ (k0_mult30 i v2 k0_t4).toNat := fun i v2 k0_hw1 k0_t4 => k0_hw1.2.2.2.2.2.2.2.2.1 k0_t4
theorem k0_off43_inb : ∀ (i : grid0.Coords) (v2 : BitVec 32) (k0_hw1 : k0_chk1 i v2) (k0_t4 : Fin (k0_t4_loop i v2).trips), ∀ a, (k0_off43 i v2 k0_t4) a + S1x1x1x256.size a ≤ S1x1x8x8192.size a := fun i v2 k0_hw1 k0_t4 => k0_hw1.2.2.2.2.2.2.2.2.2 k0_t4

def k0_mult31 (i : grid0.Coords) : BitVec 32 :=
  let arg2 : BitVec 32 := BitVec.ofNat 32 (i 2).val
  let c256_i32 : BitVec 32 := 256#32
  let v304 : BitVec 32 := Scalar.muli arg2 c256_i32
  v304
def k0_off44 (i : grid0.Coords) : Fin 4 → Nat :=
  let c0_194 : Index := 0#32
  let c0_195 : Index := 0#32
  let c0_196 : Index := 0#32
  let arg2 : BitVec 32 := BitVec.ofNat 32 (i 2).val
  let c256_i32 : BitVec 32 := 256#32
  let v304 : BitVec 32 := Scalar.muli arg2 c256_i32
  let v305 : BitVec 32 := v304
  let v306 : Index := Scalar.indexCast v305
  ![0, 0, 0, v306.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x256x896 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x8192 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .smem S2x56 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x896 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S2x8192x56x128 : Shape := ⟨4, ![2, 8192, 56, 128]⟩
abbrev S2x56 : Shape := ⟨2, ![2, 56]⟩
abbrev S2x8192x8x128 : Shape := ⟨4, ![2, 8192, 8, 128]⟩
abbrev S2x8 : Shape := ⟨2, ![2, 8]⟩
abbrev S2x8x128 : Shape := ⟨3, ![2, 8, 128]⟩
abbrev S2x56x8192 : Shape := ⟨3, ![2, 56, 8192]⟩
abbrev S2x8192 : Shape := ⟨2, ![2, 8192]⟩
abbrev S_ : Shape := ⟨0, ![]⟩
abbrev S2x8x7x8192 : Shape := ⟨4, ![2, 8, 7, 8192]⟩
abbrev S2x8192x8x7x128 : Shape := ⟨5, ![2, 8192, 8, 7, 128]⟩
abbrev S2x8x7 : Shape := ⟨3, ![2, 8, 7]⟩
abbrev S2x8x1 : Shape := ⟨3, ![2, 8, 1]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S2x8192x1 : Shape := ⟨3, ![2, 8192, 1]⟩
abbrev S2x1x8192 : Shape := ⟨3, ![2, 1, 8192]⟩
abbrev S2x8192x8192 : Shape := ⟨3, ![2, 8192, 8192]⟩
abbrev S2x8x8192x8192x7 : Shape := ⟨5, ![2, 8, 8192, 8192, 7]⟩
abbrev S2x8x7x8192x8192 : Shape := ⟨5, ![2, 8, 7, 8192, 8192]⟩
abbrev S2x8x7x1x1 : Shape := ⟨5, ![2, 8, 7, 1, 1]⟩
abbrev S2x8x7x8192x1 : Shape := ⟨5, ![2, 8, 7, 8192, 1]⟩
abbrev S2x8x7x1x8192 : Shape := ⟨5, ![2, 8, 7, 1, 8192]⟩
abbrev S2x1x1x8192x8192 : Shape := ⟨5, ![2, 1, 1, 8192, 8192]⟩
abbrev S2x8192x8x7 : Shape := ⟨4, ![2, 8192, 8, 7]⟩
abbrev S2x8192x56 : Shape := ⟨3, ![2, 8192, 56]⟩
abbrev S2x8x128x7x8192 : Shape := ⟨5, ![2, 8, 128, 7, 8192]⟩
abbrev S2x1x8x1x128 : Shape := ⟨5, ![2, 1, 8, 1, 128]⟩
abbrev S2x8192x7168 : Shape := ⟨3, ![2, 8192, 7168]⟩

abbrev nBuf : Space → Nat
  | .hbm => 86
  | .vmem => 6
  | .smem => 0
  | _ => 0

abbrev bufTy : (tb : Table) → Fin (tcTables nBuf tb) → BufTy
  | .hbm, ⟨0, _⟩ => ⟨S2x8192x56x128, .fp8e4m3⟩
  | .hbm, ⟨1, _⟩ => ⟨S2x56, .f32⟩
  | .hbm, ⟨2, _⟩ => ⟨S2x8192x8x128, .fp8e4m3⟩
  | .hbm, ⟨3, _⟩ => ⟨S2x8, .f32⟩
  | .hbm, ⟨4, _⟩ => ⟨S2x8192x8x128, .fp8e4m3⟩
  | .hbm, ⟨5, _⟩ => ⟨S2x8x128, .f32⟩
  | .hbm, ⟨6, _⟩ => ⟨S2x56x8192, .f32⟩
  | .hbm, ⟨7, _⟩ => ⟨S2x8192, .i32⟩
  | .hbm, ⟨8, _⟩ => ⟨S2x8192x56x128, .f32⟩
  | .hbm, ⟨9, _⟩ => ⟨S2x8192x8x128, .f32⟩
  | .hbm, ⟨10, _⟩ => ⟨S2x8192x8x128, .bf16⟩
  | .hbm, ⟨11, _⟩ => ⟨S_, .f32⟩
  | .hbm, ⟨12, _⟩ => ⟨S_, .f32⟩
  | .hbm, ⟨13, _⟩ => ⟨S2x56x8192, .f32⟩
  | .hbm, ⟨14, _⟩ => ⟨S2x56x8192, .f32⟩
  | .hbm, ⟨15, _⟩ => ⟨S2x8x7x8192, .f32⟩
  | .hbm, ⟨16, _⟩ => ⟨S2x8192x8x7x128, .f32⟩
  | .hbm, ⟨17, _⟩ => ⟨S2x8x7, .f32⟩
  | .hbm, ⟨18, _⟩ => ⟨S2x8x1, .f32⟩
  | .hbm, ⟨19, _⟩ => ⟨S2x8x7, .f32⟩
  | .hbm, ⟨20, _⟩ => ⟨S2x8x7, .f32⟩
  | .hbm, ⟨21, _⟩ => ⟨S_, .f32⟩
  | .hbm, ⟨22, _⟩ => ⟨S2x8x7, .f32⟩
  | .hbm, ⟨23, _⟩ => ⟨S2x8x7, .f32⟩
  | .hbm, ⟨24, _⟩ => ⟨S8192, .i32⟩
  | .hbm, ⟨25, _⟩ => ⟨S1x1x8192, .i32⟩
  | .hbm, ⟨26, _⟩ => ⟨S1x8192x1, .i32⟩
  | .hbm, ⟨27, _⟩ => ⟨S1x8192x8192, .i32⟩
  | .hbm, ⟨28, _⟩ => ⟨S1x8192x8192, .i32⟩
  | .hbm, ⟨29, _⟩ => ⟨S1x8192x8192, .i1⟩
  | .hbm, ⟨30, _⟩ => ⟨S2x8192x1, .i32⟩
  | .hbm, ⟨31, _⟩ => ⟨S2x1x8192, .i32⟩
  | .hbm, ⟨32, _⟩ => ⟨S2x8192x8192, .i32⟩
  | .hbm, ⟨33, _⟩ => ⟨S2x8192x8192, .i32⟩
  | .hbm, ⟨34, _⟩ => ⟨S2x8192x8192, .i1⟩
  | .hbm, ⟨35, _⟩ => ⟨S2x8192x8192, .i1⟩
  | .hbm, ⟨36, _⟩ => ⟨S2x8192x8192, .i1⟩
  | .hbm, ⟨37, _⟩ => ⟨S2x8x8192x8192x7, .f32⟩
  | .hbm, ⟨38, _⟩ => ⟨S2x8x7x8192x8192, .f32⟩
  | .hbm, ⟨39, _⟩ => ⟨S2x8x7x1x1, .f32⟩
  | .hbm, ⟨40, _⟩ => ⟨S2x8x7x8192x8192, .f32⟩
  | .hbm, ⟨41, _⟩ => ⟨S2x8x7x8192x8192, .f32⟩
  | .hbm, ⟨42, _⟩ => ⟨S2x8x7x8192x1, .f32⟩
  | .hbm, ⟨43, _⟩ => ⟨S2x8x7x1x8192, .f32⟩
  | .hbm, ⟨44, _⟩ => ⟨S2x8x7x8192x8192, .f32⟩
  | .hbm, ⟨45, _⟩ => ⟨S2x8x7x8192x8192, .f32⟩
  | .hbm, ⟨46, _⟩ => ⟨S2x8x7x8192x8192, .f32⟩
  | .hbm, ⟨47, _⟩ => ⟨S2x8x7x8192x8192, .f32⟩
  | .hbm, ⟨48, _⟩ => ⟨S2x1x1x8192x8192, .i1⟩
  | .hbm, ⟨49, _⟩ => ⟨S_, .f32⟩
  | .hbm, ⟨50, _⟩ => ⟨S_, .f32⟩
  | .hbm, ⟨51, _⟩ => ⟨S2x8x7x8192x8192, .i1⟩
  | .hbm, ⟨52, _⟩ => ⟨S2x8x7x8192x8192, .f32⟩
  | .hbm, ⟨53, _⟩ => ⟨S2x8x7x8192x8192, .f32⟩
  | .hbm, ⟨54, _⟩ => ⟨S_, .f32⟩
  | .hbm, ⟨55, _⟩ => ⟨S2x8x7x8192, .f32⟩
  | .hbm, ⟨56, _⟩ => ⟨S2x8x7x8192x1, .f32⟩
  | .hbm, ⟨57, _⟩ => ⟨S2x8x7x8192x8192, .f32⟩
  | .hbm, ⟨58, _⟩ => ⟨S2x8x7x8192x8192, .f32⟩
  | .hbm, ⟨59, _⟩ => ⟨S2x8x7x8192x8192, .f32⟩
  | .hbm, ⟨60, _⟩ => ⟨S_, .f32⟩
  | .hbm, ⟨61, _⟩ => ⟨S2x8x7x8192, .f32⟩
  | .hbm, ⟨62, _⟩ => ⟨S2x8x7x8192x1, .f32⟩
  | .hbm, ⟨63, _⟩ => ⟨S2x8x7x8192x1, .f32⟩
  | .hbm, ⟨64, _⟩ => ⟨S2x8x7x8192x1, .f32⟩
  | .hbm, ⟨65, _⟩ => ⟨S2x8x7x8192, .f32⟩
  | .hbm, ⟨66, _⟩ => ⟨S2x8192x8x7, .f32⟩
  | .hbm, ⟨67, _⟩ => ⟨S2x8192x56, .f32⟩
  | .hbm, ⟨68, _⟩ => ⟨S_, .f32⟩
  | .hbm, ⟨69, _⟩ => ⟨S2x8x7x8192x1, .f32⟩
  | .hbm, ⟨70, _⟩ => ⟨S2x8x7x8192x1, .i1⟩
  | .hbm, ⟨71, _⟩ => ⟨S2x8x7x8192x8192, .f32⟩
  | .hbm, ⟨72, _⟩ => ⟨S2x8x7x8192x8192, .f32⟩
  | .hbm, ⟨73, _⟩ => ⟨S_, .f32⟩
  | .hbm, ⟨74, _⟩ => ⟨S_, .f32⟩
  | .hbm, ⟨75, _⟩ => ⟨S2x8x7x8192x8192, .i1⟩
  | .hbm, ⟨76, _⟩ => ⟨S2x8x7x8192x8192, .f32⟩
  | .hbm, ⟨77, _⟩ => ⟨S2x8x7x8192x8192, .f32⟩
  | .hbm, ⟨78, _⟩ => ⟨S2x8x7x8192x8192, .bf16⟩
  | .hbm, ⟨79, _⟩ => ⟨S2x8x128x7x8192, .f32⟩
  | .hbm, ⟨80, _⟩ => ⟨S2x8192x8x7x128, .f32⟩
  | .hbm, ⟨81, _⟩ => ⟨S2x1x8x1x128, .f32⟩
  | .hbm, ⟨82, _⟩ => ⟨S2x8192x8x7x128, .f32⟩
  | .hbm, ⟨83, _⟩ => ⟨S2x8192x8x7x128, .f32⟩
  | .hbm, ⟨84, _⟩ => ⟨S2x8192x8x7x128, .bf16⟩
  | .hbm, ⟨85, _⟩ => ⟨S2x8192x7168, .bf16⟩
  | .local _ .vmem, ⟨0, _⟩ => ⟨S2x8192x56x128, .fp8e4m3⟩
  | .local _ .vmem, ⟨1, _⟩ => ⟨S2x8192x8x128, .fp8e4m3⟩
  | .local _ .vmem, ⟨2, _⟩ => ⟨S2x8192x8x128, .fp8e4m3⟩
  | .local _ .vmem, ⟨3, _⟩ => ⟨S2x8192x56x128, .f32⟩
  | .local _ .vmem, ⟨4, _⟩ => ⟨S2x8192x8x128, .f32⟩
  | .local _ .vmem, ⟨5, _⟩ => ⟨S2x8192x8x128, .bf16⟩
  | _, _ => ⟨S2x8192x56x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v37 : Ref sig .tc := ⟨.hbm, 53, rfl⟩
abbrev main_cst_2 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_4 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

def κ : String → Option EReal := fun
  | "ln2" => some ((Real.log 2 : ℝ) : EReal)
  | "log2e" => some (((Real.log 2)⁻¹ : ℝ) : EReal)
  | _ => none

abbrev grid0 : Pipeline.Grid := .none

abbrev stage0_0 : Fin 1 → Memref sig .tc .vmem S2x8192x56x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8192x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192x56x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192x8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Decay.lean ====
abbrev S2x8192x56 : Shape := ⟨3, ![2, 8192, 56]⟩
abbrev S2x56x8192 : Shape := ⟨3, ![2, 56, 8192]⟩
abbrev S1x56x8192 : Shape := ⟨3, ![1, 56, 8192]⟩
abbrev S256x256 : Shape := ⟨2, ![256, 256]⟩
abbrev S56x1 : Shape := ⟨2, ![56, 1]⟩
abbrev S1x56x256 : Shape := ⟨3, ![1, 56, 256]⟩
abbrev S56x256 : Shape := ⟨2, ![56, 256]⟩

abbrev nBuf : Space → Nat
  | .hbm => 3
  | .vmem => 4
  | .smem => 0
  | _ => 0

abbrev bufTy : (tb : Table) → Fin (tcTables nBuf tb) → BufTy
  | .hbm, ⟨0, _⟩ => ⟨S2x8192x56, .f32⟩
  | .hbm, ⟨1, _⟩ => ⟨S2x56x8192, .f32⟩
  | .hbm, ⟨2, _⟩ => ⟨S2x56x8192, .f32⟩
  | .local _ .vmem, ⟨0, _⟩ => ⟨S1x56x8192, .f32⟩
  | .local _ .vmem, ⟨1, _⟩ => ⟨S1x56x8192, .f32⟩
  | .local _ .vmem, ⟨2, _⟩ => ⟨S1x56x8192, .f32⟩
  | .local _ .vmem, ⟨3, _⟩ => ⟨S1x56x8192, .f32⟩
  | _, _ => ⟨S2x8192x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x56x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x56x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DecayIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== DecayReferenceIdeal.lean ====
abbrev S2x8192x56 : Shape := ⟨3, ![2, 8192, 56]⟩
abbrev S_ : Shape := ⟨0, ![]⟩
abbrev S2x56x8192 : Shape := ⟨3, ![2, 56, 8192]⟩

abbrev nBuf : Space → Nat
  | .hbm => 25
  | .vmem => 0
  | .smem => 0
  | _ => 0

abbrev bufTy : (tb : Table) → Fin (tcTables nBuf tb) → BufTy
  | .hbm, ⟨0, _⟩ => ⟨S2x8192x56, .f32⟩
  | .hbm, ⟨1, _⟩ => ⟨S2x8192x56, .f32⟩
  | .hbm, ⟨2, _⟩ => ⟨S_, .f32⟩
  | .hbm, ⟨3, _⟩ => ⟨S2x8192x56, .f32⟩
  | .hbm, ⟨4, _⟩ => ⟨S2x8192x56, .f32⟩
  | .hbm, ⟨5, _⟩ => ⟨S2x8192x56, .f32⟩
  | .hbm, ⟨6, _⟩ => ⟨S2x8192x56, .f32⟩
  | .hbm, ⟨7, _⟩ => ⟨S2x8192x56, .i1⟩
  | .hbm, ⟨8, _⟩ => ⟨S2x8192x56, .f32⟩
  | .hbm, ⟨9, _⟩ => ⟨S2x8192x56, .f32⟩
  | .hbm, ⟨10, _⟩ => ⟨S2x8192x56, .f32⟩
  | .hbm, ⟨11, _⟩ => ⟨S2x8192x56, .f32⟩
  | .hbm, ⟨12, _⟩ => ⟨S2x8192x56, .f32⟩
  | .hbm, ⟨13, _⟩ => ⟨S2x8192x56, .f32⟩
  | .hbm, ⟨14, _⟩ => ⟨S2x8192x56, .f32⟩
  | .hbm, ⟨15, _⟩ => ⟨S2x8192x56, .f32⟩
  | .hbm, ⟨16, _⟩ => ⟨S2x8192x56, .f32⟩
  | .hbm, ⟨17, _⟩ => ⟨S_, .f32⟩
  | .hbm, ⟨18, _⟩ => ⟨S_, .f32⟩
  | .hbm, ⟨19, _⟩ => ⟨S2x8192x56, .f32⟩
  | .hbm, ⟨20, _⟩ => ⟨S2x56x8192, .f32⟩
  | .hbm, ⟨21, _⟩ => ⟨S_, .f32⟩
  | .hbm, ⟨22, _⟩ => ⟨S_, .f32⟩
  | .hbm, ⟨23, _⟩ => ⟨S2x56x8192, .f32⟩
  | .hbm, ⟨24, _⟩ => ⟨S2x56x8192, .f32⟩
  | _, _ => ⟨S2x8192x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_call0_call0_v1 : Ref sig .tc := ⟨.hbm, 4, rfl⟩
abbrev main_call0_call0_v2 : Ref sig .tc := ⟨.hbm, 5, rfl⟩
abbrev main_call0_call0_v3 : Ref sig .tc := ⟨.hbm, 6, rfl⟩
abbrev main_call0_call0_v4 : Ref sig .tc := ⟨.hbm, 7, rfl⟩
abbrev main_call0_call0_v5 : Ref sig .tc := ⟨.hbm, 8, rfl⟩
abbrev main_call0_call0_v6 : Ref sig .tc := ⟨.hbm, 9, rfl⟩
abbrev main_call0_call0_v7 : Ref sig .tc := ⟨.hbm, 10, rfl⟩
abbrev main_call0_call0_v8 : Ref sig .tc := ⟨.hbm, 11, rfl⟩
abbrev main_call0_call0_v9 : Ref sig .tc := ⟨.hbm, 12, rfl⟩
abbrev main_call0_call0_v10 : Ref sig .tc := ⟨.hbm, 13, rfl⟩
abbrev main_call0_call0_v11 : Ref sig .tc := ⟨.hbm, 14, rfl⟩
abbrev main_call0_v1 : Ref sig .tc := ⟨.hbm, 15, rfl⟩
abbrev main_v0 : Ref sig .tc := ⟨.hbm, 16, rfl⟩
abbrev main_call1_call0_cst : Ref sig .tc := ⟨.hbm, 17, rfl⟩
abbrev main_call1_call0_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩

abbrev nD : Nat := 1
abbrev τ : Topo := Topo.v7x

variable {F : FTy → Type} [FloatOps F]

def κ : String → Option EReal := fun
  | "ln2" => some ((Real.log 2 : ℝ) : EReal)
  | "log2e" => some (((Real.log 2)⁻¹ : ℝ) : EReal)
  | _ => none
-- ==== Proof.WordMath.lean ====
/- Facts about 32-bit words that both readings of the kernel share: the arg-max that finds where a
   segment starts, jnp's floor division by the block size, and the bounds of the loop over key blocks. -/
module

public import Idealize.ShloMosaic.PureOps.Ideal
public import Idealize.ShloMosaic.Lib.LoopRemainder
public import Idealize.ShloMosaic.Lib.WordArith

@[expose] public section

namespace Cert.WordMath

open Idealize.ShloMosaic

/-- One step of jnp.argmax over a row of bits: of two (bit, index) pairs the one with the larger bit, and
    the smaller index between equal bits. -/
def argStep : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

theorem bit_cases : ∀ b : BitVec 1, b = 0#1 ∨ b = 1#1 := by decide

theorem slt_iff (x y : BitVec 32) (hx : x.toNat < 8192) (hy : y.toNat < 8192) :
    x.slt y = decide (x.toNat < y.toNat) := by
  have h1 : x.toInt = x.toNat := by rw [BitVec.toInt_eq_toNat_of_lt (by omega)]
  have h2 : y.toInt = y.toNat := by rw [BitVec.toInt_eq_toNat_of_lt (by omega)]
  unfold BitVec.slt
  rw [h1, h2]
  simp

theorem argStep_zero_one (x y : BitVec 32) : argStep (0#1, x) (1#1, y) = (1#1, y) := by
  simp [argStep, IntOp.cmpi, IntOp.ori, IntOp.andi, Scalar.select]

theorem argStep_one_zero (x y : BitVec 32) : argStep (1#1, x) (0#1, y) = (1#1, x) := by
  simp [argStep, IntOp.cmpi, IntOp.ori, IntOp.andi, Scalar.select]

theorem argStep_same (b : BitVec 1) (x y : BitVec 32) (hx : x.toNat < 8192) (hy : y.toNat < 8192) :
    argStep (b, x) (b, y) = (b, if x.toNat < y.toNat then x else y) := by
  have hs := slt_iff x y hx hy
  rcases (bit_cases b) with rfl | rfl <;>
  by_cases h : x.toNat < y.toNat <;>
  simp [argStep, IntOp.cmpi, IntOp.ori, IntOp.andi, Scalar.select, hs, h]

/-- One step keeps the index small, keeps a bit that was found, and takes one that is met. -/
theorem argStep_spec (a p : BitVec 1 × BitVec 32) (ha : a.2.toNat < 8192) (hp : p.2.toNat < 8192) :
    (argStep a p).2.toNat < 8192 ∧
    (a.1 = 1#1 → (argStep a p).1 = 1#1 ∧ (argStep a p).2.toNat ≤ a.2.toNat) ∧
    (p.1 = 1#1 → (argStep a p).1 = 1#1 ∧ (argStep a p).2.toNat ≤ p.2.toNat) := by
  obtain ⟨a1, a2⟩ := a
  obtain ⟨p1, p2⟩ := p
  rcases (bit_cases a1) with rfl | rfl <;>
  rcases (bit_cases p1) with rfl | rfl
  · rw [argStep_same _ _ _ ha hp]; simp only at *; split <;> simp_all
  · rw [argStep_zero_one]; simp_all
  · rw [argStep_one_zero]; simp_all
  · rw [argStep_same _ _ _ ha hp]; simp only at *; split <;> simp <;> omega

/-- The arg-max of a row of bits is at most every index at which the bit is set. -/
theorem argFold_spec (L : List (BitVec 1 × BitVec 32)) (hL : ∀ p ∈ L, p.2.toNat < 8192)
    (a : BitVec 1 × BitVec 32) (ha : a.2.toNat < 8192) :
    (L.foldl argStep a).2.toNat < 8192 ∧
    (a.1 = 1#1 → (L.foldl argStep a).1 = 1#1 ∧ (L.foldl argStep a).2.toNat ≤ a.2.toNat) ∧
    (∀ p ∈ L, p.1 = 1#1 → (L.foldl argStep a).2.toNat ≤ p.2.toNat) := by
  induction L generalizing a with
  | nil => exact ⟨ha, fun h => ⟨h, le_refl _⟩, fun p hp => absurd hp List.not_mem_nil⟩
  | cons q L ih =>
    have hq := hL q List.mem_cons_self
    obtain ⟨s1, s2, s3⟩ := argStep_spec a q ha hq
    obtain ⟨i1, i2, i3⟩ := ih (fun p hp => hL p (List.mem_cons_of_mem _ hp)) (argStep a q) s1
    rw [List.foldl_cons]
    refine ⟨i1, fun h => ?_, fun p hp h => ?_⟩
    · obtain ⟨h1, h2⟩ := s2 h
      exact ⟨(i2 h1).1, (i2 h1).2.trans h2⟩
    · rcases List.mem_cons.mp hp with rfl | hp
      · obtain ⟨h1, h2⟩ := s3 h
        exact (i2 h1).2.trans h2
      · exact i3 p hp h

/-- jnp's floor division of a word by 256, as it is lowered. -/
def floorDiv256 (x : BitVec 32) : BitVec 32 :=
  Scalar.select
    (IntOp.andi
      (IntOp.cmpi .ne (if x = 0 then (0 : BitVec 32) else if x.msb = true then -1 else 1)
        (if (256#32 : BitVec 32) = 0 then (0 : BitVec 32) else if BitVec.msb (256#32 : BitVec 32) = true then -1 else 1))
      (IntOp.cmpi .ne (IntOp.remsi .host x 256#32) 0#32))
    (IntOp.subi (IntOp.divsi .host x 256#32) 1#32)
    (IntOp.divsi .host x 256#32)

theorem floorDiv256_toNat (x : BitVec 32) (hx : x.toNat < 8192) : (floorDiv256 x).toNat = x.toNat / 256 := by
  have hc : ¬ IntOp.SDivCorner x 256#32 := by
    rintro (h | ⟨_, h⟩) <;> exact absurd h (by decide)
  have hm : x.msb = false := by
    rw [BitVec.msb_eq_decide]; simp; omega
  have hd : IntOp.divsi .host x 256#32 = BitVec.udiv x 256#32 := by
    unfold IntOp.divsi
    rw [if_neg hc, BitVec.sdiv_eq, hm]
    rfl
  have hr : IntOp.remsi .host x 256#32 = x % 256#32 := by
    unfold IntOp.remsi
    rw [if_neg hc, BitVec.srem_eq, hm]
    rfl
  have hdn : (BitVec.udiv x 256#32).toNat = x.toNat / 256 := by
    show (x / 256#32).toNat = _
    rw [BitVec.toNat_udiv]; rfl
  unfold floorDiv256
  rw [hd, hr, hm]
  by_cases h0 : x = 0
  · subst h0
    have : IntOp.cmpi .ne ((0 : BitVec 32) % 256#32) 0#32 = 0#1 := by decide
    rw [this]
    have e : ∀ b : BitVec 1, IntOp.andi b 0#1 = 0#1 := by decide
    rw [e]
    exact hdn
  · rw [if_neg h0]
    have : IntOp.cmpi .ne (if false = true then (-1 : BitVec 32) else 1)
        (if (256#32 : BitVec 32) = 0 then (0 : BitVec 32) else if BitVec.msb (256#32 : BitVec 32) = true then -1 else 1) = 0#1 := by
      decide
    rw [this]
    have e : ∀ b : BitVec 1, IntOp.andi 0#1 b = 0#1 := by decide
    rw [e]
    exact hdn

section Loop

variable (q : Nat) (v2 : BitVec 32)

/-- The upper bound of the loop over key blocks: one past the query block's number. -/
theorem upper : Scalar.addi v2 (Scalar.muli (Scalar.divsi (Scalar.subi (Scalar.addi (BitVec.ofNat 32 q) 1#32) v2) 1#32) 1#32)
    = BitVec.ofNat 32 (q + 1) := by
  rw [Scalar.muli_divsi_one]
  show v2 + (BitVec.ofNat 32 q + 1#32 - v2) = _
  rw [BitVec.add_comm v2, BitVec.sub_add_cancel]
  apply BitVec.eq_of_toNat_eq
  simp

variable (hq : q < 32) (hv : v2.toNat ≤ q)
include hq hv

theorem toInt_v2 : v2.toInt = v2.toNat := BitVec.toInt_eq_toNat_of_lt (by omega)
omit hv in
theorem toInt_upper : (BitVec.ofNat 32 (q + 1)).toInt = q + 1 := by
  rw [BitVec.toInt_eq_toNat_of_lt (by simp; omega)]; simp; omega

theorem trips_eq : Scf.trips v2 (BitVec.ofNat 32 (q + 1)) 1#32 = q + 1 - v2.toNat := by
  unfold Scf.trips
  rw [toInt_v2 q v2 hq hv, toInt_upper q hq, show (1#32 : BitVec 32).toInt = 1 by decide]
  omega

theorem ok : Scf.OK v2 (BitVec.ofNat 32 (q + 1)) 1#32 := by
  unfold Scf.OK
  rw [trips_eq q v2 hq hv, toInt_v2 q v2 hq hv, show (1#32 : BitVec 32).toInt = 1 by decide]
  refine ⟨by decide, ?_⟩
  norm_num
  omega

omit hq in
theorem iv_toNat (k : Nat) (hq : q < 32) (hk : k < q + 1 - v2.toNat) : (Scf.iv v2 1#32 k).toNat = v2.toNat + k := by
  unfold Scf.iv
  simp
  omega

omit hq in
/-- The key block's first column: 256 times its number. -/
theorem col_toNat (k : Nat) (hq : q < 32) (hk : k < q + 1 - v2.toNat) :
    (Scalar.muli (Scf.iv v2 1#32 k) 256#32).toNat = (v2.toNat + k) * 256 := by
  show (Scf.iv v2 1#32 k * 256#32).toNat = _
  rw [BitVec.toNat_mul, iv_toNat q v2 hv k hq hk]
  simp
  omega

end Loop

end Cert.WordMath
-- ==== Proof.Segments.lean ====
/- The prefetched table of both readings of the kernel: for each batch row and query block, the number of
   the first key block a query of the block may look at. It is the position of the first token of the
   segment that the block's first token lies in, divided by the block size. -/
module

public import proofs.«01_k».proof.Proof.WordMath
public import Idealize.ShloMosaic.Lib.Pointwise.Index
public import Idealize.ShloMosaic.PureOps.Reduce

@[expose] public section

namespace Cert.Segments

open Idealize.ShloMosaic Cert.WordMath

/-- Segment numbers of the tokens: two batch rows of 8192 tokens. -/
abbrev Tok : Shape := ⟨2, ![2, 8192]⟩
/-- One entry per batch row and query block. -/
abbrev Blk : Shape := ⟨2, ![2, 32]⟩
/-- One entry per batch row, query block and token. -/
abbrev Cmp : Shape := ⟨3, ![2, 32, 8192]⟩

/-- The arg-max over the tokens is a token number, at most any token whose bit is set. -/
theorem start_le {u : Shape} (x : Cmp.Idx → BitVec 1) (h : Cmp.ReducesTo [2] Blk) (hu : 0 < u.numel) (b : Fin 2) (t : Fin 32) :
    (Host.reduce2 argStep x (iotaInDim Cmp 32 2) (constantI u 1 0#1) (constantI u 32 0#32) h hu (ix2 b t)).2.toNat < 8192 ∧
    ∀ n : Fin 8192, x (ix3 b t n) = 1#1 →
      (Host.reduce2 argStep x (iotaInDim Cmp 32 2) (constantI u 1 0#1) (constantI u 32 0#32) h hu (ix2 b t)).2.toNat ≤ n.val := by
  rw [Host.reduce2_eq_foldl_fiber]
  have hL : ∀ p ∈ Host.argReduceFiber x (iotaInDim Cmp 32 2) h (ix2 b t), p.2.toNat < 8192 := by
    intro p hp
    obtain ⟨n, _, rfl⟩ := List.mem_map.mp hp
    have := (Cmp.rowMajor.symm n 2).isLt
    show (BitVec.ofNat 32 (Cmp.rowMajor.symm n 2).val).toNat < 8192
    rw [BitVec.toNat_ofNat]
    exact lt_of_le_of_lt (Nat.mod_le _ _) this
  obtain ⟨h1, _, h3⟩ := argFold_spec _ hL (0#1, 0#32) (by decide)
  refine ⟨h1, fun n hn => ?_⟩
  have hmem : (x (ix3 b t n), iotaInDim Cmp 32 2 (ix3 b t n)) ∈ Host.argReduceFiber x (iotaInDim Cmp 32 2) h (ix2 b t) := by
    refine List.mem_map.mpr ⟨Cmp.rowMajor (ix3 b t n), ?_, by rw [Equiv.symm_apply_apply]⟩
    refine List.mem_filter.mpr ⟨List.mem_finRange _, ?_⟩
    rw [Equiv.symm_apply_apply]
    refine decide_eq_true ?_
    funext a
    apply Fin.ext
    match a with
    | 0 => rfl
    | 1 => rfl
  refine (h3 _ hmem hn).trans ?_
  show (BitVec.ofNat 32 n.val).toNat ≤ n.val
  rw [BitVec.toNat_ofNat]
  exact Nat.mod_le _ _

/-- The table's word is at most the block number of every token in the segment of the query block's first token. -/
theorem word_le {u : Shape} (seg : Tok.Idx → BitVec 32) (x : Cmp.Idx → BitVec 1)
    (hx : ∀ b t n, x (ix3 b t n) = IntOp.cmpi .eq (seg (ix2 b n)) (seg (ix2 b ⟨256 * t.val, by omega⟩)))
    (h : Cmp.ReducesTo [2] Blk) (hu : 0 < u.numel) (b : Fin 2) (t : Fin 32) (w : BitVec 32)
    (hw : w = floorDiv256 (Host.reduce2 argStep x (iotaInDim Cmp 32 2) (constantI u 1 0#1) (constantI u 32 0#32) h hu (ix2 b t)).2) :
    ∀ n : Fin 8192, seg (ix2 b n) = seg (ix2 b ⟨256 * t.val, by omega⟩) → w.toNat ≤ n.val / 256 := by
  intro n hn
  obtain ⟨h1, h2⟩ := start_le x h hu b t
  rw [hw, floorDiv256_toNat _ h1]
  refine Nat.div_le_div_right (h2 n ?_)
  rw [hx, hn]
  simp [IntOp.cmpi]

end Cert.Segments
-- ==== Proof.Table.lean ====
/- The kernel's prefetched table of first key blocks, and the side conditions that its body assumes of it. -/
module

public import proofs.«01_k».proof.Proof.Segments
public import proofs.«01_k».proof.Proof.Gen.KernelIdeal.Frame
public import Idealize.ShloMosaic.Lib.StableHlo.ReadAt

@[expose] public section

namespace Cert.KernelIdeal.Gen

open Idealize.ShloMosaic Idealize.ShloMosaic.TcCoe Cert.WordMath Cert.Segments

variable {F : FTy → Type} [FloatOps F] [Named F]
variable (m : (ℓ : Loc nD τ sig) → Buf (Elt F) ℓ)

/-- For each batch row, query block and token: whether the token lies in the segment of the block's first token. -/
def sameSeg (seg : S2x8192.Idx → BitVec 32) : S2x32x8192.Idx → BitVec 1 :=
  cmpi .eq
    (broadcastInDim S2x32x8192 ![0, 1, 2] bcast_S2x1x8192_S2x32x8192_0_1_2
      (broadcastInDim S2x1x8192 ![0, 2] bcast_S2x8192_S2x1x8192_0_2 seg))
    (broadcastInDim S2x32x8192 ![0, 1, 2] bcast_S2x32x1_S2x32x8192_0_1_2
      (broadcastInDim S2x32x1 ![0, 1] bcast_S2x32_S2x32x1_0_1
        (Host.slice S2x32 ![0, 0] ![1, 256] seg slicesBy_S2x8192_S2x32_0s1_0s256)))

theorem sameSeg_apply (seg : S2x8192.Idx → BitVec 32) (b : Fin 2) (t : Fin 32) (n : Fin 8192) :
    sameSeg seg (ix3 b t n) = IntOp.cmpi .eq (seg (ix2 b n)) (seg (ix2 b ⟨256 * t.val, by omega⟩)) := by
  have e1 : broadcastInDim S2x32x8192 ![0, 1, 2] bcast_S2x1x8192_S2x32x8192_0_1_2
      (broadcastInDim S2x1x8192 ![0, 2] bcast_S2x8192_S2x1x8192_0_2 seg) (ix3 b t n) = seg (ix2 b n) := by
    refine congrArg seg (funext fun a => Fin.ext ?_)
    match a with
    | 0 => rfl
    | 1 => rfl
  have e2 : broadcastInDim S2x32x8192 ![0, 1, 2] bcast_S2x32x1_S2x32x8192_0_1_2
      (broadcastInDim S2x32x1 ![0, 1] bcast_S2x32_S2x32x1_0_1
        (Host.slice S2x32 ![0, 0] ![1, 256] seg slicesBy_S2x8192_S2x32_0s1_0s256)) (ix3 b t n)
      = seg (ix2 b ⟨256 * t.val, by omega⟩) := by
    refine congrArg seg (funext fun a => Fin.ext ?_)
    match a with
    | 0 => show 0 + 1 * b.val = b.val; omega
    | 1 => show 0 + 256 * t.val = 256 * t.val; omega
  unfold sameSeg
  rw [cmpi, e1, e2]

/-- The table's word for batch row `b` and query block `t` is at most the block number of every token in the segment
    that the query block's first token lies in. -/
theorem table_le (c : Dev nD) (b : Fin 2) (t : Fin 32) (n : Fin 8192)
    (hn : m (c, Proc.tc.devRef main_arg7) (ix2 b n) = m (c, Proc.tc.devRef main_arg7) (ix2 b ⟨256 * t.val, by omega⟩)) :
    (V m c main_v19 (ix2 b t) : BitVec 32).toNat ≤ n.val / 256 := by
  refine word_le (m (c, Proc.tc.devRef main_arg7)) (sameSeg (m (c, Proc.tc.devRef main_arg7))) (sameSeg_apply _)
    reducesTo_S2x32x8192_S2x32_d2 h_S_ b t _ ?_ n hn
  unfold V V0
  simp only [hostOps0, hostOps0_1, hostOps0_2, hostOps0_3, hostOps0_4, hostOps0_5, hostOps0_6, List.flatten_cons,
    List.flatten_nil, List.append_nil, List.cons_append, List.nil_append]
  after_reads_at
  rfl

/-- The table's word is at most the query block's number. -/
theorem table_le_self (c : Dev nD) (b : Fin 2) (t : Fin 32) : (V m c main_v19 (ix2 b t) : BitVec 32).toNat ≤ t.val := by
  have := table_le m c b t ⟨256 * t.val, by omega⟩ rfl
  simpa using this

/-- Everything the body assumes of the table's word holds of a word at most the query block's number. -/
theorem chk_of_le (i : grid0.Coords) (v2 : BitVec 32) (hv : v2.toNat ≤ (i 2).val) : k0_chk1 i v2 := by
  have hq : (i 2).val < 32 := (i 2).isLt
  have hub := upper (i 2).val v2
  have htr : (k0_t1_loop i v2).trips = (i 2).val + 1 - v2.toNat :=
    (congrArg (fun u => Scf.trips v2 u 1#32) hub).trans (trips_eq (i 2).val v2 hq hv)
  have hok : (k0_t1_loop i v2).OK :=
    (congrArg (fun u => Scf.OK v2 u 1#32) hub).mpr (ok (i 2).val v2 hq hv)
  have hcol : ∀ k : Fin (k0_t1_loop i v2).trips, ∃ n, n < 32 ∧ (Scalar.muli (Scf.iv v2 1#32 k.val) 256#32).toNat = n * 256 := by
    intro k
    have hk : k.val < (i 2).val + 1 - v2.toNat := htr ▸ k.isLt
    exact ⟨v2.toNat + k.val, by omega, col_toNat (i 2).val v2 hv k hq hk⟩
  have hok2 : (k0_t2_loop i v2).OK := Scf.rem_ok _ _
  have hno : ∀ k : Fin (k0_t2_loop i v2).trips, False := fun k => Scf.rem_no_trip _ _ k
  have hmul : ∀ k : Fin (k0_t1_loop i v2).trips, 256 ∣ (Scalar.muli (Scf.iv v2 1#32 k.val) 256#32).toNat := fun k => by
    obtain ⟨n, _, e⟩ := hcol k
    exact ⟨n, by rw [e, Nat.mul_comm]⟩
  have hfit : ∀ k : Fin (k0_t1_loop i v2).trips, (Scalar.muli (Scf.iv v2 1#32 k.val) 256#32).toNat + 256 ≤ 8192 := fun k => by
    obtain ⟨n, hn, e⟩ := hcol k
    rw [e]; omega
  have h3 : ∀ k : Fin (k0_t1_loop i v2).trips, ∀ a, (![0, (Scalar.muli (Scf.iv v2 1#32 k.val) 256#32).toNat, 0] : Fin 3 → Nat) a
      + S1x256x128.size a ≤ S1x8192x128.size a := by
    intro k a
    match a with
    | 0 => exact Nat.le_refl _
    | 1 => exact hfit k
    | 2 => exact Nat.le_refl _
  have h3' : ∀ k : Fin (k0_t1_loop i v2).trips, ∀ a, (![0, 0, (Scalar.muli (Scf.iv v2 1#32 k.val) 256#32).toNat] : Fin 3 → Nat) a
      + S1x1x256.size a ≤ S1x1x8192.size a := by
    intro k a
    match a with
    | 0 => exact Nat.le_refl _
    | 1 => exact Nat.le_refl _
    | 2 => exact hfit k
  have h4 : ∀ h : Fin 7, ∀ k : Fin (k0_t1_loop i v2).trips, ∀ a, (![0, 0, h.val, (Scalar.muli (Scf.iv v2 1#32 k.val) 256#32).toNat] : Fin 4 → Nat) a
      + S1x1x1x256.size a ≤ S1x1x8x8192.size a := by
    intro h k a
    match a with
    | 0 => exact Nat.le_refl _
    | 1 => exact Nat.le_refl _
    | 2 => show h.val + 1 ≤ 8; omega
    | 3 => exact hfit k
  have h4' : ∀ k : Fin (k0_t1_loop i v2).trips, ∀ a, (![0, 0, 0, (Scalar.muli (Scf.iv v2 1#32 k.val) 256#32).toNat] : Fin 4 → Nat) a
      + S1x1x128x256.size a ≤ S1x1x128x8192.size a := by
    intro k a
    match a with
    | 0 => exact Nat.le_refl _
    | 1 => exact Nat.le_refl _
    | 2 => exact Nat.le_refl _
    | 3 => exact hfit k
  have no {P : Fin (k0_t2_loop i v2).trips → Prop} : ∀ k, P k := fun k => (hno k).elim
  refine ⟨⟨hok, hmul, h3, h3', h4 0, hmul, h4 1, hmul, h4 2, hmul, h4 3, hmul, h4 4, hmul, h4 5, hmul, h4 6,
    hok2, no, no, no, no, no, no, no, no, no, no, no, no, no, no⟩,
    ⟨no, no, hok, hmul, h4', hmul, h3, h3', h4 0, hmul, h4 1, hmul, h4 2, hmul, h4 3, hmul, h4 4, hmul, h4 5,
    hmul, h4 6, hok2, no, no, no, no, no, no, no, no, no, no⟩,
    ⟨no, no, no, no, no, no, no, no⟩⟩

/-- The word that the body reads from the table at a grid point. -/
theorem word_eq (i : grid0.Coords) :
    tbM0_0.view.readAt (Elt F) (Rect.unit (s := S2x32) (k0_off1 i) S1x1.size (k0_off1_inb i)).toLoadRect (tbl m 0)
      (Shape.Idx.first (numel1_S1x1.symm ▸ Nat.one_pos)) = V m 0 main_v19 (ix2 (i 0) (i 2)) := by
  refine congrArg (V m 0 main_v19) (funext fun a => Fin.ext ?_)
  have h0 : (i 0).val < 2 := (i 0).isLt
  have h2 : (i 2).val < 32 := (i 2).isLt
  match a with
  | 0 => show (BitVec.ofNat 32 (i 0).val).toNat + 1 * 0 = (i 0).val; simp; omega
  | 1 => show (BitVec.ofNat 32 (i 2).val).toNat + 1 * 0 = (i 2).val; simp; omega

/-- The body's assumptions hold at every point: the table names blocks inside the arrays. -/
theorem hyps (hO : Ok m) : Hyps m hO := by
  refine Hyps.of fun c t => ?_
  unfold Hyps.p0
  refine chk_of_le _ _ ?_
  rw [word_eq]
  exact table_le_self m 0 (grid0.coords t 0) (grid0.coords t 2)

/-- The windows' block maps read nothing from the table. -/
theorem okay : Ok m := trivial

end Cert.KernelIdeal.Gen
-- ==== Proof.TableBits.lean ====
/- The same facts of the prefetched table for the kernel as printed. -/
module

public import proofs.«01_k».proof.Proof.Table
public import proofs.«01_k».proof.Proof.Gen.Kernel.Frame

@[expose] public section

namespace Cert.Kernel.Gen

open Idealize.ShloMosaic Idealize.ShloMosaic.TcCoe Cert.WordMath Cert.Segments

variable {F : FTy → Type} [FloatOps F]
variable (m : (ℓ : Loc nD τ sig) → Buf (Elt F) ℓ)

/-- The table's word for batch row `b` and query block `t` is at most `t`. -/
theorem table_le_self (c : Dev nD) (b : Fin 2) (t : Fin 32) : (V m c main_v19 (ix2 b t) : BitVec 32).toNat ≤ t.val := by
  have key : (V m c main_v19 (ix2 b t) : BitVec 32).toNat ≤ 256 * t.val / 256 := by
    refine word_le (m (c, Proc.tc.devRef main_arg7)) (Cert.KernelIdeal.Gen.sameSeg (m (c, Proc.tc.devRef main_arg7)))
      (Cert.KernelIdeal.Gen.sameSeg_apply _) reducesTo_S2x32x8192_S2x32_d2 h_S_ b t _ ?_ ⟨256 * t.val, by omega⟩ rfl
    unfold V V0
    simp only [hostOps0, hostOps0_1, hostOps0_2, hostOps0_3, hostOps0_4, hostOps0_5, hostOps0_6, List.flatten_cons,
      List.flatten_nil, List.append_nil, List.cons_append, List.nil_append]
    after_reads_at
    rfl
  simpa using key

/-- The word that the body reads from the table at a grid point. -/
theorem word_eq (i : grid0.Coords) :
    tbM0_0.view.readAt (Elt F) (Rect.unit (s := S2x32) (k0_off1 i) S1x1.size (k0_off1_inb i)).toLoadRect (tbl m 0)
      (Shape.Idx.first (numel1_S1x1.symm ▸ Nat.one_pos)) = V m 0 main_v19 (ix2 (i 0) (i 2)) := by
  refine congrArg (V m 0 main_v19) (funext fun a => Fin.ext ?_)
  have h0 : (i 0).val < 2 := (i 0).isLt
  have h2 : (i 2).val < 32 := (i 2).isLt
  match a with
  | 0 => show (BitVec.ofNat 32 (i 0).val).toNat + 1 * 0 = (i 0).val; simp; omega
  | 1 => show (BitVec.ofNat 32 (i 2).val).toNat + 1 * 0 = (i 2).val; simp; omega

/-- The body's assumptions hold at every point: the two readings assume the same of the word. -/
theorem hyps (hO : Ok m) : Hyps m hO := by
  refine Hyps.of fun c t => ?_
  unfold Hyps.p0
  rw [word_eq]
  exact Cert.KernelIdeal.Gen.chk_of_le (grid0.coords t) _ (table_le_self m 0 (grid0.coords t 0) (grid0.coords t 2))

/-- The windows' block maps read nothing from the table. -/
theorem okay : Ok m := trivial

end Cert.Kernel.Gen
-- ==== Proof.Attn.lean ====
/- The equation between the kernel's attention row and the reference's. The kernel works in units of the logarithm
   to base two and leaves the query's own gate out of its scores until the end; the reference works with the natural
   logarithm and divides every weight by the row's sum. -/
module

public import Idealize.ShloMosaic.PureOps.Ideal

@[expose] public section

noncomputable section

namespace Cert.Fox

open Idealize.ShloMosaic

theorem ln2_pos : (0 : ℝ) < Real.log 2 := Real.log_pos (by norm_num)

/-- The bits of the constants of either program, over the reals. -/
theorem two_ideal : Ideal.ofBits .f32 1073741824#32 = ((2 : ℝ) : EReal) := by
  simp [Ideal.ofBits, Ideal.ieee]
  rw [← EReal.coe_mul]
  norm_num

theorem low_ideal : Ideal.ofBits .f32 4286578688#32 = ⊥ := by
  simp [Ideal.ofBits, Ideal.ieee]

theorem zero_ideal : Ideal.ofBits .f32 0#32 = 0 := by
  simp [Ideal.ofBits, Ideal.ieee]

theorem log_two : Ideal.log ((2 : ℝ) : EReal) = ((Real.log 2 : ℝ) : EReal) := by
  rw [Ideal.log_coe, if_neg (by norm_num)]

/-- From the kernel's units to the reference's: the query's gate added, then natural logarithms. -/
def nat (cq : ℝ) (z : EReal) : EReal := (z + (cq : EReal)) * ((Real.log 2 : ℝ) : EReal)

theorem nat_bot (cq : ℝ) : nat cq ⊥ = ⊥ := by
  unfold nat
  rw [EReal.bot_add, EReal.bot_mul_coe_of_pos ln2_pos]

theorem nat_top (cq : ℝ) : nat cq ⊤ = ⊤ := by
  unfold nat
  rw [EReal.top_add_coe, EReal.top_mul_coe_of_pos ln2_pos]

theorem nat_coe (cq z : ℝ) : nat cq (z : EReal) = (((z + cq) * Real.log 2 : ℝ) : EReal) := rfl

theorem nat_mono (cq : ℝ) : Monotone (nat cq) := by
  intro a b h
  unfold nat
  exact mul_le_mul_of_nonneg_right (add_le_add_left h _) (by exact_mod_cast ln2_pos.le)

/-- A score in the kernel's units, taken to the reference's, is the reference's score. -/
theorem nat_score (X : EReal) (c cq : ℝ) :
    nat cq (X * (((Real.log 2)⁻¹ : ℝ) : EReal) - (c : EReal))
      = X + (((cq : EReal) * ((Real.log 2 : ℝ) : EReal)) - (c : EReal) * ((Real.log 2 : ℝ) : EReal)) := by
  have hL : (0 : ℝ) < (Real.log 2)⁻¹ := inv_pos.mpr ln2_pos
  have e : ((cq : EReal) * ((Real.log 2 : ℝ) : EReal)) - (c : EReal) * ((Real.log 2 : ℝ) : EReal)
      = ((cq * Real.log 2 - c * Real.log 2 : ℝ) : EReal) := rfl
  rw [e]
  induction X with
  | bot => rw [EReal.bot_mul_coe_of_pos hL, EReal.bot_sub, nat_bot, EReal.bot_add]
  | top => rw [EReal.top_mul_coe_of_pos hL, EReal.top_sub_coe, nat_top, EReal.top_add_coe]
  | coe x =>
    rw [← EReal.coe_mul, ← EReal.coe_sub, nat_coe, ← EReal.coe_add]
    congr 1
    have := ln2_pos.ne'
    field_simp
    ring

/-- A weight is the same in either units. -/
theorem exp_nat (cq : ℝ) (y M : EReal) : Ideal.exp (nat cq y - nat cq M) = Ideal.exp2 (y - M) := by
  induction y with
  | bot => rw [nat_bot, EReal.bot_sub, EReal.bot_sub]; rfl
  | top =>
    induction M with
    | bot => rw [nat_top, nat_bot]; rfl
    | top => rw [nat_top]; rfl
    | coe M => rw [nat_top, nat_coe, EReal.top_sub_coe, EReal.top_sub_coe]; rfl
  | coe y =>
    induction M with
    | bot => rw [nat_bot, nat_coe]; rfl
    | top => rw [nat_top]; rfl
    | coe M =>
      rw [nat_coe, nat_coe, ← EReal.coe_sub, ← EReal.coe_sub, Ideal.exp_coe, Ideal.exp2_coe]
      congr 1
      show _ = (2 : ℝ) ^ (y - M)
      rw [Real.rpow_def_of_pos (by norm_num)]
      congr 1
      ring

/-- The row's logarithm of the sum, in either units. -/
theorem nat_lse (cq : ℝ) (M t : EReal) :
    (M + t * (((Real.log 2)⁻¹ : ℝ) : EReal) + (cq : EReal)) * ((Real.log 2 : ℝ) : EReal) = nat cq M + t := by
  have hL : (0 : ℝ) < (Real.log 2)⁻¹ := inv_pos.mpr ln2_pos
  show nat cq _ = _
  induction M with
  | bot => rw [EReal.bot_add, nat_bot, EReal.bot_add]
  | top =>
    rw [nat_top]
    induction t with
    | bot => rw [EReal.bot_mul_coe_of_pos hL, EReal.add_bot, nat_bot]
    | top => rw [EReal.top_mul_coe_of_pos hL, EReal.top_add_top, nat_top]
    | coe t => rw [← EReal.coe_mul, EReal.top_add_coe, EReal.top_add_coe, nat_top]
  | coe M =>
    induction t with
    | bot => rw [EReal.bot_mul_coe_of_pos hL, EReal.add_bot, EReal.add_bot, nat_bot]
    | top => rw [EReal.top_mul_coe_of_pos hL, EReal.coe_add_top, nat_top, nat_coe, EReal.coe_add_top]
    | coe t =>
      rw [← EReal.coe_mul, ← EReal.coe_add, nat_coe, nat_coe, ← EReal.coe_add]
      congr 1
      have := ln2_pos.ne'
      field_simp
      ring

section Row

variable {ι : Type} [Fintype ι] (y : ι → EReal)

/-- The greatest of a row's scores. -/
def top : EReal := Finset.univ.sup y
/-- A key's weight. -/
def wt (j : ι) : EReal := Ideal.exp2 (y j - top y)
/-- The row's sum of weights. -/
def tot : EReal := ∑ j, wt y j

/-- A row's weights all vanish, or they are real numbers and their sum is a positive one. -/
theorem wt_cases : (∀ j, wt y j = 0) ∨ ∃ w : ι → ℝ, (∀ j, wt y j = (w j : EReal)) ∧ 0 < ∑ j, w j := by
  have hle : ∀ j, y j ≤ top y := fun j => Finset.le_sup (f := y) (Finset.mem_univ j)
  unfold wt
  rcases h : top y with _ | _ | M
  · left
    intro j
    have := hle j
    rw [h] at this
    rw [le_bot_iff.mp this]
    rfl
  · left
    intro j
    cases hy : y j <;> rfl
  · right
    have hne : (Finset.univ : Finset ι).Nonempty := by
      by_contra hc
      have : top y = ⊥ := by unfold top; rw [Finset.not_nonempty_iff_eq_empty.mp hc]; rfl
      rw [h] at this
      exact absurd this (EReal.coe_ne_bot M)
    obtain ⟨j0, _, hj0⟩ := Finset.exists_mem_eq_sup Finset.univ hne y
    have hw : ∀ j, ∃ w : ℝ, Ideal.exp2 (y j - (M : EReal)) = (w : EReal) ∧ 0 ≤ w := fun j => by
      have hj := hle j
      rw [h] at hj
      induction hy : y j with
      | bot => exact ⟨0, rfl, le_rfl⟩
      | top => rw [hy] at hj; exact absurd (top_le_iff.mp hj) (EReal.coe_ne_top M)
      | coe r =>
        refine ⟨Real.rpow 2 (r - M), ?_, Real.rpow_nonneg (by norm_num) _⟩
        rw [← EReal.coe_sub, Ideal.exp2_coe]
    choose w hw0 hw1 using hw
    refine ⟨w, hw0, ?_⟩
    refine lt_of_lt_of_le ?_ (Finset.single_le_sum (fun j _ => hw1 j) (Finset.mem_univ j0))
    have := hw0 j0
    rw [← hj0, show Finset.univ.sup y = (M : EReal) from h, ← EReal.coe_sub, Ideal.exp2_coe] at this
    have hr : w j0 = Real.rpow 2 (M - M) := (EReal.coe_eq_coe_iff.mp this).symm
    rw [hr]
    exact Real.rpow_pos_of_pos (by norm_num) _

theorem sum_mul_nonneg (f : ι → EReal) (r : ℝ) (hr : 0 ≤ r) : (∑ j, f j) * (r : EReal) = ∑ j, f j * (r : EReal) := by
  classical
  induction (Finset.univ : Finset ι) using Finset.induction_on with
  | empty => simp
  | insert a s ha ih =>
    rw [Finset.sum_insert ha, Finset.sum_insert ha, ← ih, mul_comm, mul_comm (f a), mul_comm (∑ j ∈ s, f j)]
    exact EReal.left_distrib_of_nonneg_of_ne_top (by exact_mod_cast hr) (EReal.coe_ne_top r) _ _

/-- The weighted mean of the values: the sum divided at the end, or every weight divided first. -/
theorem mean_eq (v : ι → EReal) : (∑ j, v j * wt y j) * Ideal.div 1 (tot y)
    = ∑ j, (if tot y = 0 then 0 else Ideal.div (wt y j) (tot y)) * v j := by
  rcases wt_cases y with h0 | ⟨w, hw, hpos⟩
  · have ht : tot y = 0 := by unfold tot; rw [Finset.sum_eq_zero fun j _ => h0 j]
    rw [ht]
    simp [h0]
  · have ht : tot y = ((∑ j, w j : ℝ) : EReal) := by
      unfold tot
      rw [Finset.sum_congr rfl fun j _ => hw j]
      exact (map_sum (⟨⟨Real.toEReal, rfl⟩, EReal.coe_add⟩ : ℝ →+ EReal) _ _).symm
    have hne : (∑ j, w j) ≠ 0 := hpos.ne'
    rw [ht, Ideal.div_coe hne, one_mul, sum_mul_nonneg _ _ (by positivity)]
    refine Finset.sum_congr rfl fun j _ => ?_
    rw [if_neg (by exact_mod_cast hne), Ideal.div_coe hne, mul_assoc, mul_comm]

end Row

section Units

variable {ι : Type} [Fintype ι] (y s : ι → EReal) (cq : ℝ) (h : ∀ j, nat cq (y j) = s j)
include h

theorem top_nat : Finset.univ.sup s = nat cq (top y) := by
  unfold top
  rw [Finset.comp_sup_eq_sup_comp_of_is_total (nat cq) (nat_mono cq) (nat_bot cq)]
  exact Finset.sup_congr rfl fun j _ => (h j).symm

theorem wt_nat (j : ι) : Ideal.exp (s j - Finset.univ.sup s) = wt y j := by
  rw [top_nat y s cq h, ← h j, exp_nat]
  rfl

theorem tot_nat : ∑ j, Ideal.exp (s j - Finset.univ.sup s) = tot y :=
  Finset.sum_congr rfl fun j _ => wt_nat y s cq h j

end Units

/-! ### The problem's mathematics in the arguments -/

/-- The arguments, head `7 g + h` of the queries sharing the key head `g`. -/
structure Args where
  /-- The queries' codes. -/
  q : Fin 2 → Fin 8192 → Fin 56 → Fin 128 → EReal
  /-- The queries' scales. -/
  qs : Fin 2 → Fin 56 → EReal
  /-- The keys' codes. -/
  k : Fin 2 → Fin 8192 → Fin 8 → Fin 128 → EReal
  /-- The keys' scales. -/
  ks : Fin 2 → Fin 8 → EReal
  /-- The values' codes. -/
  v : Fin 2 → Fin 8192 → Fin 8 → Fin 128 → EReal
  /-- The values' scales. -/
  vs : Fin 2 → Fin 8 → Fin 128 → EReal
  /-- The cumulated log gates in units of the logarithm to base two. -/
  c2 : Fin 2 → Fin 56 → Fin 8192 → EReal
  /-- The segments' numbers. -/
  seg : Fin 2 → Fin 8192 → BitVec 32

/-- The number of a head among all query heads. -/
def headI (g : Fin 8) (h : Fin 7) : Fin 56 := ⟨7 * g.val + h.val, by omega⟩

section

variable (a : Args) (b : Fin 2) (g : Fin 8) (h : Fin 7) (i : Fin 8192)

/-- A head's score scale: the product of its two scales and of the dot product's scale. -/
def scale : EReal := a.qs b (headI g h) * a.ks b g * Ideal.ofBits .f32 0x3DB504F3#32

/-- The dot product of a query and a key. -/
def dot (n : Fin 8192) : EReal := ∑ d, a.q b i (headI g h) d * a.k b n g d

/-- A query looks at a key of its own segment which does not come after it. -/
def Sees (n : Fin 8192) : Prop := a.seg b i = a.seg b n ∧ n.val ≤ i.val

open Classical in
/-- The kernel's score of a key. -/
def yK (n : Fin 8192) : EReal :=
  if Sees a b i n then dot a b g h i n * (scale a b g h * (((Real.log 2)⁻¹ : ℝ) : EReal)) - a.c2 b (headI g h) n else ⊥

open Classical in
/-- The reference's score of a key. -/
def sR (n : Fin 8192) : EReal :=
  if Sees a b i n then dot a b g h i n * scale a b g h
    + (a.c2 b (headI g h) i * ((Real.log 2 : ℝ) : EReal) - a.c2 b (headI g h) n * ((Real.log 2 : ℝ) : EReal)) else ⊥

/-- The reference's greatest score of a query's row. -/
def mR : EReal := Finset.univ.sup (sR a b g h i)
/-- The reference's weight of a key. -/
def eR (n : Fin 8192) : EReal := Ideal.exp (sR a b g h i n - mR a b g h i)
/-- The reference's sum of a row's weights. -/
def lR : EReal := ∑ n, eR a b g h i n

/-- The kernel's output. -/
def oK (d : Fin 128) : EReal :=
  (∑ n, a.v b n g d * wt (yK a b g h i) n) * Ideal.div 1 (tot (yK a b g h i)) * a.vs b g d
/-- The kernel's logarithm of the row's sum. -/
def lseK : EReal :=
  (top (yK a b g h i) + Ideal.log (tot (yK a b g h i)) * (((Real.log 2)⁻¹ : ℝ) : EReal) + a.c2 b (headI g h) i)
    * ((Real.log 2 : ℝ) : EReal)
/-- The reference's output. -/
def oR (d : Fin 128) : EReal :=
  (∑ n, a.v b n g d * (if lR a b g h i = 0 then 0 else Ideal.div (eR a b g h i n) (lR a b g h i))) * a.vs b g d
/-- The reference's logarithm of the row's sum. -/
def lseR : EReal := mR a b g h i + Ideal.log (lR a b g h i)

variable (cr : Fin 2 → Fin 56 → Fin 8192 → ℝ) (hc : ∀ b H n, a.c2 b H n = (cr b H n : EReal))
include hc

theorem nat_yK (n : Fin 8192) : nat (cr b (headI g h) i) (yK a b g h i n) = sR a b g h i n := by
  unfold yK sR
  split
  · rw [hc, hc, ← mul_assoc, nat_score]
  · exact nat_bot _

/-- Where the log gates are finite the kernel's logarithm of the sum is the reference's. -/
theorem lse_eq : lseK a b g h i = lseR a b g h i := by
  unfold lseK lseR mR lR eR mR
  rw [tot_nat _ _ _ (nat_yK a b g h i cr hc), top_nat _ _ _ (nat_yK a b g h i cr hc), hc, nat_lse]

/-- Where the log gates are finite the kernel's output is the reference's. -/
theorem o_eq (d : Fin 128) : oK a b g h i d = oR a b g h i d := by
  have hl : lR a b g h i = tot (yK a b g h i) := tot_nat _ _ _ (nat_yK a b g h i cr hc)
  have he : ∀ n, eR a b g h i n = wt (yK a b g h i) n := wt_nat _ _ _ (nat_yK a b g h i cr hc)
  unfold oK oR
  rw [mean_eq, hl]
  refine congrArg (· * a.vs b g d) (Finset.sum_congr rfl fun n _ => ?_)
  rw [he]
  exact mul_comm _ _

end

end Cert.Fox

end
-- ==== Proof.HostReads.lean ====
/- The arrays the pipeline finds, at coordinates: the program's arguments laid out anew, and the heads' score scales. -/
module

public import proofs.«01_k».proof.Proof.Attn
public import proofs.«01_k».proof.Proof.Gen.KernelIdeal.Frame
public import Idealize.ShloMosaic.Lib.StableHlo.ReadAt
public import Idealize.ShloMosaic.Lib.Pointwise

@[expose] public section

noncomputable section

namespace Cert.KernelIdeal.Gen

open Idealize.ShloMosaic Idealize.ShloMosaic.TcCoe Idealize.SL Idealize.SL.Sem

section

variable {F : FTy → Type} [FloatOps F] [Named F] (m : (ℓ : Loc nD τ sig) → Buf (Elt F) ℓ) (c : Dev nD)

/-- A query code as the pipeline finds it: heads side by side in the row. -/
theorem q_at (b : Fin 2) (n : Fin 8192) (H : Fin 56) (d : Fin 128) : V m c main_v20 (ix3 b n ⟨128 * H.val + d.val, by omega⟩) = m (c, Proc.tc.devRef main_arg0) (ix4 b n H d) := by
  unfold V V0
  simp only [hostOps0, hostOps0_1, hostOps0_2, hostOps0_3, hostOps0_4, hostOps0_5, hostOps0_6, List.flatten_cons,
    List.flatten_nil, List.append_nil, List.cons_append, List.nil_append]
  after_reads_at

/-- A key code as the pipeline finds it. -/
theorem k_at (b : Fin 2) (n : Fin 8192) (g : Fin 8) (d : Fin 128) : V m c main_v21 (ix3 b n ⟨128 * g.val + d.val, by omega⟩) = m (c, Proc.tc.devRef main_arg2) (ix4 b n g d) := by
  unfold V V0
  simp only [hostOps0, hostOps0_1, hostOps0_2, hostOps0_3, hostOps0_4, hostOps0_5, hostOps0_6, List.flatten_cons,
    List.flatten_nil, List.append_nil, List.cons_append, List.nil_append]
  after_reads_at

/-- A value code as the pipeline finds it: positions last. -/
theorem v_at (b : Fin 2) (g : Fin 8) (d : Fin 128) (n : Fin 8192) : V m c main_v22 (ix4 b g d n) = m (c, Proc.tc.devRef main_arg4) (ix4 b n g d) := by
  unfold V V0
  simp only [hostOps0, hostOps0_1, hostOps0_2, hostOps0_3, hostOps0_4, hostOps0_5, hostOps0_6, List.flatten_cons,
    List.flatten_nil, List.append_nil, List.cons_append, List.nil_append]
  after_reads_at

/-- A cumulated gate as the pipeline finds it: seven heads of eight rows. -/
theorem c_at (b : Fin 2) (g : Fin 8) (h : Fin 7) (n : Fin 8192) : V m c main_v1 (ix4 b g ⟨h.val, by omega⟩ n) = m (c, Proc.tc.devRef main_arg6) (ix3 b (Cert.Fox.headI g h) n) := by
  unfold V V0
  simp only [hostOps0, hostOps0_1, hostOps0_2, hostOps0_3, hostOps0_4, hostOps0_5, hostOps0_6, List.flatten_cons,
    List.flatten_nil, List.append_nil, List.cons_append, List.nil_append]
  after_reads_at
  pointwise
  exact congrArg (fun H => m (c, Proc.tc.devRef main_arg6) (ix3 b H n)) (Fin.ext (by show g.val * 7 + h.val = 7 * g.val + h.val; omega))

/-- A query's segment as the pipeline finds it. -/
theorem segq_at (b : Fin 2) (n : Fin 8192) : V m c main_v23 (ix3 b n 0) = m (c, Proc.tc.devRef main_arg7) (ix2 b n) := by
  unfold V V0
  simp only [hostOps0, hostOps0_1, hostOps0_2, hostOps0_3, hostOps0_4, hostOps0_5, hostOps0_6, List.flatten_cons,
    List.flatten_nil, List.append_nil, List.cons_append, List.nil_append]
  after_reads_at

/-- A key's segment as the pipeline finds it. -/
theorem segk_at (b : Fin 2) (n : Fin 8192) : V m c main_v24 (ix3 b 0 n) = m (c, Proc.tc.devRef main_arg7) (ix2 b n) := by
  unfold V V0
  simp only [hostOps0, hostOps0_1, hostOps0_2, hostOps0_3, hostOps0_4, hostOps0_5, hostOps0_6, List.flatten_cons,
    List.flatten_nil, List.append_nil, List.cons_append, List.nil_append]
  after_reads_at

/-- A value scale as the pipeline finds it. -/
theorem vs_at (b : Fin 2) (g : Fin 8) (d : Fin 128) : V m c main_v25 (ix4 b g 0 d) = m (c, Proc.tc.devRef main_arg5) (ix3 b g d) := by
  unfold V V0
  simp only [hostOps0, hostOps0_1, hostOps0_2, hostOps0_3, hostOps0_4, hostOps0_5, hostOps0_6, List.flatten_cons,
    List.flatten_nil, List.append_nil, List.cons_append, List.nil_append]
  after_reads_at

end

section

variable (m : (ℓ : Loc nD τ sig) → Buf (Elt Ideal) ℓ) (c : Dev nD)

/-- The arguments as plain functions. -/
def argsOf : Cert.Fox.Args where
  q b n H d := m (c, Proc.tc.devRef main_arg0) (ix4 b n H d)
  qs b H := m (c, Proc.tc.devRef main_arg1) (ix2 b H)
  k b n g d := m (c, Proc.tc.devRef main_arg2) (ix4 b n g d)
  ks b g := m (c, Proc.tc.devRef main_arg3) (ix2 b g)
  v b n g d := m (c, Proc.tc.devRef main_arg4) (ix4 b n g d)
  vs b g d := m (c, Proc.tc.devRef main_arg5) (ix3 b g d)
  c2 b H n := m (c, Proc.tc.devRef main_arg6) (ix3 b H n)
  seg b n := m (c, Proc.tc.devRef main_arg7) (ix2 b n)

/-- The score scale in units of the logarithm to base two. -/
theorem a_at (b : Fin 2) (g : Fin 8) (h : Fin 7) : V m c main_v11 (ix2 b (Cert.Fox.headI g h))
    = Cert.Fox.scale (argsOf m c) b g h * (((Real.log 2)⁻¹ : ℝ) : EReal) := by
  unfold V V0
  simp only [hostOps0, hostOps0_1, hostOps0_2, hostOps0_3, hostOps0_4, hostOps0_5, hostOps0_6, List.flatten_cons,
    List.flatten_nil, List.append_nil, List.cons_append, List.nil_append]
  after_reads_at
  unfold Cert.Fox.headI
  pointwise
  have e1 : (⟨(7 * g.val + h.val) / 7 * 7 + (7 * g.val + h.val) % 7, by omega⟩ : Fin 56) = ⟨7 * g.val + h.val, by omega⟩ :=
    Fin.ext (by show (7 * g.val + h.val) / 7 * 7 + (7 * g.val + h.val) % 7 = 7 * g.val + h.val; omega)
  have e2 : (⟨(7 * g.val + h.val) / 7, by omega⟩ : Fin 8) = g := Fin.ext (by show (7 * g.val + h.val) / 7 = g.val; omega)
  rw [e1, e2, Cert.Fox.two_ideal, Cert.Fox.log_two, Ideal.div_coe Cert.Fox.ln2_pos.ne', one_div]
  rfl

end

end Cert.KernelIdeal.Gen

end
-- ==== Proof.Windows.lean ====
/- The pipeline's blocks at coordinates: where an element of a window's block lies in the array. -/
module

public import proofs.«01_k».proof.Proof.Gen.KernelIdeal.Frame
public import Idealize.ShloMosaic.Lib.Pointwise
public import Idealize.ShloMosaic.Lib.Pipeline.ValueKit

@[expose] public section

noncomputable section

namespace Cert.KernelIdeal.Gen

open Idealize.ShloMosaic Idealize.ShloMosaic.TcCoe Idealize.SL Idealize.SL.Sem

section

variable (i : grid0.Coords)

/-- The batch, the group of heads and the block of queries of a point. -/
def bI : Fin 2 := ⟨(i 0).val, (i 0).isLt⟩
def gI : Fin 8 := ⟨(i 1).val, (i 1).isLt⟩
def tI : Fin 32 := ⟨(i 2).val, (i 2).isLt⟩
/-- The position of a block's query row. -/
def rowI (r : Fin 256) : Fin 8192 := ⟨256 * (i 2).val + r.val, by have h : (i 2).val < 32 := (i 2).isLt; omega⟩
/-- The column of a group's query entry, and of its key entry. -/
def colI (d : Fin 896) : Fin 7168 := ⟨896 * (i 1).val + d.val, by have h : (i 1).val < 8 := (i 1).isLt; omega⟩
def keyI (d : Fin 128) : Fin 1024 := ⟨128 * (i 1).val + d.val, by have h : (i 1).val < 8 := (i 1).isLt; omega⟩

theorem small0 : (i 0).val < 4294967296 := by have h : (i 0).val < 2 := (i 0).isLt; omega
theorem small1 : (i 1).val < 4294967296 := by have h : (i 1).val < 8 := (i 1).isLt; omega
theorem small2 : (i 2).val < 4294967296 := by have h : (i 2).val < 32 := (i 2).isLt; omega

theorem transform_0 : cc0_transform_0 i = ![(i 0).val, (i 2).val, (i 1).val] := by
  unfold cc0_transform_0
  simp [small0, small1, small2]

theorem transform_1 : cc0_transform_1 i = ![(i 0).val, 0, (i 1).val] := by
  unfold cc0_transform_1
  simp [small0, small1, small2]

theorem transform_2 : cc0_transform_2 i = ![(i 0).val, (i 1).val, 0, 0] := by
  unfold cc0_transform_2
  simp [small0, small1, small2]

theorem transform_3 : cc0_transform_3 i = ![(i 0).val, (i 1).val, 0, 0] := by
  unfold cc0_transform_3
  simp [small0, small1, small2]

theorem transform_4 : cc0_transform_4 i = ![(i 0).val, (i 2).val, 0] := by
  unfold cc0_transform_4
  simp [small0, small1, small2]

theorem transform_5 : cc0_transform_5 i = ![(i 0).val, 0, 0] := by
  unfold cc0_transform_5
  simp [small0, small1, small2]

theorem transform_6 : cc0_transform_6 i = ![(i 0).val, (i 1).val, 0, 0] := by
  unfold cc0_transform_6
  simp [small0, small1, small2]

theorem transform_7 : cc0_transform_7 i = ![0, 0] := by
  unfold cc0_transform_7
  simp [small0, small1, small2]

theorem transform_8 : cc0_transform_8 i = ![(i 0).val, (i 2).val, (i 1).val] := by
  unfold cc0_transform_8
  simp [small0, small1, small2]

theorem transform_9 : cc0_transform_9 i = ![(i 0).val, (i 1).val, 0, (i 2).val] := by
  unfold cc0_transform_9
  simp [small0, small1, small2]

end

variable {F : FTy → Type} [FloatOps F] [Named F] (m : (ℓ : Loc nD τ sig) → Buf (Elt F) ℓ) (hO : Ok m) (c : Dev nD) (t : Fin (cfgM m hO).N)

theorem blk0 (r : Fin 256) (d : Fin 896) : iblk m hO c 0 t (ix3 0 r d) = V m c main_v20 (ix3 (bI (grid0.coords t)) (rowI (grid0.coords t) r) (colI (grid0.coords t) d)) := by
  refine congrArg (V m c main_v20) (funext fun (a : Fin 3) => Fin.ext ?_)
  refine (Pipeline.Window.rect_emb_val ((cfgM m hO).win 0) t (ix3 0 r d) a).trans ?_
  show cc0_transform_0 (grid0.coords t) a * S1x256x896.size a + ((ix3 0 r d : S1x256x896.Idx) a).val = _
  rw [transform_0]
  fin_cases a <;> simp [bI, gI, rowI, colI, keyI, Nat.mul_comm]

theorem blk1 (n : Fin 8192) (d : Fin 128) : iblk m hO c 1 t (ix3 0 n d) = V m c main_v21 (ix3 (bI (grid0.coords t)) n (keyI (grid0.coords t) d)) := by
  refine congrArg (V m c main_v21) (funext fun (a : Fin 3) => Fin.ext ?_)
  refine (Pipeline.Window.rect_emb_val ((cfgM m hO).win 1) t (ix3 0 n d) a).trans ?_
  show cc0_transform_1 (grid0.coords t) a * S1x8192x128.size a + ((ix3 0 n d : S1x8192x128.Idx) a).val = _
  rw [transform_1]
  fin_cases a <;> simp [bI, gI, rowI, colI, keyI, Nat.mul_comm]

theorem blk2 (d : Fin 128) (n : Fin 8192) : iblk m hO c 2 t (ix4 0 0 d n) = V m c main_v22 (ix4 (bI (grid0.coords t)) (gI (grid0.coords t)) d n) := by
  refine congrArg (V m c main_v22) (funext fun (a : Fin 4) => Fin.ext ?_)
  refine (Pipeline.Window.rect_emb_val ((cfgM m hO).win 2) t (ix4 0 0 d n) a).trans ?_
  show cc0_transform_2 (grid0.coords t) a * S1x1x128x8192.size a + ((ix4 0 0 d n : S1x1x128x8192.Idx) a).val = _
  rw [transform_2]
  fin_cases a <;> simp [bI, gI, rowI, colI, keyI, Nat.mul_comm]

theorem blk3 (h : Fin 8) (n : Fin 8192) : iblk m hO c 3 t (ix4 0 0 h n) = V m c main_v1 (ix4 (bI (grid0.coords t)) (gI (grid0.coords t)) h n) := by
  refine congrArg (V m c main_v1) (funext fun (a : Fin 4) => Fin.ext ?_)
  refine (Pipeline.Window.rect_emb_val ((cfgM m hO).win 3) t (ix4 0 0 h n) a).trans ?_
  show cc0_transform_3 (grid0.coords t) a * S1x1x8x8192.size a + ((ix4 0 0 h n : S1x1x8x8192.Idx) a).val = _
  rw [transform_3]
  fin_cases a <;> simp [bI, gI, rowI, colI, keyI, Nat.mul_comm]

theorem blk4 (r : Fin 256) : iblk m hO c 4 t (ix3 0 r 0) = V m c main_v23 (ix3 (bI (grid0.coords t)) (rowI (grid0.coords t) r) 0) := by
  refine congrArg (V m c main_v23) (funext fun (a : Fin 3) => Fin.ext ?_)
  refine (Pipeline.Window.rect_emb_val ((cfgM m hO).win 4) t (ix3 0 r 0) a).trans ?_
  show cc0_transform_4 (grid0.coords t) a * S1x256x1.size a + ((ix3 0 r 0 : S1x256x1.Idx) a).val = _
  rw [transform_4]
  fin_cases a <;> simp [bI, gI, rowI, colI, keyI, Nat.mul_comm]

theorem blk5 (n : Fin 8192) : iblk m hO c 5 t (ix3 0 0 n) = V m c main_v24 (ix3 (bI (grid0.coords t)) 0 n) := by
  refine congrArg (V m c main_v24) (funext fun (a : Fin 3) => Fin.ext ?_)
  refine (Pipeline.Window.rect_emb_val ((cfgM m hO).win 5) t (ix3 0 0 n) a).trans ?_
  show cc0_transform_5 (grid0.coords t) a * S1x1x8192.size a + ((ix3 0 0 n : S1x1x8192.Idx) a).val = _
  rw [transform_5]
  fin_cases a <;> simp [bI, gI, rowI, colI, keyI, Nat.mul_comm]

theorem blk6 (d : Fin 128) : iblk m hO c 6 t (ix4 0 0 0 d) = V m c main_v25 (ix4 (bI (grid0.coords t)) (gI (grid0.coords t)) 0 d) := by
  refine congrArg (V m c main_v25) (funext fun (a : Fin 4) => Fin.ext ?_)
  refine (Pipeline.Window.rect_emb_val ((cfgM m hO).win 6) t (ix4 0 0 0 d) a).trans ?_
  show cc0_transform_6 (grid0.coords t) a * S1x1x1x128.size a + ((ix4 0 0 0 d : S1x1x1x128.Idx) a).val = _
  rw [transform_6]
  fin_cases a <;> simp [bI, gI, rowI, colI, keyI, Nat.mul_comm]

theorem blk7 (b : Fin 2) (H : Fin 56) : iblk m hO c 7 t (ix2 b H) = V m c main_v11 (ix2 b H) := by
  refine congrArg (V m c main_v11) (funext fun (a : Fin 2) => Fin.ext ?_)
  refine (Pipeline.Window.rect_emb_val ((cfgM m hO).win 7) t (ix2 b H) a).trans ?_
  show cc0_transform_7 (grid0.coords t) a * S2x56.size a + ((ix2 b H : S2x56.Idx) a).val = _
  rw [transform_7]
  fin_cases a <;> simp [bI, gI, rowI, colI, keyI, Nat.mul_comm]

end Cert.KernelIdeal.Gen

end
-- ==== Proof.Block.lean ====
/- What the kernel's body computes for one head from the blocks it has read, each step as one function: the masked
   scores of a key block, the running maximum, the exponentials, the running sum and the running product with the
   values, and the head's results. The seven heads of a group are seven instances of these functions. -/
module

public import proofs.«01_k».proof.Proof.Gen.KernelIdeal.Frame

@[expose] public section

noncomputable section

namespace Cert.KernelIdeal.Gen

open Idealize.ShloMosaic Idealize.ShloMosaic.TcCoe

variable {F : FTy → Type} [FloatOps F] [Named F]

/-- The row numbers and the column numbers of a block of scores. -/
abbrev rows : IVec S256x256 32 := iota .tc S256x256 32 [0] iota_S256x256_d0_w32
abbrev cols : IVec S256x256 32 := iota .tc S256x256 32 [1] iota_S256x256_d1_w32

/-- The mask of a block: equal segments, and the key's position at most the query's. -/
def maskBlk (i : grid0.Coords) (a17 : BitVec 32) (sq : Vec F S1x256x1 .i32) (sk : Vec F S1x1x256 .i32) : IVec S256x256 1 :=
  andi
    (cmpi .eq (broadcastTo S256x256 (shapeCast S256x1 sq shapeCasts_S1x256x1_S256x1) broadcasts_S256x1_S256x256)
      (broadcastTo S256x256 (shapeCast S1x256 sk shapeCasts_S1x1x256_S1x256) broadcasts_S1x256_S256x256))
    (cmpi .sle
      (addi cols (broadcast S256x256 (Scalar.muli (Scalar.subi a17 (BitVec.ofNat 32 (i 2).val)) 256#32))) rows)

/-- The scores of a block: the products of queries and keys, scaled, less the keys' gates. -/
def rawBlk (q k : Vec F S1x256x128 .fp8e4m3) (a : Elt F .f32) (g : Vec F S1x1x1x256 .f32) : FVec F S256x256 .f32 :=
  subf
    (mulf
      (matmul dot_S256x128_S256x128_S256x256_1_1_0_0_n_n none (shapeCast S256x128 q shapeCasts_S1x256x128_S256x128)
        (shapeCast S256x128 k shapeCasts_S1x256x128_S256x128) (constant S256x256 .f32 0x00000000#32))
      (broadcast S256x256 a))
    (broadcastTo S256x256 (shapeCast S1x256 g shapeCasts_S1x1x1x256_S1x256) broadcasts_S1x256_S256x256)

/-- The masked scores of a block. -/
def scoreBlk (i : grid0.Coords) (a17 : BitVec 32) (q k : Vec F S1x256x128 .fp8e4m3) (sq : Vec F S1x256x1 .i32)
    (sk : Vec F S1x1x256 .i32) (a : Elt F .f32) (g : Vec F S1x1x1x256 .f32) : FVec F S256x256 .f32 :=
  select (maskBlk (F := F) i a17 sq sk) (rawBlk q k a g) (broadcast S256x256 (Scalar.ofBits .f32 0xFF800000#32))

/-- The running maximum after a block, per row and lane: the block's two halves are folded onto the lanes. -/
def maxPay (s : FVec F S256x256 .f32) (m : Vec F S1x256x128 .f32) : FVec F S1x256x128 .f32 :=
  shapeCast S1x256x128
    (maximumf (shapeCast S256x128 m shapeCasts_S1x256x128_S256x128)
      (maximumf (extractStridedSlice S256x128 ![0, 0] s slices_S256x256_o0_0_S256x128)
        (extractStridedSlice S256x128 ![0, 128] s slices_S256x256_o0_128_S256x128)))
    shapeCasts_S256x128_S1x256x128

/-- The exponentials of a block's scores less the row's maximum. -/
def expBlk (s : FVec F S256x256 .f32) (m : Vec F S1x256x128 .f32) : FVec F S256x256 .f32 :=
  exp2 (subf s (concatenate S256x256 1
    [⟨S256x128, shapeCast S256x128 m shapeCasts_S1x256x128_S256x128⟩,
     ⟨S256x128, shapeCast S256x128 m shapeCasts_S1x256x128_S256x128⟩] concatenates_S256x128_S256x128_S256x256_d1))

/-- The running sum after a block, per row and lane. -/
def sumPay (e : FVec F S256x256 .f32) (l : Vec F S1x256x128 .f32) : FVec F S1x256x128 .f32 :=
  shapeCast S1x256x128
    (addf (shapeCast S256x128 l shapeCasts_S1x256x128_S256x128)
      (addf (extractStridedSlice S256x128 ![0, 0] e slices_S256x256_o0_0_S256x128)
        (extractStridedSlice S256x128 ![0, 128] e slices_S256x256_o0_128_S256x128)))
    shapeCasts_S256x128_S1x256x128

/-- The running product with the values after a block, transposed. -/
def accPay (v : Vec F S1x1x128x256 .fp8e4m3) (e : FVec F S256x256 .f32) (o : Vec F S1x128x256 .f32) : FVec F S1x128x256 .f32 :=
  shapeCast S1x128x256
    (addf (shapeCast S128x256 o shapeCasts_S1x128x256_S128x256)
      (matmul dot_S128x256_S256x256_S128x256_1_1_0_0_n_n none
        (extf .bf16 (shapeCast S128x256 v shapeCasts_S1x1x128x256_S128x256) bitsLt_fp8e4m3_bf16)
        (truncf .bf16 e bitsLt_bf16_f32) (constant S128x256 .f32 0x00000000#32)))
    shapeCasts_S128x256_S1x128x256

/-- The row's maximum, on every lane. -/
def rowMaxPay (m : Vec F S1x256x128 .f32) : FVec F S1x256x128 .f32 :=
  shapeCast S1x256x128
    (broadcastTo S256x128
      (shapeCast S256x1
        (shapeCast S256x1
          (multiReduction .maximumf [1] S256 (shapeCast S256x128 m shapeCasts_S1x256x128_S256x128) 0xFF800000#32
            reduces_S256x128_S256 (.inl rfl) rfl) shapeCasts_S256_S256x1) shapeCasts_S256x1_S256x1)
      broadcasts_S256x1_S256x128)
    shapeCasts_S256x128_S1x256x128

/-- The row's sum. -/
def rowSum (l : Vec F S1x256x128 .f32) : FVec F S256x1 .f32 :=
  shapeCast S256x1
    (multiReduction .add [1] S256 (shapeCast S256x128 l shapeCasts_S1x256x128_S256x128) 0x00000000#32
      reduces_S256x128_S256 (.inl rfl) rfl) shapeCasts_S256_S256x1

/-- The head's result rows. -/
def outPay (l : Vec F S1x256x128 .f32) (o : Vec F S1x128x256 .f32) (vs : Vec F S1x1x1x128 .f32) : FVec F S1x256x128 .bf16 :=
  shapeCast S1x256x128
    (truncf .bf16
      (mulf
        (mulf
          (transpose S256x128 [1, 0] (shapeCast S128x256 o shapeCasts_S1x128x256_S128x256)
            transposes_S128x256_p1_0_S256x128)
          (broadcastTo S256x128 (divf (broadcast S256x1 (Scalar.ofBits .f32 0x3F800000#32)) (rowSum l))
            broadcasts_S256x1_S256x128))
        (broadcastTo S256x128 (shapeCast S1x128 vs shapeCasts_S1x1x1x128_S1x128) broadcasts_S1x128_S256x128))
      bitsLt_bf16_f32)
    shapeCasts_S256x128_S1x256x128

/-- One head's column of the logarithms of the sums, put into the columns found before. -/
def lseStep (h : BitVec 32) (m l : Vec F S1x256x128 .f32) (prev : FVec F S256x128 .f32) : FVec F S256x128 .f32 :=
  select (cmpi .eq (iota .tc S256x128 32 [1] iota_S256x128_d1_w32) (broadcast S256x128 h))
    (addf (shapeCast S256x128 m shapeCasts_S1x256x128_S256x128)
      (broadcastTo S256x128 (mulf (log (rowSum l)) (broadcast S256x1 (Named.named κ "log2e" 0x3FB8AA3B#32)))
        broadcasts_S256x1_S256x128))
    prev

/-- The eight rows of the second result, from the heads' columns. -/
def lsePay (t : FVec F S256x128 .f32) (g : Vec F S1x1x8x256 .f32) : FVec F S1x1x8x256 .f32 :=
  k0_pay1 (transpose S128x256 [1, 0] t transposes_S256x128_p1_0_S128x256) g

end Cert.KernelIdeal.Gen

end
-- ==== Proof.Trips.lean ====
/- What one trip of each of the body's two loops writes: for the running maximum, and for the running sum and product,
   the seven heads' blocks, each the head's function (Block.lean) of what the trip reads. -/
module

public import proofs.«01_k».proof.Proof.Block

@[expose] public section

noncomputable section

namespace Cert.KernelIdeal.Gen

open Idealize.ShloMosaic Idealize.ShloMosaic.TcCoe Idealize.SL Idealize.SL.Sem

variable {F : FTy → Type} [FloatOps F] [Named F]

/-- The first key of the block that trip `k` of a loop starting at block `v2` handles. -/
def colAt (v2 : BitVec 32) (k : ℕ) : ℕ := (Scalar.muli (Scf.iv v2 1#32 k) 256#32).toNat

theorem col_le {i : grid0.Coords} {v2 : BitVec 32} (hw : k0_chk1 i v2) (k : Fin (k0_t1_loop i v2).trips) :
    colAt v2 k.val + 256 ≤ 8192 := hw.1.2.2.1 k 1

theorem col_le' {i : grid0.Coords} {v2 : BitVec 32} (hw : k0_chk1 i v2) (k : Fin (k0_t3_loop i v2).trips) :
    colAt v2 k.val + 256 ≤ 8192 := hw.2.1.2.2.2.2.2.2.1 k 1

/-! ### The blocks the body reads -/

theorem q_inb (h : Fin 7) : ∀ a, (![0, 0, 128 * h.val] : Fin 3 → ℕ) a + S1x256x128.size a ≤ S1x256x896.size a := by
  revert h; decide
theorem k_inb {n : ℕ} (hn : n + 256 ≤ 8192) : ∀ a, (![0, n, 0] : Fin 3 → ℕ) a + S1x256x128.size a ≤ S1x8192x128.size a := by
  intro a; fin_cases a
  · exact Nat.le_refl 1
  · exact hn
  · exact Nat.le_refl 128
theorem s_inb {n : ℕ} (hn : n + 256 ≤ 8192) : ∀ a, (![0, 0, n] : Fin 3 → ℕ) a + S1x1x256.size a ≤ S1x1x8192.size a := by
  intro a; fin_cases a
  · exact Nat.le_refl 1
  · exact Nat.le_refl 1
  · exact hn
theorem g_inb (h : Fin 7) {n : ℕ} (hn : n + 256 ≤ 8192) :
    ∀ a, (![0, 0, h.val, n] : Fin 4 → ℕ) a + S1x1x1x256.size a ≤ S1x1x8x8192.size a := by
  intro a; fin_cases a
  · exact Nat.le_refl 1
  · exact Nat.le_refl 1
  · exact Nat.succ_le_of_lt (Nat.lt_succ_of_lt h.isLt)
  · exact hn
theorem v_inb {n : ℕ} (hn : n + 256 ≤ 8192) :
    ∀ a, (![0, 0, 0, n] : Fin 4 → ℕ) a + S1x1x128x256.size a ≤ S1x1x128x8192.size a := by
  intro a; fin_cases a
  · exact Nat.le_refl 1
  · exact Nat.le_refl 1
  · exact Nat.le_refl 128
  · exact hn
theorem row_inb (h : Fin 7) : ∀ a, (![h.val, 0, 0] : Fin 3 → ℕ) a + S1x256x128.size a ≤ S7x256x128.size a := by
  revert h; decide
theorem acc_inb (h : Fin 7) : ∀ a, (![h.val, 0, 0] : Fin 3 → ℕ) a + S1x128x256.size a ≤ S7x128x256.size a := by
  revert h; decide

/-- Head `h`'s block of a scratch array. -/
abbrev rowR (h : Fin 7) : Rect S7x256x128 := Rect.unit ![h.val, 0, 0] S1x256x128.size (row_inb h)
abbrev accR (h : Fin 7) : Rect S7x128x256 := Rect.unit ![h.val, 0, 0] S1x128x256.size (acc_inb h)

/-- Head `h`'s masked scores of the block of keys from `n` on, the block of queries and all keys, gates, segments and
    scales given. -/
def scoreH (i : grid0.Coords) (a17 : BitVec 32) (n : ℕ) (hn : n + 256 ≤ 8192) (x0 : Vec F S1x256x896 .fp8e4m3)
    (x1 : Vec F S1x8192x128 .fp8e4m3) (x3 : Vec F S1x1x8x8192 .f32) (sq : Vec F S1x256x1 .i32) (x5 : Vec F S1x1x8192 .i32)
    (x7 : Vec F S2x56 .f32) (h : Fin 7) : FVec F S256x256 .f32 :=
  scoreBlk i a17 (View.ld x0 (Rect.unit ![0, 0, 128 * h.val] S1x256x128.size (q_inb h)))
    (View.ld x1 (Rect.unit ![0, n, 0] S1x256x128.size (k_inb hn))) sq
    (View.ld x5 (Rect.unit ![0, 0, n] S1x1x256.size (s_inb hn)))
    (View.ld x7 (Rect.unit (k0_off4 i (BitVec.ofNat 32 h.val)) S1x1.size (k0_off4_inb i h))
      (Shape.Idx.first (numel1_S1x1.symm ▸ Nat.one_pos)))
    (View.ld x3 (Rect.unit ![0, 0, h.val, n] S1x1x1x256.size (g_inb h hn)))

variable (𝒱 : Variants) (c : Dev nD) (bd : Option 𝒱.V) (i : grid0.Coords)
  (arg3 : Memref sig .tc .smem S2x32 .i32) (harg3 : arg3.IsWhole)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (v2 : Elt F .i32) (k0_hw1 : k0_chk1 i v2)

/-- The blocks the first loop's trip `k` writes, newest first: the running maximum of every head. -/
theorem tripL_t1_eq (v5 : Vec F S1x256x1 .i32) (X4 : BufTy.Contents (Elt F) arg4.view.ty)
    (X5 : BufTy.Contents (Elt F) arg5.view.ty) (X7 : BufTy.Contents (Elt F) arg7.view.ty)
    (X9 : BufTy.Contents (Elt F) arg9.view.ty) (X11 : BufTy.Contents (Elt F) arg11.view.ty)
    (k : Fin (k0_t1_loop i v2).trips) (acc : BitVec 32) (f : BufTy.Contents (Elt F) arg14.view.ty) :
    tripL_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16
        (BitVec.ofNat 32 (i 0).val) (BitVec.ofNat 32 (i 1).val) (BitVec.ofNat 32 (i 2).val) v2 k0_hw1 rows cols v5
        X4 X5 X7 X9 X11 k acc f
      = ([6, 5, 4, 3, 2, 1, 0] : List (Fin 7)).map (fun h => (⟨rowR h,
          maxPay (scoreH i (Scf.iv v2 1#32 k.val) (colAt v2 k.val) (col_le k0_hw1 k) (arg4.view.read (Elt F) X4)
              (arg5.view.read (Elt F) X5) (arg7.view.read (Elt F) X7) v5 (arg9.view.read (Elt F) X9)
              (arg11.view.read (Elt F) X11) h)
            (View.ld (arg14.view.read (Elt F) f) (rowR h))⟩ : View.Piece (Elt F) S7x256x128 .f32)) := by
  unfold tripL_k0_t1 trip_k0_t1
  dsimp only
  rfl

/-- The blocks the second loop's trip `k` writes, newest first: the running sum of every head, and the running product
    with the values. -/
theorem tripL_t3_eq (v5 : Vec F S1x256x1 .i32) (c0 c1 v93 : BitVec 32) (X4 : BufTy.Contents (Elt F) arg4.view.ty)
    (X5 : BufTy.Contents (Elt F) arg5.view.ty) (X6 : BufTy.Contents (Elt F) arg6.view.ty)
    (X7 : BufTy.Contents (Elt F) arg7.view.ty)
    (X9 : BufTy.Contents (Elt F) arg9.view.ty) (X11 : BufTy.Contents (Elt F) arg11.view.ty)
    (X14 : BufTy.Contents (Elt F) arg14.view.ty)
    (k : Fin (k0_t3_loop i v2).trips) (acc : BitVec 32) (f : BufTy.Contents (Elt F) arg15.view.ty)
    (g : BufTy.Contents (Elt F) arg16.view.ty) :
    tripL_k0_t3 𝒱 c bd i arg3 harg3 arg4 harg4 arg5 harg5 arg6 harg6 arg7 harg7 arg8 harg8 arg9 harg9 arg10 harg10 arg11 harg11 arg12 harg12 arg13 harg13 arg14 harg14 arg15 harg15 arg16 harg16
        (BitVec.ofNat 32 (i 0).val) (BitVec.ofNat 32 (i 1).val) (BitVec.ofNat 32 (i 2).val) v2 k0_hw1 rows cols
        (shapeCast S256x1 v5 shapeCasts_S1x256x1_S256x1) c0 c1 v93 X4 X5 X6 X7 X9 X11 X14 k acc f g
      = (([6, 5, 4, 3, 2, 1, 0] : List (Fin 7)).map (fun h => (⟨rowR h,
          sumPay (expBlk (scoreH i (Scf.iv v2 1#32 k.val) (colAt v2 k.val) (col_le' k0_hw1 k)
              (arg4.view.read (Elt F) X4)
              (arg5.view.read (Elt F) X5) (arg7.view.read (Elt F) X7) v5 (arg9.view.read (Elt F) X9)
              (arg11.view.read (Elt F) X11) h) (View.ld (arg14.view.read (Elt F) X14) (rowR h)))
            (View.ld (arg15.view.read (Elt F) f) (rowR h))⟩ : View.Piece (Elt F) S7x256x128 .f32)),
        ([6, 5, 4, 3, 2, 1, 0] : List (Fin 7)).map (fun h => (⟨accR h,
          accPay (View.ld (arg6.view.read (Elt F) X6)
              (Rect.unit ![0, 0, 0, colAt v2 k.val] S1x1x128x256.size (v_inb (col_le' k0_hw1 k))))
            (expBlk (scoreH i (Scf.iv v2 1#32 k.val) (colAt v2 k.val) (col_le' k0_hw1 k)
              (arg4.view.read (Elt F) X4)
              (arg5.view.read (Elt F) X5) (arg7.view.read (Elt F) X7) v5 (arg9.view.read (Elt F) X9)
              (arg11.view.read (Elt F) X11) h) (View.ld (arg14.view.read (Elt F) X14) (rowR h)))
            (View.ld (arg16.view.read (Elt F) g) (accR h))⟩ : View.Piece (Elt F) S7x128x256 .f32))) := by
  unfold tripL_k0_t3 trip_k0_t3
  dsimp only
  rfl

end Cert.KernelIdeal.Gen

end
-- ==== Proof.Run.lean ====
/- What the body leaves in its scratch arrays and its outputs, as the lists of the blocks it writes, over the heads'
   functions of Block.lean. -/
module

public import proofs.«01_k».proof.Proof.Trips

@[expose] public section

noncomputable section

namespace Cert.KernelIdeal.Gen

open Idealize.ShloMosaic Idealize.ShloMosaic.TcCoe Idealize.SL Idealize.SL.Sem

variable {F : FTy → Type} [FloatOps F] [Named F]

/-- The word of the table that the body reads: the first key block of its query block. -/
abbrev word0 (c : Dev nD) (i : grid0.Coords) (xt0 : TbBuf0 (F := F) c tbM0_0) : Elt F .i32 :=
  tbM0_0.view.readAt (Elt F) (Rect.unit (s := S2x32) (k0_off1 i) S1x1.size (k0_off1_inb i)).toLoadRect xt0
    (Shape.Idx.first (numel1_S1x1.symm ▸ Nat.one_pos))

/-- The starting contents of the three scratch arrays. -/
abbrev init14 : List (View.Piece (Elt F) S7x256x128 .f32) :=
  [⟨Rect.unit ![0, 0, 0] S7x256x128.size inb_S7x256x128_S7x256x128_0_0_0, k0_pay115⟩]
abbrev init15 : List (View.Piece (Elt F) S7x256x128 .f32) :=
  [⟨Rect.unit ![0, 0, 0] S7x256x128.size inb_S7x256x128_S7x256x128_0_0_0, k0_pay116⟩]
abbrev init16 : List (View.Piece (Elt F) S7x128x256 .f32) :=
  [⟨Rect.unit ![0, 0, 0] S7x128x256.size inb_S7x128x256_S7x128x256_0_0_0, k0_pay117⟩]

/-- A head's rows replaced by their maxima. -/
abbrev rowStep (v : View sig .tc .vmem S7x256x128 .f32) (L : List (View.Piece (Elt F) S7x256x128 .f32)) (h : Fin 7) :
    List (View.Piece (Elt F) S7x256x128 .f32) :=
  ⟨rowR h, rowMaxPay (v.readCov L (rowR h).toLoadRect)⟩ :: L

theorem o_inb (h : Fin 7) : ∀ a, (![0, 0, 128 * h.val] : Fin 3 → ℕ) a + S1x256x128.size a ≤ S1x256x896.size a := q_inb h

/-- What is written of the running maxima by the first loop, by its remainder, and once the rows' maxima are taken. -/
def maxL0 (c : Dev nD) (i : grid0.Coords)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (x0 : Vec F S1x256x896 .fp8e4m3) (x1 : Vec F S1x8192x128 .fp8e4m3) (x2 : Vec F S1x1x128x8192 .fp8e4m3)
  (x3 : Vec F S1x1x8x8192 .f32) (x4 : Vec F S1x256x1 .i32) (x5 : Vec F S1x1x8192 .i32) (x6 : Vec F S1x1x1x128 .f32)
  (x7 : Vec F S2x56 .f32) (xt0 : TbBuf0 (F := F) c tbM0_0) (hw : k0_chk1 i (word0 c i xt0)) : List (View.Piece (Elt F) S7x256x128 .f32) :=
  (st_k0_t1 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) (word0 c i xt0) hw rows cols (arg8.view.readAt (Elt F) (Rect.unit ![0, 0, 0] S1x256x1.size inb_S1x256x1_S1x256x1_0_0_0).toLoadRect (harg8.unread x4)) (harg4.unread x0) (harg5.unread x1) (harg7.unread x3) (harg9.unread x5) (harg11.unread x7) (arg14.view.writes (Elt F) arg14.view.junk init14) 0#32 (Scf.trips (k0_t1_loop i (word0 c i xt0)).lb (k0_t1_loop i (word0 c i xt0)).ub (k0_t1_loop i (word0 c i xt0)).st)).2 ++ init14
def maxL1 (c : Dev nD) (i : grid0.Coords)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (x0 : Vec F S1x256x896 .fp8e4m3) (x1 : Vec F S1x8192x128 .fp8e4m3) (x2 : Vec F S1x1x128x8192 .fp8e4m3)
  (x3 : Vec F S1x1x8x8192 .f32) (x4 : Vec F S1x256x1 .i32) (x5 : Vec F S1x1x8192 .i32) (x6 : Vec F S1x1x1x128 .f32)
  (x7 : Vec F S2x56 .f32) (xt0 : TbBuf0 (F := F) c tbM0_0) (hw : k0_chk1 i (word0 c i xt0)) : List (View.Piece (Elt F) S7x256x128 .f32) :=
  (st_k0_t2 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) (word0 c i xt0) hw rows cols (arg8.view.readAt (Elt F) (Rect.unit ![0, 0, 0] S1x256x1.size inb_S1x256x1_S1x256x1_0_0_0).toLoadRect (harg8.unread x4)) (Scalar.addi (word0 c i xt0) (Scalar.muli (Scalar.divsi (Scalar.subi (Scalar.addi (BitVec.ofNat 32 (i 2).val) 1#32) (word0 c i xt0)) 1#32) 1#32)) (harg4.unread x0) (harg5.unread x1) (harg7.unread x3) (harg9.unread x5) (harg11.unread x7) (arg14.view.writes (Elt F) arg14.view.junk (maxL0 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (st_k0_t1 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) (word0 c i xt0) hw rows cols (arg8.view.readAt (Elt F) (Rect.unit ![0, 0, 0] S1x256x1.size inb_S1x256x1_S1x256x1_0_0_0).toLoadRect (harg8.unread x4)) (harg4.unread x0) (harg5.unread x1) (harg7.unread x3) (harg9.unread x5) (harg11.unread x7) (arg14.view.writes (Elt F) arg14.view.junk init14) 0#32 (Scf.trips (k0_t1_loop i (word0 c i xt0)).lb (k0_t1_loop i (word0 c i xt0)).ub (k0_t1_loop i (word0 c i xt0)).st)).1 (Scf.trips (k0_t2_loop i (word0 c i xt0)).lb (k0_t2_loop i (word0 c i xt0)).ub (k0_t2_loop i (word0 c i xt0)).st)).2 ++ maxL0 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw
def maxL (c : Dev nD) (i : grid0.Coords)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (x0 : Vec F S1x256x896 .fp8e4m3) (x1 : Vec F S1x8192x128 .fp8e4m3) (x2 : Vec F S1x1x128x8192 .fp8e4m3)
  (x3 : Vec F S1x1x8x8192 .f32) (x4 : Vec F S1x256x1 .i32) (x5 : Vec F S1x1x8192 .i32) (x6 : Vec F S1x1x1x128 .f32)
  (x7 : Vec F S2x56 .f32) (xt0 : TbBuf0 (F := F) c tbM0_0) (hw : k0_chk1 i (word0 c i xt0)) : List (View.Piece (Elt F) S7x256x128 .f32) :=
  ([0, 1, 2, 3, 4, 5, 6] : List (Fin 7)).foldl (rowStep arg14.view) (maxL1 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)

/-- What is written of the running sums and products by the second loop, and by its remainder. -/
def sumL0 (c : Dev nD) (i : grid0.Coords)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (x0 : Vec F S1x256x896 .fp8e4m3) (x1 : Vec F S1x8192x128 .fp8e4m3) (x2 : Vec F S1x1x128x8192 .fp8e4m3)
  (x3 : Vec F S1x1x8x8192 .f32) (x4 : Vec F S1x256x1 .i32) (x5 : Vec F S1x1x8192 .i32) (x6 : Vec F S1x1x1x128 .f32)
  (x7 : Vec F S2x56 .f32) (xt0 : TbBuf0 (F := F) c tbM0_0) (hw : k0_chk1 i (word0 c i xt0)) : List (View.Piece (Elt F) S7x256x128 .f32) :=
  (st_k0_t3 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) (word0 c i xt0) hw rows cols (shapeCast S256x1 (arg8.view.readAt (Elt F) (Rect.unit ![0, 0, 0] S1x256x1.size inb_S1x256x1_S1x256x1_0_0_0).toLoadRect (harg8.unread x4)) shapeCasts_S1x256x1_S256x1) 0#32 1#32 (Scalar.divsi (Scalar.subi (Scalar.addi (BitVec.ofNat 32 (i 2).val) 1#32) (word0 c i xt0)) 1#32) (harg4.unread x0) (harg5.unread x1) (harg6.unread x2) (harg7.unread x3) (harg9.unread x5) (harg11.unread x7) (arg14.view.writes (Elt F) arg14.view.junk (maxL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (arg15.view.writes (Elt F) arg15.view.junk init15) (arg16.view.writes (Elt F) arg16.view.junk init16) 0#32 (Scf.trips (k0_t3_loop i (word0 c i xt0)).lb (k0_t3_loop i (word0 c i xt0)).ub (k0_t3_loop i (word0 c i xt0)).st)).2.1 ++ init15
def accL0 (c : Dev nD) (i : grid0.Coords)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (x0 : Vec F S1x256x896 .fp8e4m3) (x1 : Vec F S1x8192x128 .fp8e4m3) (x2 : Vec F S1x1x128x8192 .fp8e4m3)
  (x3 : Vec F S1x1x8x8192 .f32) (x4 : Vec F S1x256x1 .i32) (x5 : Vec F S1x1x8192 .i32) (x6 : Vec F S1x1x1x128 .f32)
  (x7 : Vec F S2x56 .f32) (xt0 : TbBuf0 (F := F) c tbM0_0) (hw : k0_chk1 i (word0 c i xt0)) : List (View.Piece (Elt F) S7x128x256 .f32) :=
  (st_k0_t3 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) (word0 c i xt0) hw rows cols (shapeCast S256x1 (arg8.view.readAt (Elt F) (Rect.unit ![0, 0, 0] S1x256x1.size inb_S1x256x1_S1x256x1_0_0_0).toLoadRect (harg8.unread x4)) shapeCasts_S1x256x1_S256x1) 0#32 1#32 (Scalar.divsi (Scalar.subi (Scalar.addi (BitVec.ofNat 32 (i 2).val) 1#32) (word0 c i xt0)) 1#32) (harg4.unread x0) (harg5.unread x1) (harg6.unread x2) (harg7.unread x3) (harg9.unread x5) (harg11.unread x7) (arg14.view.writes (Elt F) arg14.view.junk (maxL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (arg15.view.writes (Elt F) arg15.view.junk init15) (arg16.view.writes (Elt F) arg16.view.junk init16) 0#32 (Scf.trips (k0_t3_loop i (word0 c i xt0)).lb (k0_t3_loop i (word0 c i xt0)).ub (k0_t3_loop i (word0 c i xt0)).st)).2.2 ++ init16
def sumL (c : Dev nD) (i : grid0.Coords)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (x0 : Vec F S1x256x896 .fp8e4m3) (x1 : Vec F S1x8192x128 .fp8e4m3) (x2 : Vec F S1x1x128x8192 .fp8e4m3)
  (x3 : Vec F S1x1x8x8192 .f32) (x4 : Vec F S1x256x1 .i32) (x5 : Vec F S1x1x8192 .i32) (x6 : Vec F S1x1x1x128 .f32)
  (x7 : Vec F S2x56 .f32) (xt0 : TbBuf0 (F := F) c tbM0_0) (hw : k0_chk1 i (word0 c i xt0)) : List (View.Piece (Elt F) S7x256x128 .f32) :=
  (st_k0_t4 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) (word0 c i xt0) hw rows cols (shapeCast S256x1 (arg8.view.readAt (Elt F) (Rect.unit ![0, 0, 0] S1x256x1.size inb_S1x256x1_S1x256x1_0_0_0).toLoadRect (harg8.unread x4)) shapeCasts_S1x256x1_S256x1) 0#32 1#32 (Scalar.divsi (Scalar.subi (Scalar.addi (BitVec.ofNat 32 (i 2).val) 1#32) (word0 c i xt0)) 1#32) (Scalar.addi (word0 c i xt0) (Scalar.muli (Scalar.divsi (Scalar.subi (Scalar.addi (BitVec.ofNat 32 (i 2).val) 1#32) (word0 c i xt0)) 1#32) 1#32)) (harg4.unread x0) (harg5.unread x1) (harg6.unread x2) (harg7.unread x3) (harg9.unread x5) (harg11.unread x7) (arg14.view.writes (Elt F) arg14.view.junk (maxL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (arg15.view.writes (Elt F) arg15.view.junk (sumL0 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (arg16.view.writes (Elt F) arg16.view.junk (accL0 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (st_k0_t3 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) (word0 c i xt0) hw rows cols (shapeCast S256x1 (arg8.view.readAt (Elt F) (Rect.unit ![0, 0, 0] S1x256x1.size inb_S1x256x1_S1x256x1_0_0_0).toLoadRect (harg8.unread x4)) shapeCasts_S1x256x1_S256x1) 0#32 1#32 (Scalar.divsi (Scalar.subi (Scalar.addi (BitVec.ofNat 32 (i 2).val) 1#32) (word0 c i xt0)) 1#32) (harg4.unread x0) (harg5.unread x1) (harg6.unread x2) (harg7.unread x3) (harg9.unread x5) (harg11.unread x7) (arg14.view.writes (Elt F) arg14.view.junk (maxL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (arg15.view.writes (Elt F) arg15.view.junk init15) (arg16.view.writes (Elt F) arg16.view.junk init16) 0#32 (Scf.trips (k0_t3_loop i (word0 c i xt0)).lb (k0_t3_loop i (word0 c i xt0)).ub (k0_t3_loop i (word0 c i xt0)).st)).1 (Scf.trips (k0_t4_loop i (word0 c i xt0)).lb (k0_t4_loop i (word0 c i xt0)).ub (k0_t4_loop i (word0 c i xt0)).st)).2.1 ++ sumL0 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw
def accL (c : Dev nD) (i : grid0.Coords)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (x0 : Vec F S1x256x896 .fp8e4m3) (x1 : Vec F S1x8192x128 .fp8e4m3) (x2 : Vec F S1x1x128x8192 .fp8e4m3)
  (x3 : Vec F S1x1x8x8192 .f32) (x4 : Vec F S1x256x1 .i32) (x5 : Vec F S1x1x8192 .i32) (x6 : Vec F S1x1x1x128 .f32)
  (x7 : Vec F S2x56 .f32) (xt0 : TbBuf0 (F := F) c tbM0_0) (hw : k0_chk1 i (word0 c i xt0)) : List (View.Piece (Elt F) S7x128x256 .f32) :=
  (st_k0_t4 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) (word0 c i xt0) hw rows cols (shapeCast S256x1 (arg8.view.readAt (Elt F) (Rect.unit ![0, 0, 0] S1x256x1.size inb_S1x256x1_S1x256x1_0_0_0).toLoadRect (harg8.unread x4)) shapeCasts_S1x256x1_S256x1) 0#32 1#32 (Scalar.divsi (Scalar.subi (Scalar.addi (BitVec.ofNat 32 (i 2).val) 1#32) (word0 c i xt0)) 1#32) (Scalar.addi (word0 c i xt0) (Scalar.muli (Scalar.divsi (Scalar.subi (Scalar.addi (BitVec.ofNat 32 (i 2).val) 1#32) (word0 c i xt0)) 1#32) 1#32)) (harg4.unread x0) (harg5.unread x1) (harg6.unread x2) (harg7.unread x3) (harg9.unread x5) (harg11.unread x7) (arg14.view.writes (Elt F) arg14.view.junk (maxL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (arg15.view.writes (Elt F) arg15.view.junk (sumL0 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (arg16.view.writes (Elt F) arg16.view.junk (accL0 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (st_k0_t3 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) (word0 c i xt0) hw rows cols (shapeCast S256x1 (arg8.view.readAt (Elt F) (Rect.unit ![0, 0, 0] S1x256x1.size inb_S1x256x1_S1x256x1_0_0_0).toLoadRect (harg8.unread x4)) shapeCasts_S1x256x1_S256x1) 0#32 1#32 (Scalar.divsi (Scalar.subi (Scalar.addi (BitVec.ofNat 32 (i 2).val) 1#32) (word0 c i xt0)) 1#32) (harg4.unread x0) (harg5.unread x1) (harg6.unread x2) (harg7.unread x3) (harg9.unread x5) (harg11.unread x7) (arg14.view.writes (Elt F) arg14.view.junk (maxL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (arg15.view.writes (Elt F) arg15.view.junk init15) (arg16.view.writes (Elt F) arg16.view.junk init16) 0#32 (Scf.trips (k0_t3_loop i (word0 c i xt0)).lb (k0_t3_loop i (word0 c i xt0)).ub (k0_t3_loop i (word0 c i xt0)).st)).1 (Scf.trips (k0_t4_loop i (word0 c i xt0)).lb (k0_t4_loop i (word0 c i xt0)).ub (k0_t4_loop i (word0 c i xt0)).st)).2.2 ++ accL0 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw

/-- The first output's blocks: a head's result rows each. -/
theorem run_fst (c : Dev nD) (i : grid0.Coords)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (x0 : Vec F S1x256x896 .fp8e4m3) (x1 : Vec F S1x8192x128 .fp8e4m3) (x2 : Vec F S1x1x128x8192 .fp8e4m3)
  (x3 : Vec F S1x1x8x8192 .f32) (x4 : Vec F S1x256x1 .i32) (x5 : Vec F S1x1x8192 .i32) (x6 : Vec F S1x1x1x128 .f32)
  (x7 : Vec F S2x56 .f32) (xt0 : TbBuf0 (F := F) c tbM0_0) (hw : k0_chk1 i (word0 c i xt0)) : (kernelRun0_A c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw).1
    = ([6, 5, 4, 3, 2, 1, 0] : List (Fin 7)).map (fun h => (⟨Rect.unit ![0, 0, 128 * h.val] S1x256x128.size (o_inb h),
        outPay (arg15.view.readCov (sumL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw) (rowR h).toLoadRect)
          (arg16.view.readCov (accL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw) (accR h).toLoadRect)
          (arg10.view.readAt (Elt F) (Rect.unit ![0, 0, 0, 0] S1x1x1x128.size inb_S1x1x1x128_S1x1x1x128_0_0_0_0).toLoadRect
            (harg10.unread x6))⟩ : View.Piece (Elt F) S1x256x896 .bf16)) := by
  unfold kernelRun0_A
  dsimp only
  rfl

/-- The second output's block: the logarithms of all heads' sums. -/
theorem run_snd (c : Dev nD) (i : grid0.Coords)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (x0 : Vec F S1x256x896 .fp8e4m3) (x1 : Vec F S1x8192x128 .fp8e4m3) (x2 : Vec F S1x1x128x8192 .fp8e4m3)
  (x3 : Vec F S1x1x8x8192 .f32) (x4 : Vec F S1x256x1 .i32) (x5 : Vec F S1x1x8192 .i32) (x6 : Vec F S1x1x1x128 .f32)
  (x7 : Vec F S2x56 .f32) (xt0 : TbBuf0 (F := F) c tbM0_0) (hw : k0_chk1 i (word0 c i xt0)) : (kernelRun0_A c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw).2.1
    = [⟨Rect.unit ![0, 0, 0, 0] S1x1x8x256.size inb_S1x1x8x256_S1x1x8x256_0_0_0_0,
        lsePay (([0, 1, 2, 3, 4, 5, 6] : List (Fin 7)).foldl (fun t h =>
            lseStep (BitVec.ofNat 32 h.val) (arg14.view.readCov (maxL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw) (rowR h).toLoadRect)
              (arg15.view.readCov (sumL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw) (rowR h).toLoadRect) t)
            (broadcast S256x128 (Scalar.ofBits .f32 0x00000000#32)))
          (arg7.view.readAt (Elt F) (Rect.unit (s := S1x1x8x8192) (k0_off44 i) S1x1x8x256.size (k0_off44_inb i)).toLoadRect
            (harg7.unread x3))⟩] := by
  unfold kernelRun0_A
  dsimp only
  rfl

end Cert.KernelIdeal.Gen

end
-- ==== Proof.Rows.lean ====
/- What lists of writes into a family of disjoint boxes leave, box by box. -/
module

public import proofs.«01_k».proof.Proof.Run

@[expose] public section

noncomputable section

namespace Cert.Rows

open Idealize.ShloMosaic Idealize.SL Idealize.SL.Sem

variable {s : Shape} {e : EltTy} {Val : EltTy → Type} [∀ e, Nonempty (Val e)]
  {n : ℕ} (R : Fin n → Rect s)

/-- The boxes of the family meet nowhere. -/
def Apart : Prop := ∀ h h' : Fin n, h ≠ h' → ∀ x, (R h').idx x ∉ (R h).set

variable {R}

/-- A box just written holds what was written. -/
theorem ld_self (r : Rect s) (w : r.shape.Idx → Val e) (L : List (View.Piece Val s e)) :
    View.ld (View.canon (⟨r, w⟩ :: L)) r = w :=
  funext fun x => View.canon_cons_emb r w L x

/-- A write into one box leaves the others. -/
theorem ld_other (hR : Apart R) {h h' : Fin n} (hne : h ≠ h') (w : (R h).shape.Idx → Val e)
    (L : List (View.Piece Val s e)) :
    View.ld (View.canon (⟨R h, w⟩ :: L)) (R h') = View.ld (View.canon L) (R h') :=
  funext fun x => View.canon_cons_of_not_mem ⟨R h, w⟩ L (hR h h' hne x)

/-- A box written once in a list of writes holds what was written there. -/
theorem ld_map_mem (hR : Apart R) (P : ∀ h : Fin n, (R h).shape.Idx → Val e) (L : List (View.Piece Val s e)) (h : Fin n) :
    ∀ hs : List (Fin n), h ∈ hs →
      View.ld (View.canon (hs.map (fun h => (⟨R h, P h⟩ : View.Piece Val s e)) ++ L)) (R h) = P h
  | [], hm => absurd hm List.not_mem_nil
  | a :: hs, hm => by
    rw [List.map_cons, List.cons_append]
    by_cases ha : a = h
    · subst ha; exact ld_self _ _ _
    · rw [ld_other hR ha]
      exact ld_map_mem hR P L h hs (by
        rcases List.mem_cons.mp hm with e | e
        · exact absurd e.symm ha
        · exact e)

/-- A list of writes each reading its own box before it: every box holds its function of what it held. -/
theorem ld_foldl (hR : Apart R) (W : ∀ h : Fin n, ((R h).shape.Idx → Val e) → (R h).shape.Idx → Val e) (h : Fin n) :
    ∀ (hs : List (Fin n)) (L : List (View.Piece Val s e)), hs.Nodup →
      View.ld (View.canon (hs.foldl (fun L h => (⟨R h, W h (View.ld (View.canon L) (R h))⟩ : View.Piece Val s e) :: L) L)) (R h)
        = if h ∈ hs then W h (View.ld (View.canon L) (R h)) else View.ld (View.canon L) (R h)
  | [], L, _ => by simp
  | a :: hs, L, hn => by
    rw [List.foldl_cons, ld_foldl hR W h hs _ (List.nodup_cons.mp hn).2]
    by_cases ha : a = h
    · subst ha
      rw [if_neg (List.nodup_cons.mp hn).1, if_pos List.mem_cons_self, ld_self]
    · rw [ld_other hR ha]
      by_cases hm : h ∈ hs
      · rw [if_pos hm, if_pos (List.mem_cons_of_mem _ hm)]
      · rw [if_neg hm, if_neg (by
          intro h'
          rcases List.mem_cons.mp h' with e | e
          · exact ha e.symm
          · exact hm e)]

/-- A write of the whole array. -/
theorem canon_whole {off : Fin s.rank → ℕ} (inb : ∀ a, off a + s.size a ≤ s.size a) (w : s.Idx → Val e) :
    View.canon [(⟨Rect.unit off s.size inb, w⟩ : View.Piece Val s e)] = w := by
  funext y
  have h := View.canon_cons_emb (Rect.unit off s.size inb) w ([] : List (View.Piece Val s e)) y
  have he : (Rect.unit off s.size inb).emb y = y := funext fun a => Fin.ext (by
    show off a + 1 * (y a).val = (y a).val
    have := inb a; omega)
  rw [he] at h
  exact h

/-- A write of the whole array, read at a box. -/
theorem ld_whole {off : Fin s.rank → ℕ} (inb : ∀ a, off a + s.size a ≤ s.size a) (w : s.Idx → Val e) (r : Rect s) :
    View.ld (View.canon [(⟨Rect.unit off s.size inb, w⟩ : View.Piece Val s e)]) r = View.ld w r := by
  rw [canon_whole inb]

end Cert.Rows

namespace Cert.KernelIdeal.Gen

open Idealize.ShloMosaic

theorem apart_row : Cert.Rows.Apart rowR := fun h h' hne x =>
  Rect.not_mem_set_of_axis (rowR h) _ 0 h.val 1 rfl rfl rfl (by
    have e : (((rowR h').idx x) 0).val = h'.val := by
      have h0 : (x 0).val < 1 := (x 0).isLt
      show h'.val + 1 * (x 0).val = h'.val
      omega
    have : h.val ≠ h'.val := fun e => hne (Fin.ext e)
    omega)

theorem apart_acc : Cert.Rows.Apart accR := fun h h' hne x =>
  Rect.not_mem_set_of_axis (accR h) _ 0 h.val 1 rfl rfl rfl (by
    have e : (((accR h').idx x) 0).val = h'.val := by
      have h0 : (x 0).val < 1 := (x 0).isLt
      show h'.val + 1 * (x 0).val = h'.val
      omega
    have : h.val ≠ h'.val := fun e => hne (Fin.ext e)
    omega)

end Cert.KernelIdeal.Gen

end
-- ==== Proof.States.lean ====
/- The scratch arrays after the body's loops, head by head: each loop's trips are steps of a recursion. -/
module

public import proofs.«01_k».proof.Proof.Rows

@[expose] public section

noncomputable section

namespace Cert.KernelIdeal.Gen

open Idealize.ShloMosaic Idealize.ShloMosaic.TcCoe Idealize.SL Idealize.SL.Sem

variable {F : FTy → Type} [FloatOps F] [Named F]

/-- A head's running maxima after `k` blocks of keys, the first of them the block `v2`. -/
def maxIter (i : grid0.Coords) (v2 : BitVec 32) (x0 : Vec F S1x256x896 .fp8e4m3) (x1 : Vec F S1x8192x128 .fp8e4m3) (x3 : Vec F S1x1x8x8192 .f32)
    (sq : Vec F S1x256x1 .i32) (x5 : Vec F S1x1x8192 .i32) (x7 : Vec F S2x56 .f32) (h : Fin 7) : ℕ → Vec F S1x256x128 .f32
  | 0 => View.ld k0_pay115 (rowR h)
  | k + 1 => if hn : colAt v2 k + 256 ≤ 8192 then
      maxPay (scoreH i (Scf.iv v2 1#32 k) (colAt v2 k) hn x0 x1 x3 sq x5 x7 h) (maxIter i v2 x0 x1 x3 sq x5 x7 h k)
    else maxIter i v2 x0 x1 x3 sq x5 x7 h k

/-- A head's running sums after `k` blocks of keys, the rows' maxima `m` given. -/
def sumIter (i : grid0.Coords) (v2 : BitVec 32) (x0 : Vec F S1x256x896 .fp8e4m3) (x1 : Vec F S1x8192x128 .fp8e4m3) (x3 : Vec F S1x1x8x8192 .f32)
    (sq : Vec F S1x256x1 .i32) (x5 : Vec F S1x1x8192 .i32) (x7 : Vec F S2x56 .f32) (h : Fin 7) (m : Vec F S1x256x128 .f32) :
    ℕ → Vec F S1x256x128 .f32
  | 0 => View.ld k0_pay116 (rowR h)
  | k + 1 => if hn : colAt v2 k + 256 ≤ 8192 then
      sumPay (expBlk (scoreH i (Scf.iv v2 1#32 k) (colAt v2 k) hn x0 x1 x3 sq x5 x7 h) m) (sumIter i v2 x0 x1 x3 sq x5 x7 h m k)
    else sumIter i v2 x0 x1 x3 sq x5 x7 h m k

/-- A head's running products with the values after `k` blocks of keys. -/
def accIter (i : grid0.Coords) (v2 : BitVec 32) (x0 : Vec F S1x256x896 .fp8e4m3) (x1 : Vec F S1x8192x128 .fp8e4m3) (x3 : Vec F S1x1x8x8192 .f32)
    (sq : Vec F S1x256x1 .i32) (x5 : Vec F S1x1x8192 .i32) (x7 : Vec F S2x56 .f32) (x2 : Vec F S1x1x128x8192 .fp8e4m3) (h : Fin 7)
    (m : Vec F S1x256x128 .f32) : ℕ → Vec F S1x128x256 .f32
  | 0 => View.ld k0_pay117 (accR h)
  | k + 1 => if hn : colAt v2 k + 256 ≤ 8192 then
      accPay (View.ld x2 (Rect.unit ![0, 0, 0, colAt v2 k] S1x1x128x256.size (v_inb hn)))
        (expBlk (scoreH i (Scf.iv v2 1#32 k) (colAt v2 k) hn x0 x1 x3 sq x5 x7 h) m) (accIter i v2 x0 x1 x3 sq x5 x7 x2 h m k)
    else accIter i v2 x0 x1 x3 sq x5 x7 x2 h m k

theorem mem_heads (h : Fin 7) : h ∈ ([6, 5, 4, 3, 2, 1, 0] : List (Fin 7)) := by revert h; decide

section

variable (𝒱 : Variants) (c : Dev nD) (bd : Option 𝒱.V) (i : grid0.Coords)
  (arg3 : Memref sig .tc .smem S2x32 .i32) (harg3 : arg3.IsWhole)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (v2 : Elt F .i32) (k0_hw1 : k0_chk1 i v2)

/-- After the first loop's first `k` trips a head's rows are the recursion's. -/
theorem t1_rows (v5 : Vec F S1x256x1 .i32) (X4 : BufTy.Contents (Elt F) arg4.view.ty)
    (X5 : BufTy.Contents (Elt F) arg5.view.ty) (X7 : BufTy.Contents (Elt F) arg7.view.ty)
    (X9 : BufTy.Contents (Elt F) arg9.view.ty) (X11 : BufTy.Contents (Elt F) arg11.view.ty) (a0 : BitVec 32) (h : Fin 7) :
    ∀ k, k ≤ (k0_t1_loop i v2).trips →
      View.ld (View.canon ((st_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) v2 k0_hw1 rows cols v5 X4 X5 X7 X9 X11 (arg14.view.writes (Elt F) arg14.view.junk init14) a0 k).2 ++ init14)) (rowR h) = maxIter i v2 (arg4.view.read (Elt F) X4) (arg5.view.read (Elt F) X5) (arg7.view.read (Elt F) X7) v5 (arg9.view.read (Elt F) X9) (arg11.view.read (Elt F) X11) h k
  | 0, _ => by
    rw [st_k0_t1.eq_1]
    exact Cert.Rows.ld_whole _ _ _
  | k + 1, hk => by
    have ih := fun h' => t1_rows v5 X4 X5 X7 X9 X11 a0 h' k (Nat.le_of_succ_le hk)
    have hn := col_le k0_hw1 ⟨k, hk⟩
    have hs := st_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) v2 k0_hw1 rows cols v5 X4 X5 X7 X9 X11
      (arg14.view.writes (Elt F) arg14.view.junk init14) a0 ⟨k, hk⟩
    rw [show k + 1 = (⟨k, hk⟩ : Fin (k0_t1_loop i v2).trips).val + 1 from rfl, hs, tripL_t1_eq]
    dsimp only
    rw [List.append_assoc, Cert.Rows.ld_map_mem apart_row _ _ h _ (mem_heads h), ← View.writes_append,
      View.read_writes_junk_eq_canon, ih h]
    show _ = dite _ _ _
    rw [dif_pos hn]

/-- After the second loop's first `k` trips a head's sums and products are the recursions'. -/
theorem t3_rows (v5 : Vec F S1x256x1 .i32) (c0 c1 v93 : BitVec 32) (X4 : BufTy.Contents (Elt F) arg4.view.ty)
    (X5 : BufTy.Contents (Elt F) arg5.view.ty) (X7 : BufTy.Contents (Elt F) arg7.view.ty)
    (X9 : BufTy.Contents (Elt F) arg9.view.ty) (X11 : BufTy.Contents (Elt F) arg11.view.ty)
    (X6 : BufTy.Contents (Elt F) arg6.view.ty) (X14 : BufTy.Contents (Elt F) arg14.view.ty) (a0 : BitVec 32) (h : Fin 7) :
    ∀ k, k ≤ (k0_t3_loop i v2).trips →
      View.ld (View.canon ((st_k0_t3 𝒱 c bd i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) v2 k0_hw1 rows cols (shapeCast S256x1 v5 shapeCasts_S1x256x1_S256x1) c0 c1 v93 X4 X5 X6 X7 X9 X11 X14 (arg15.view.writes (Elt F) arg15.view.junk init15) (arg16.view.writes (Elt F) arg16.view.junk init16) a0 k).2.1 ++ init15)) (rowR h)
          = sumIter i v2 (arg4.view.read (Elt F) X4) (arg5.view.read (Elt F) X5) (arg7.view.read (Elt F) X7) v5 (arg9.view.read (Elt F) X9) (arg11.view.read (Elt F) X11) h (View.ld (arg14.view.read (Elt F) X14) (rowR h)) k
        ∧ View.ld (View.canon ((st_k0_t3 𝒱 c bd i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) v2 k0_hw1 rows cols (shapeCast S256x1 v5 shapeCasts_S1x256x1_S256x1) c0 c1 v93 X4 X5 X6 X7 X9 X11 X14 (arg15.view.writes (Elt F) arg15.view.junk init15) (arg16.view.writes (Elt F) arg16.view.junk init16) a0 k).2.2 ++ init16)) (accR h)
          = accIter i v2 (arg4.view.read (Elt F) X4) (arg5.view.read (Elt F) X5) (arg7.view.read (Elt F) X7) v5 (arg9.view.read (Elt F) X9) (arg11.view.read (Elt F) X11) (arg6.view.read (Elt F) X6) h (View.ld (arg14.view.read (Elt F) X14) (rowR h)) k
  | 0, _ => by
    rw [st_k0_t3.eq_1]
    exact ⟨Cert.Rows.ld_whole _ _ _, Cert.Rows.ld_whole _ _ _⟩
  | k + 1, hk => by
    have ih := fun h' => t3_rows v5 c0 c1 v93 X4 X5 X7 X9 X11 X6 X14 a0 h' k (Nat.le_of_succ_le hk)
    have hn := col_le' k0_hw1 ⟨k, hk⟩
    have hs := st_k0_t3_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (i 2).val) v2 k0_hw1 rows cols
      (shapeCast S256x1 v5 shapeCasts_S1x256x1_S256x1) c0 c1 v93 X4 X5 X6 X7 X9 X11 X14
      (arg15.view.writes (Elt F) arg15.view.junk init15) (arg16.view.writes (Elt F) arg16.view.junk init16) a0 ⟨k, hk⟩
    rw [show k + 1 = (⟨k, hk⟩ : Fin (k0_t3_loop i v2).trips).val + 1 from rfl, hs, tripL_t3_eq]
    dsimp only
    rw [List.append_assoc, List.append_assoc]
    constructor
    · rw [Cert.Rows.ld_map_mem apart_row _ _ h _ (mem_heads h), ← View.writes_append,
        View.read_writes_junk_eq_canon, (ih h).1]
      show _ = dite _ _ _
      rw [dif_pos hn]
    · rw [Cert.Rows.ld_map_mem apart_acc _ _ h _ (mem_heads h), ← View.writes_append arg16.view,
        View.read_writes_junk_eq_canon, (ih h).2]
      show _ = dite _ _ _
      rw [dif_pos hn]

end

end Cert.KernelIdeal.Gen

end
-- ==== Proof.Outs.lean ====
/- The body's outputs, over the recursions of States.lean: every head's rows of the first, and the second. -/
module

public import proofs.«01_k».proof.Proof.States
public import Idealize.ShloMosaic.Lib.LoopRemainder
public import Idealize.ShloMosaic.Lib.WholeRead

@[expose] public section

noncomputable section

namespace Cert.KernelIdeal.Gen

open Idealize.ShloMosaic Idealize.ShloMosaic.TcCoe Idealize.SL Idealize.SL.Sem

variable {F : FTy → Type} [FloatOps F] [Named F]

/-- A head's rows' maxima, sums and products once all blocks of keys are done. -/
def rowMax (i : grid0.Coords) (v2 : BitVec 32) (x0 : Vec F S1x256x896 .fp8e4m3) (x1 : Vec F S1x8192x128 .fp8e4m3) (x3 : Vec F S1x1x8x8192 .f32)
    (sq : Vec F S1x256x1 .i32) (x5 : Vec F S1x1x8192 .i32) (x7 : Vec F S2x56 .f32) (h : Fin 7) : Vec F S1x256x128 .f32 :=
  rowMaxPay (maxIter i v2 x0 x1 x3 sq x5 x7 h (k0_t1_loop i v2).trips)
def headSum (i : grid0.Coords) (v2 : BitVec 32) (x0 : Vec F S1x256x896 .fp8e4m3) (x1 : Vec F S1x8192x128 .fp8e4m3) (x3 : Vec F S1x1x8x8192 .f32)
    (sq : Vec F S1x256x1 .i32) (x5 : Vec F S1x1x8192 .i32) (x7 : Vec F S2x56 .f32) (h : Fin 7) : Vec F S1x256x128 .f32 :=
  sumIter i v2 x0 x1 x3 sq x5 x7 h (rowMax i v2 x0 x1 x3 sq x5 x7 h) (k0_t3_loop i v2).trips
def headAcc (i : grid0.Coords) (v2 : BitVec 32) (x0 : Vec F S1x256x896 .fp8e4m3) (x1 : Vec F S1x8192x128 .fp8e4m3) (x3 : Vec F S1x1x8x8192 .f32)
    (sq : Vec F S1x256x1 .i32) (x5 : Vec F S1x1x8192 .i32) (x7 : Vec F S2x56 .f32) (x2 : Vec F S1x1x128x8192 .fp8e4m3) (h : Fin 7) :
    Vec F S1x128x256 .f32 :=
  accIter i v2 x0 x1 x3 sq x5 x7 x2 h (rowMax i v2 x0 x1 x3 sq x5 x7 h) (k0_t3_loop i v2).trips

theorem t2_none (i : grid0.Coords) (v2 : BitVec 32) : (k0_t2_loop i v2).trips = 0 := Scf.rem_trips _ _
theorem t4_none (i : grid0.Coords) (v2 : BitVec 32) : (k0_t4_loop i v2).trips = 0 := Scf.rem_trips _ _

theorem rowStep_eq (v : View sig .tc .vmem S7x256x128 .f32) :
    rowStep (F := F) v = fun L h => (⟨rowR h, rowMaxPay (View.ld (View.canon L) (rowR h))⟩ : View.Piece (Elt F) S7x256x128 .f32) :: L := by
  funext L h
  unfold rowStep
  rw [View.readCov_eq_canon']

/-- Reading a whole staging buffer through a box of the whole shape. -/
theorem q_seg {arg8 : Memref sig .tc .vmem S1x256x1 .i32} (harg8 : arg8.IsWhole) (x4 : Vec F S1x256x1 .i32) :
    (arg8.view.readAt (Elt F) (Rect.unit ![0, 0, 0] S1x256x1.size inb_S1x256x1_S1x256x1_0_0_0).toLoadRect (harg8.unread x4)) = x4 := by
  funext y
  rw [harg8.readAt_unread]
  congr 1
  funext a
  apply Fin.ext
  show (![0, 0, 0] : Fin 3 → ℕ) a + 1 * (y a).val = (y a).val
  fin_cases a <;> exact (Nat.zero_add _).trans (Nat.one_mul _)

section

variable (c : Dev nD) (i : grid0.Coords)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (x0 : Vec F S1x256x896 .fp8e4m3) (x1 : Vec F S1x8192x128 .fp8e4m3) (x2 : Vec F S1x1x128x8192 .fp8e4m3)
  (x3 : Vec F S1x1x8x8192 .f32) (x4 : Vec F S1x256x1 .i32) (x5 : Vec F S1x1x8192 .i32) (x6 : Vec F S1x1x1x128 .f32)
  (x7 : Vec F S2x56 .f32) (xt0 : TbBuf0 (F := F) c tbM0_0) (hw : k0_chk1 i (word0 c i xt0))

theorem maxL1_row (h : Fin 7) :
    View.ld (View.canon (maxL1 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (rowR h) = maxIter i (word0 c i xt0) x0 x1 x3 x4 x5 x7 h (k0_t1_loop i (word0 c i xt0)).trips := by
  unfold maxL1
  rw [show Scf.trips (k0_t2_loop i (word0 c i xt0)).lb (k0_t2_loop i (word0 c i xt0)).ub (k0_t2_loop i (word0 c i xt0)).st = 0
    from t2_none i _, st_k0_t2.eq_1]
  dsimp only
  rw [List.nil_append, maxL0, q_seg]
  refine (t1_rows Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (word0 c i xt0) hw x4
    (harg4.unread x0) (harg5.unread x1) (harg7.unread x3) (harg9.unread x5) (harg11.unread x7) 0#32 h (k0_t1_loop i (word0 c i xt0)).trips (Nat.le_refl _)).trans ?_
  rw [harg4.read_unread, harg5.read_unread, harg7.read_unread, harg9.read_unread, harg11.read_unread]

theorem maxL_row (h : Fin 7) :
    View.ld (View.canon (maxL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (rowR h) = rowMax i (word0 c i xt0) x0 x1 x3 x4 x5 x7 h := by
  rw [maxL, rowStep_eq, Cert.Rows.ld_foldl apart_row (fun _ => rowMaxPay) h _ _ (by decide),
    if_pos (by revert h; decide), maxL1_row]
  rfl

theorem sumL_row (h : Fin 7) :
    View.ld (View.canon (sumL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (rowR h) = headSum i (word0 c i xt0) x0 x1 x3 x4 x5 x7 h := by
  unfold sumL
  rw [show Scf.trips (k0_t4_loop i (word0 c i xt0)).lb (k0_t4_loop i (word0 c i xt0)).ub (k0_t4_loop i (word0 c i xt0)).st = 0
    from t4_none i _, st_k0_t4.eq_1]
  dsimp only
  rw [List.nil_append, sumL0, q_seg]
  refine (t3_rows Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (word0 c i xt0) hw x4 _ _ _
    (harg4.unread x0) (harg5.unread x1) (harg7.unread x3) (harg9.unread x5) (harg11.unread x7) (harg6.unread x2) _ 0#32 h (k0_t3_loop i (word0 c i xt0)).trips (Nat.le_refl _)).1.trans ?_
  rw [harg4.read_unread, harg5.read_unread, harg7.read_unread, harg9.read_unread, harg11.read_unread,
    View.read_writes_junk_eq_canon, maxL_row]
  rfl

theorem accL_row (h : Fin 7) :
    View.ld (View.canon (accL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw)) (accR h) = headAcc i (word0 c i xt0) x0 x1 x3 x4 x5 x7 x2 h := by
  unfold accL
  rw [show Scf.trips (k0_t4_loop i (word0 c i xt0)).lb (k0_t4_loop i (word0 c i xt0)).ub (k0_t4_loop i (word0 c i xt0)).st = 0
    from t4_none i _, st_k0_t4.eq_1]
  dsimp only
  rw [List.nil_append, accL0, q_seg]
  refine (t3_rows Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (word0 c i xt0) hw x4 _ _ _
    (harg4.unread x0) (harg5.unread x1) (harg7.unread x3) (harg9.unread x5) (harg11.unread x7) (harg6.unread x2) _ 0#32 h (k0_t3_loop i (word0 c i xt0)).trips (Nat.le_refl _)).2.trans ?_
  rw [harg4.read_unread, harg5.read_unread, harg6.read_unread, harg7.read_unread, harg9.read_unread, harg11.read_unread,
    View.read_writes_junk_eq_canon, maxL_row]
  rfl

theorem x6_read : arg10.view.readAt (Elt F) (Rect.unit ![0, 0, 0, 0] S1x1x1x128.size inb_S1x1x1x128_S1x1x1x128_0_0_0_0).toLoadRect
    (harg10.unread x6) = x6 := by
  funext y
  rw [harg10.readAt_unread]
  congr 1
  funext a
  apply Fin.ext
  show (![0, 0, 0, 0] : Fin 4 → ℕ) a + 1 * (y a).val = (y a).val
  fin_cases a <;> exact (Nat.zero_add _).trans (Nat.one_mul _)

/-- The boxes of the first output. -/
abbrev outR (h : Fin 7) : Rect S1x256x896 := Rect.unit ![0, 0, 128 * h.val] S1x256x128.size (o_inb h)

theorem apart_out : Cert.Rows.Apart outR := fun h h' hne x =>
  Rect.not_mem_set_of_axis (outR h) _ 2 (128 * h.val) 128 rfl rfl rfl (by
    have e : (((outR h').idx x) 2).val = 128 * h'.val + (x 2).val := by
      show 128 * h'.val + 1 * (x 2).val = _
      omega
    have h0 : (x 2).val < 128 := (x 2).isLt
    have : h.val ≠ h'.val := fun e => hne (Fin.ext e)
    omega)

/-- The first output of the body, head by head. -/
theorem out8_head (h : Fin 7) :
    View.ld (out0_A_8 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw) (outR h)
      = outPay (headSum i (word0 c i xt0) x0 x1 x3 x4 x5 x7 h) (headAcc i (word0 c i xt0) x0 x1 x3 x4 x5 x7 x2 h) x6 := by
  unfold out0_A_8
  rw [View.read_writes_junk_eq_canon, run_fst]
  refine (congrArg (fun L => View.ld (View.canon L) (outR h)) (List.append_nil _).symm).trans ?_
  rw [Cert.Rows.ld_map_mem apart_out _ _ h _ (mem_heads h), View.readCov_eq_canon', View.readCov_eq_canon', x6_read]
  exact congrArg₂ (fun a b => outPay a b x6) (sumL_row c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw h) (accL_row c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw h)

/-- The second output of the body. -/
theorem out9_eq :
    out0_A_9 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw
      = lsePay (([0, 1, 2, 3, 4, 5, 6] : List (Fin 7)).foldl (fun t h =>
            lseStep (BitVec.ofNat 32 h.val) (rowMax i (word0 c i xt0) x0 x1 x3 x4 x5 x7 h)
              (headSum i (word0 c i xt0) x0 x1 x3 x4 x5 x7 h) t)
            (broadcast S256x128 (Scalar.ofBits .f32 0x00000000#32)))
          (View.ld x3 (Rect.unit (s := S1x1x8x8192) (k0_off44 i) S1x1x8x256.size (k0_off44_inb i))) := by
  have hm : ∀ h, arg14.view.readCov (maxL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw) (rowR h).toLoadRect = rowMax i (word0 c i xt0) x0 x1 x3 x4 x5 x7 h :=
    fun h => (View.readCov_eq_canon' _ _ _).trans (maxL_row c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw h)
  have hs : ∀ h, arg15.view.readCov (sumL c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw) (rowR h).toLoadRect = headSum i (word0 c i xt0) x0 x1 x3 x4 x5 x7 h :=
    fun h => (View.readCov_eq_canon' _ _ _).trans (sumL_row c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw h)
  unfold out0_A_9
  rw [View.read_writes_junk_eq_canon, run_snd]
  rw [Cert.Rows.canon_whole inb_S1x1x8x256_S1x1x8x256_0_0_0_0]
  refine congrArg₂ lsePay ?_ ?_
  · exact congrArg (fun f => ([0, 1, 2, 3, 4, 5, 6] : List (Fin 7)).foldl f _)
      (funext fun t => funext fun h => congrArg₂ (fun a b => lseStep (BitVec.ofNat 32 h.val) a b t) (hm h) (hs h))
  · funext y
    rw [harg7.readAt_unread]

end

end Cert.KernelIdeal.Gen

end
-- ==== Proof.Scores.lean ====
/- The heads' functions of Block.lean at an index, over the extended reals, and the score of a row against a key. -/
module

public import proofs.«01_k».proof.Proof.Outs
public import proofs.«01_k».proof.Proof.WordMath
public import Idealize.ShloMosaic.Lib.Pointwise
public import Idealize.ShloMosaic.Lib.Tactic.WordOmega

@[expose] public section

noncomputable section

namespace Cert.KernelIdeal.Gen

open Idealize.ShloMosaic Idealize.ShloMosaic.TcCoe

theorem select_ite {α : Type} (b : BitVec 1) (x y : α) : Scalar.select b x y = if b = 1#1 then x else y := rfl

theorem andi_iff (x y : BitVec 1) : IntOp.andi x y = 1#1 ↔ x = 1#1 ∧ y = 1#1 := by revert x y; decide

theorem cmpi_eq_iff (x y : BitVec 32) : IntOp.cmpi .eq x y = 1#1 ↔ x = y := by
  word_omega

theorem rawBlk_apply (q k : Vec Ideal S1x256x128 .fp8e4m3) (a : Elt Ideal .f32) (g : Vec Ideal S1x1x1x256 .f32)
    (r j : Fin 256) :
    rawBlk q k a g (ix2 r j) = (∑ d : Fin 128, q (ix3 0 r d) * k (ix3 0 j d)) * a - g (ix4 0 0 0 j) := by
  unfold rawBlk
  pointwise

theorem maxPay_apply (s : FVec Ideal S256x256 .f32) (m : Vec Ideal S1x256x128 .f32) (r : Fin 256) (l : Fin 128) :
    maxPay s m (ix3 0 r l)
      = max (m (ix3 0 r l)) (max (s (ix2 r ⟨l.val, by omega⟩)) (s (ix2 r ⟨128 + l.val, by omega⟩))) := by
  unfold maxPay
  pointwise

theorem expBlk_apply (s : FVec Ideal S256x256 .f32) (m : Vec Ideal S1x256x128 .f32) (r j : Fin 256) :
    expBlk s m (ix2 r j) = Ideal.exp2 (s (ix2 r j) - (if h : j.val < 128 then m (ix3 0 r ⟨j.val, h⟩)
      else m (ix3 0 r ⟨j.val - 128, by omega⟩))) := by
  unfold expBlk
  pointwise
  rfl

theorem sumPay_apply (e : FVec Ideal S256x256 .f32) (l : Vec Ideal S1x256x128 .f32) (r : Fin 256) (t : Fin 128) :
    sumPay e l (ix3 0 r t)
      = l (ix3 0 r t) + (e (ix2 r ⟨t.val, by omega⟩) + e (ix2 r ⟨128 + t.val, by omega⟩)) := by
  unfold sumPay
  pointwise

theorem accPay_apply (v : Vec Ideal S1x1x128x256 .fp8e4m3) (e : FVec Ideal S256x256 .f32) (o : Vec Ideal S1x128x256 .f32)
    (r : Fin 256) (d : Fin 128) :
    accPay v e o (ix3 0 d r) = o (ix3 0 d r) + ∑ j : Fin 256, v (ix4 0 0 d j) * e (ix2 r j) := by
  unfold accPay
  pointwise

theorem neg_top : Ideal.ofBits FTy.f32 4286578688#32 = ⊥ := by
  simp [Ideal.ofBits, Ideal.ieee]

/-- The row's maximum, on every lane. -/
theorem rowMaxPay_apply (m : Vec Ideal S1x256x128 .f32) (r : Fin 256) (l : Fin 128) :
    rowMaxPay m (ix3 0 r l) = Finset.univ.sup fun t : Fin 128 => m (ix3 0 r t) := by
  unfold rowMaxPay
  pointwise
  rw [neg_top]
  rfl

theorem outPay_apply (l : Vec Ideal S1x256x128 .f32) (o : Vec Ideal S1x128x256 .f32) (vs : Vec Ideal S1x1x1x128 .f32)
    (r : Fin 256) (d : Fin 128) :
    outPay l o vs (ix3 0 r d) = o (ix3 0 d r) * Ideal.div 1 (∑ t : Fin 128, l (ix3 0 r t)) * vs (ix4 0 0 0 d) := by
  unfold outPay rowSum
  pointwise

theorem log2e_ideal : (Named.named κ "log2e" 0x3FB8AA3B#32 : Ideal .f32) = (((Real.log 2)⁻¹ : ℝ) : EReal) :=
  IdealRules.named_const.ideal_named_scalar _ _ _ _ rfl

theorem ln2_ideal : (Named.named κ "ln2" 0x3F317218#32 : Ideal .f32) = ((Real.log 2 : ℝ) : EReal) :=
  IdealRules.named_const.ideal_named_scalar _ _ _ _ rfl

theorem lseStep_apply (h : Fin 7) (m l : Vec Ideal S1x256x128 .f32) (p : FVec Ideal S256x128 .f32) (r : Fin 256) (d : Fin 128) :
    lseStep (BitVec.ofNat 32 h.val) m l p (ix2 r d)
      = if d.val = h.val then m (ix3 0 r d) + Ideal.log (∑ t : Fin 128, l (ix3 0 r t)) * (((Real.log 2)⁻¹ : ℝ) : EReal)
        else p (ix2 r d) := by
  unfold lseStep rowSum
  pointwise
  rw [log2e_ideal, select_ite]
  refine if_congr ?_ rfl rfl
  have hd := d.isLt
  have hh := h.isLt
  word_omega

theorem lsePay_apply (t : FVec Ideal S256x128 .f32) (g : Vec Ideal S1x1x8x256 .f32) (r : Fin 256) (h : Fin 8) :
    lsePay t g (ix4 0 0 h r)
      = (t (ix2 r ⟨h.val, by omega⟩) + g (ix4 0 0 h r)) * ((Real.log 2 : ℝ) : EReal) := by
  unfold lsePay k0_pay1
  pointwise
  rw [ln2_ideal]

/-- A position of the sequence, from any number. -/
def pos (n : ℕ) : Fin 8192 := ⟨n % 8192, Nat.mod_lt _ (by decide)⟩

theorem pos_of_lt {n : ℕ} (h : n < 8192) : pos n = ⟨n, h⟩ := Fin.ext (Nat.mod_eq_of_lt h)

/-- The score of row `r` of head `h` against the key at position `n`, in the kernel's units; `⊥` where masked. -/
def sc (i : grid0.Coords) (x0 : Vec Ideal S1x256x896 .fp8e4m3) (x1 : Vec Ideal S1x8192x128 .fp8e4m3) (x3 : Vec Ideal S1x1x8x8192 .f32)
    (sq : Vec Ideal S1x256x1 .i32) (x5 : Vec Ideal S1x1x8192 .i32) (x7 : Vec Ideal S2x56 .f32) (h : Fin 7) (r : Fin 256) (n : ℕ) : EReal :=
  if sq (ix3 0 r 0) = x5 (ix3 0 0 (pos n)) ∧ n ≤ 256 * (i 2).val + r.val then
    (∑ d : Fin 128, x0 (ix3 0 r ⟨128 * h.val + d.val, by omega⟩) * x1 (ix3 0 (pos n) d))
      * x7 (ix2 ⟨(i 0).val, (i 0).isLt⟩ ⟨7 * (i 1).val + h.val, by have h1 : (i 1).val < 8 := (i 1).isLt; omega⟩)
      - x3 (ix4 0 0 ⟨h.val, by omega⟩ (pos n))
  else ⊥

/-- The mask's causal half, read as numbers. -/
theorem mask_iff (q a : ℕ) (hq : q < 32) (ha : a < 32) (r j : Fin 256) (a17 : BitVec 32) (h17 : a17.toNat = a) :
    IntOp.cmpi .sle (IntOp.addi (BitVec.ofNat 32 j.val) (Scalar.muli (Scalar.subi a17 (BitVec.ofNat 32 q)) 256#32))
        (BitVec.ofNat 32 r.val) = 1#1 ↔ 256 * a + j.val ≤ 256 * q + r.val := by
  have hr := r.isLt
  have hj := j.isLt
  have hw : (Scalar.muli (Scalar.subi a17 (BitVec.ofNat 32 q)) 256#32).toNat = ((2 ^ 32 - q + a) % 2 ^ 32 * 256) % 2 ^ 32 := by
    show ((a17 - BitVec.ofNat 32 q) * 256#32).toNat = _
    rw [BitVec.toNat_mul, BitVec.toNat_sub, BitVec.toNat_ofNat, Nat.mod_eq_of_lt (by omega : q < 2 ^ 32), h17]
    rfl
  generalize Scalar.muli (Scalar.subi a17 (BitVec.ofNat 32 q)) 256#32 = w at hw ⊢
  word_omega

/-- Where the body reads a head's scale. -/
theorem off4 (i : grid0.Coords) (h : Fin 7) : k0_off4 i (BitVec.ofNat 32 h.val) 0 = (i 0).val
    ∧ k0_off4 i (BitVec.ofNat 32 h.val) 1 = 7 * (i 1).val + h.val := by
  have h0 : (i 0).val < 2 := (i 0).isLt
  have h1 : (i 1).val < 8 := (i 1).isLt
  have hh := h.isLt
  have hw : (IntOp.muli (BitVec.ofNat 32 (i 1).val) 7#32).toNat = 7 * (i 1).val := by
    show (BitVec.ofNat 32 (i 1).val * 7#32).toNat = _
    rw [BitVec.toNat_mul, BitVec.toNat_ofNat]
    simp
    omega
  unfold k0_off4
  simp only [Matrix.cons_val_zero, Matrix.cons_val_one, Scalar.muli, Scalar.addi, Scalar.indexCast]
  generalize IntOp.muli (BitVec.ofNat 32 (i 1).val) 7#32 = w at hw ⊢
  constructor
  · word_omega
  · word_omega

/-- A block's masked scores are the rows' scores against the block's keys. -/
theorem scoreH_apply (i : grid0.Coords) (a17 : BitVec 32) (a n : ℕ) (hn : n + 256 ≤ 8192) (ha : a < 32) (h17 : a17.toNat = a)
    (hna : n = 256 * a) (x0 : Vec Ideal S1x256x896 .fp8e4m3) (x1 : Vec Ideal S1x8192x128 .fp8e4m3) (x3 : Vec Ideal S1x1x8x8192 .f32)
    (sq : Vec Ideal S1x256x1 .i32) (x5 : Vec Ideal S1x1x8192 .i32) (x7 : Vec Ideal S2x56 .f32) (h : Fin 7) (r j : Fin 256) :
    scoreH i a17 n hn x0 x1 x3 sq x5 x7 h (ix2 r j) = sc i x0 x1 x3 sq x5 x7 h r (n + j.val) := by
  unfold scoreH scoreBlk
  rw [show ∀ (m : IVec S256x256 1) (x y : FVec Ideal S256x256 .f32), select m x y (ix2 r j)
    = Scalar.select (m (ix2 r j)) (x (ix2 r j)) (y (ix2 r j)) from fun _ _ _ => rfl, rawBlk_apply]
  unfold maskBlk
  pointwise
  unfold sc
  have hp : pos (n + j.val) = ⟨n + j.val, by omega⟩ := pos_of_lt _
  rw [select_ite, neg_top, hp]
  refine if_congr ?_ ?_ rfl
  · rw [andi_iff, cmpi_eq_iff, mask_iff (i 2).val a (i 2).isLt ha r j a17 h17]
    exact and_congr_right fun _ => by omega
  · rw [show ∀ (u : Fin 2) (w : Fin 56) (hu : k0_off4 i (BitVec.ofNat 32 h.val) 0 < 2)
        (hw : k0_off4 i (BitVec.ofNat 32 h.val) 1 < 56), u.val = (i 0).val → w.val = 7 * (i 1).val + h.val →
        x7 (ix2 ⟨_, hu⟩ ⟨_, hw⟩) = x7 (ix2 u w) from fun u w hu hw e e' => by
      congr 2
      · exact Fin.ext ((off4 i h).1.trans e.symm)
      · exact Fin.ext ((off4 i h).2.trans e'.symm)]
    · rfl
    · rfl

end Cert.KernelIdeal.Gen

end
-- ==== Proof.Totals.lean ====
/- What the body's recursions come to: over the blocks of keys from the table's word to the query block, the
   running maxima, sums and products are a maximum and sums over all keys, the masked ones adding nothing. -/
module

public import proofs.«01_k».proof.Proof.Scores
public import proofs.«01_k».proof.Proof.WordMath
public import Idealize.ShloMosaic.Lib.Pointwise

@[expose] public section

noncomputable section

namespace Cert.Lanes

open Idealize.ShloMosaic

/-- A sum over lanes of sums over rows of 128 is the sum over all columns. -/
theorem sum_lanes (T : ℕ) (f : ℕ → EReal) :
    ∑ l : Fin 128, ∑ t ∈ Finset.range T, f (128 * t + l.val) = ∑ n ∈ Finset.range (128 * T), f n := by
  induction T with
  | zero => simp
  | succ T ih =>
    simp only [Finset.sum_range_succ, Finset.sum_add_distrib]
    rw [ih, Nat.mul_succ, Finset.sum_range_add, Finset.sum_range (fun x => f (128 * T + x))]

/-- The maximum over lanes of maxima over rows of 128 is the maximum over all columns. -/
theorem sup_lanes (T : ℕ) (f : ℕ → EReal) :
    (Finset.univ.sup fun l : Fin 128 => (Finset.range T).sup fun t => f (128 * t + l.val)) = (Finset.range (128 * T)).sup f := by
  apply le_antisymm
  · refine Finset.sup_le fun l _ => Finset.sup_le fun t ht => ?_
    have := Finset.mem_range.mp ht
    have := l.isLt
    exact Finset.le_sup (f := f) (Finset.mem_range.mpr (by omega))
  · refine Finset.sup_le fun n hn => ?_
    have := Finset.mem_range.mp hn
    refine le_trans ?_ (Finset.le_sup (Finset.mem_univ (⟨n % 128, Nat.mod_lt _ (by decide)⟩ : Fin 128)))
    refine le_trans ?_ (Finset.le_sup (Finset.mem_range.mpr (by omega : n / 128 < T)))
    simp only
    rw [Nat.div_add_mod]

/-- A sum over a range of positions is the sum over all of them when the others add nothing. -/
theorem sum_all (a k : ℕ) (hk : a + k ≤ 8192) (f : ℕ → EReal) (h : ∀ n, n < 8192 → (n < a ∨ a + k ≤ n) → f n = 0) :
    ∑ n ∈ Finset.range k, f (a + n) = ∑ n : Fin 8192, f n.val := by
  rw [← Finset.sum_range f, show 8192 = a + (k + (8192 - a - k)) by omega, Finset.sum_range_add, Finset.sum_range_add]
  rw [Finset.sum_eq_zero (s := Finset.range a) fun n hn => h n (by have := Finset.mem_range.mp hn; omega)
    (Or.inl (Finset.mem_range.mp hn))]
  rw [Finset.sum_eq_zero (s := Finset.range (8192 - a - k)) fun n hn => h _ (by have := Finset.mem_range.mp hn; omega)
    (Or.inr (by omega))]
  simp

/-- A maximum over a range of positions is the maximum over all of them when the others are the least. -/
theorem sup_all (a k : ℕ) (hk : a + k ≤ 8192) (f : ℕ → EReal) (h : ∀ n, n < 8192 → (n < a ∨ a + k ≤ n) → f n = ⊥) :
    ((Finset.range k).sup fun n => f (a + n)) = Finset.univ.sup fun n : Fin 8192 => f n.val := by
  apply le_antisymm
  · refine Finset.sup_le fun n hn => ?_
    have := Finset.mem_range.mp hn
    exact Finset.le_sup (f := fun n : Fin 8192 => f n.val) (Finset.mem_univ (⟨a + n, by omega⟩ : Fin 8192))
  · refine Finset.sup_le fun n _ => ?_
    by_cases hn : n.val < a ∨ a + k ≤ n.val
    · rw [h n.val n.isLt hn]
      exact bot_le
    · obtain ⟨d, hd⟩ : ∃ d, n.val = a + d := ⟨n.val - a, by omega⟩
      rw [hd]
      exact Finset.le_sup (f := fun n => f (a + n)) (Finset.mem_range.mpr (by omega))

theorem exp2_bot (m : EReal) : Ideal.exp2 (⊥ - m) = 0 := by
  rw [EReal.bot_sub]
  rfl

end Cert.Lanes

namespace Cert.KernelIdeal.Gen

open Idealize.ShloMosaic Idealize.ShloMosaic.TcCoe Idealize.SL Idealize.SL.Sem

variable (i : grid0.Coords) (v2 : BitVec 32) (x0 : Vec Ideal S1x256x896 .fp8e4m3) (x1 : Vec Ideal S1x8192x128 .fp8e4m3) (x3 : Vec Ideal S1x1x8x8192 .f32)
  (sq : Vec Ideal S1x256x1 .i32) (x5 : Vec Ideal S1x1x8192 .i32) (x7 : Vec Ideal S2x56 .f32) (x2 : Vec Ideal S1x1x128x8192 .fp8e4m3) (h : Fin 7)

theorem trips1 (hv : v2.toNat ≤ (i 2).val) : (k0_t1_loop i v2).trips = (i 2).val + 1 - v2.toNat :=
  (congrArg (fun u => Scf.trips v2 u 1#32) (WordMath.upper (i 2).val v2)).trans (WordMath.trips_eq _ _ (i 2).isLt hv)

theorem trips3 (hv : v2.toNat ≤ (i 2).val) : (k0_t3_loop i v2).trips = (i 2).val + 1 - v2.toNat :=
  (congrArg (fun u => Scf.trips v2 u 1#32) (WordMath.upper (i 2).val v2)).trans (WordMath.trips_eq _ _ (i 2).isLt hv)

theorem colAt_nat (hv : v2.toNat ≤ (i 2).val) (k : ℕ) (hk : k < (i 2).val + 1 - v2.toNat) : colAt v2 k = 256 * (v2.toNat + k) := by
  rw [Nat.mul_comm]
  exact WordMath.col_toNat (i 2).val v2 hv k (i 2).isLt hk

/-- The score at a column of the block of keys number `k`. -/
theorem score_at (hv : v2.toNat ≤ (i 2).val) (k : ℕ) (hk : k < (i 2).val + 1 - v2.toNat) (hn : colAt v2 k + 256 ≤ 8192)
    (r j : Fin 256) : scoreH i (Scf.iv v2 1#32 k) (colAt v2 k) hn x0 x1 x3 sq x5 x7 h (ix2 r j)
      = sc i x0 x1 x3 sq x5 x7 h r (256 * v2.toNat + (256 * k + j.val)) := by
  have h2 : (i 2).val < 32 := (i 2).isLt
  have hc := colAt_nat i v2 hv k hk
  rw [scoreH_apply i _ (v2.toNat + k) _ hn (by omega) (WordMath.iv_toNat (i 2).val v2 hv k h2 hk) hc]
  congr 1
  omega

/-- The running maximum of a lane after `k` blocks. -/
theorem maxIter_apply (hv : v2.toNat ≤ (i 2).val) (r : Fin 256) (l : Fin 128) (k : ℕ) (hk : k ≤ (i 2).val + 1 - v2.toNat) :
    maxIter i v2 x0 x1 x3 sq x5 x7 h k (ix3 0 r l)
      = (Finset.range (2 * k)).sup fun t => sc i x0 x1 x3 sq x5 x7 h r (256 * v2.toNat + (128 * t + l.val)) := by
  have h2 : (i 2).val < 32 := (i 2).isLt
  induction k with
  | zero => exact neg_top
  | succ k ih =>
    have hc := colAt_nat i v2 hv k (by omega)
    have hn : colAt v2 k + 256 ≤ 8192 := by omega
    rw [maxIter, dif_pos hn, maxPay_apply, ih (by omega), score_at (hv := hv) (hk := by omega), score_at (hv := hv) (hk := by omega),
      show 2 * (k + 1) = 2 * k + 1 + 1 by omega, Finset.range_add_one, Finset.sup_insert, Finset.range_add_one, Finset.sup_insert]
    rw [show 128 * (2 * k + 1) + l.val = 256 * k + (128 + l.val) by omega, show 128 * (2 * k) + l.val = 256 * k + l.val by omega]
    simp only [max_comm, max_assoc, max_left_comm]

/-- The running sum of a lane after `k` blocks, the row's maximum `M`. -/
theorem sumIter_apply (hv : v2.toNat ≤ (i 2).val) (m : Vec Ideal S1x256x128 .f32) (r : Fin 256) (M : EReal)
    (hm : ∀ l, m (ix3 0 r l) = M) (l : Fin 128) (k : ℕ) (hk : k ≤ (i 2).val + 1 - v2.toNat) :
    sumIter i v2 x0 x1 x3 sq x5 x7 h m k (ix3 0 r l)
      = ∑ t ∈ Finset.range (2 * k), Ideal.exp2 (sc i x0 x1 x3 sq x5 x7 h r (256 * v2.toNat + (128 * t + l.val)) - M) := by
  have h2 : (i 2).val < 32 := (i 2).isLt
  have he : ∀ (s : FVec Ideal S256x256 .f32) (j : Fin 256), expBlk s m (ix2 r j) = Ideal.exp2 (s (ix2 r j) - M) := fun s j => by
    rw [expBlk_apply]
    split <;> rw [hm]
  induction k with
  | zero =>
    show Ideal.ofBits .f32 0#32 = _
    simp [Ideal.ofBits, Ideal.ieee]
  | succ k ih =>
    have hc := colAt_nat i v2 hv k (by omega)
    have hn : colAt v2 k + 256 ≤ 8192 := by omega
    rw [sumIter, dif_pos hn, sumPay_apply, ih (by omega), he, he, score_at (hv := hv) (hk := by omega),
      score_at (hv := hv) (hk := by omega),
      show 2 * (k + 1) = 2 * k + 1 + 1 by omega, Finset.sum_range_succ, Finset.sum_range_succ, add_assoc]
    rw [show 128 * (2 * k + 1) + l.val = 256 * k + (128 + l.val) by omega, show 128 * (2 * k) + l.val = 256 * k + l.val by omega]

/-- The running product with the values after `k` blocks, the row's maximum `M`. -/
theorem accIter_apply (hv : v2.toNat ≤ (i 2).val) (m : Vec Ideal S1x256x128 .f32) (r : Fin 256) (M : EReal)
    (hm : ∀ l, m (ix3 0 r l) = M) (d : Fin 128) (k : ℕ) (hk : k ≤ (i 2).val + 1 - v2.toNat) :
    accIter i v2 x0 x1 x3 sq x5 x7 x2 h m k (ix3 0 d r)
      = ∑ n ∈ Finset.range (256 * k), x2 (ix4 0 0 d (pos (256 * v2.toNat + n)))
        * Ideal.exp2 (sc i x0 x1 x3 sq x5 x7 h r (256 * v2.toNat + n) - M) := by
  have h2 : (i 2).val < 32 := (i 2).isLt
  have he : ∀ (s : FVec Ideal S256x256 .f32) (j : Fin 256), expBlk s m (ix2 r j) = Ideal.exp2 (s (ix2 r j) - M) := fun s j => by
    rw [expBlk_apply]
    split <;> rw [hm]
  induction k with
  | zero =>
    show Ideal.ofBits .f32 0#32 = _
    simp [Ideal.ofBits, Ideal.ieee]
  | succ k ih =>
    have hc := colAt_nat i v2 hv k (by omega)
    have hn : colAt v2 k + 256 ≤ 8192 := by omega
    rw [accIter, dif_pos hn, accPay_apply, ih (by omega), Nat.mul_succ, Finset.sum_range_add,
      Finset.sum_range (n := 256)]
    congr 1
    refine Finset.sum_congr rfl fun j _ => ?_
    rw [he, score_at (hv := hv) (hk := by omega)]
    congr 1
    rw [pos_of_lt (by omega)]
    pointwise
    exact congrArg (fun n => x2 (ix4 0 0 d n)) (Fin.ext (by show colAt v2 k + j.val = 256 * v2.toNat + (256 * k + j.val); omega))

section

variable (hv : v2.toNat ≤ (i 2).val) (r : Fin 256)
  (hb : ∀ n, n < 256 * v2.toNat → sc i x0 x1 x3 sq x5 x7 h r n = ⊥)

theorem sc_far (n : ℕ) (hn : 256 * ((i 2).val + 1) ≤ n) : sc i x0 x1 x3 sq x5 x7 h r n = ⊥ := by
  unfold sc
  rw [if_neg]
  rintro ⟨_, h'⟩
  have := r.isLt
  omega

include hv hb

theorem sc_out (n : ℕ) (hn : n < 256 * v2.toNat ∨ 256 * v2.toNat + 256 * ((i 2).val + 1 - v2.toNat) ≤ n) :
    sc i x0 x1 x3 sq x5 x7 h r n = ⊥ := by
  rcases hn with hn | hn
  · exact hb n hn
  · exact sc_far i x0 x1 x3 sq x5 x7 h r n (by omega)

/-- A row's maximum is the maximum of its scores against all keys. -/
theorem rowMax_eq (l : Fin 128) : rowMax i v2 x0 x1 x3 sq x5 x7 h (ix3 0 r l)
    = Finset.univ.sup fun n : Fin 8192 => sc i x0 x1 x3 sq x5 x7 h r n.val := by
  have h2 : (i 2).val < 32 := (i 2).isLt
  rw [rowMax, rowMaxPay_apply, trips1 i v2 hv]
  rw [Finset.sup_congr rfl fun t _ => maxIter_apply i v2 x0 x1 x3 sq x5 x7 h hv r t _ le_rfl]
  rw [Lanes.sup_lanes (2 * ((i 2).val + 1 - v2.toNat)) (fun n => sc i x0 x1 x3 sq x5 x7 h r (256 * v2.toNat + n)),
    ← Nat.mul_assoc]
  exact Lanes.sup_all (256 * v2.toNat) _ (by omega) (sc i x0 x1 x3 sq x5 x7 h r)
    fun n _ hn => sc_out i v2 x0 x1 x3 sq x5 x7 h hv r hb n hn

/-- A row's sum over lanes is the sum of its weights over all keys. -/
theorem headSum_eq : ∑ l : Fin 128, headSum i v2 x0 x1 x3 sq x5 x7 h (ix3 0 r l)
    = ∑ n : Fin 8192, Ideal.exp2 (sc i x0 x1 x3 sq x5 x7 h r n.val
      - Finset.univ.sup fun n : Fin 8192 => sc i x0 x1 x3 sq x5 x7 h r n.val) := by
  have h2 : (i 2).val < 32 := (i 2).isLt
  simp only [headSum]
  rw [trips3 i v2 hv]
  rw [Finset.sum_congr rfl fun t _ => sumIter_apply i v2 x0 x1 x3 sq x5 x7 h hv _ r _
    (fun l => rowMax_eq i v2 x0 x1 x3 sq x5 x7 h hv r hb l) t _ le_rfl]
  generalize (Finset.univ.sup fun n : Fin 8192 => sc i x0 x1 x3 sq x5 x7 h r n.val) = M
  rw [Lanes.sum_lanes (2 * ((i 2).val + 1 - v2.toNat)) (fun n => Ideal.exp2 (sc i x0 x1 x3 sq x5 x7 h r (256 * v2.toNat + n) - M)),
    ← Nat.mul_assoc]
  exact Lanes.sum_all (256 * v2.toNat) _ (by omega) (fun n => Ideal.exp2 (sc i x0 x1 x3 sq x5 x7 h r n - M))
    fun n _ hn => by
      rw [sc_out i v2 x0 x1 x3 sq x5 x7 h hv r hb n hn, Lanes.exp2_bot]

/-- A row's product with the values is the sum over all keys. -/
theorem headAcc_eq (d : Fin 128) : headAcc i v2 x0 x1 x3 sq x5 x7 x2 h (ix3 0 d r)
    = ∑ n : Fin 8192, x2 (ix4 0 0 d n) * Ideal.exp2 (sc i x0 x1 x3 sq x5 x7 h r n.val
      - Finset.univ.sup fun n : Fin 8192 => sc i x0 x1 x3 sq x5 x7 h r n.val) := by
  have h2 : (i 2).val < 32 := (i 2).isLt
  rw [headAcc, trips3 i v2 hv, accIter_apply i v2 x0 x1 x3 sq x5 x7 x2 h hv _ r _
    (fun l => rowMax_eq i v2 x0 x1 x3 sq x5 x7 h hv r hb l) d _ le_rfl]
  generalize (Finset.univ.sup fun n : Fin 8192 => sc i x0 x1 x3 sq x5 x7 h r n.val) = M
  rw [Lanes.sum_all (256 * v2.toNat) _ (by omega)
    (fun n => x2 (ix4 0 0 d (pos n)) * Ideal.exp2 (sc i x0 x1 x3 sq x5 x7 h r n - M)) fun n _ hn => by
      rw [sc_out i v2 x0 x1 x3 sq x5 x7 h hv r hb n hn, Lanes.exp2_bot, mul_zero]]
  refine Finset.sum_congr rfl fun n _ => ?_
  rw [pos_of_lt n.isLt]

end

end Cert.KernelIdeal.Gen

end
-- ==== Proof.OutsAt.lean ====
/- The body's outputs at coordinates, over the scores of all keys. -/
module

public import proofs.«01_k».proof.Proof.Attn
public import proofs.«01_k».proof.Proof.Totals

@[expose] public section

noncomputable section

namespace Cert.KernelIdeal.Gen

open Idealize.ShloMosaic Idealize.ShloMosaic.TcCoe Idealize.SL Idealize.SL.Sem

variable (h : Fin 7) (r : Fin 256)

/-- Of the seven heads' steps the one of the head itself writes the head's column. -/
theorem foldl_col {α : Type} (f : Fin 7 → α) (s : α) (h : Fin 7) :
    ([0, 1, 2, 3, 4, 5, 6] : List (Fin 7)).foldl (fun a k => if h.val = k.val then f k else a) s = f h := by
  fin_cases h <;> rfl

theorem stats_col (M L : Fin 7 → Vec Ideal S1x256x128 .f32) (s : Vec Ideal S256x128 .f32) (ks : List (Fin 7)) :
    ks.foldl (fun t k => lseStep (BitVec.ofNat 32 k.val) (M k) (L k) t) s (ix2 r ⟨h.val, by omega⟩)
      = ks.foldl (fun a k => if h.val = k.val then M k (ix3 0 r ⟨h.val, by omega⟩)
          + Ideal.log (∑ l, L k (ix3 0 r l)) * (((Real.log 2)⁻¹ : ℝ) : EReal) else a) (s (ix2 r ⟨h.val, by omega⟩)) := by
  induction ks generalizing s with
  | nil => rfl
  | cons k ks ih =>
    rw [List.foldl_cons, List.foldl_cons, ih, lseStep_apply]

theorem ld_outR (f : Vec Ideal S1x256x896 .bf16) (d : Fin 128) :
    View.ld f (outR h) (ix3 0 r d) = f (ix3 0 r ⟨128 * h.val + d.val, by omega⟩) := by
  refine congrArg f (funext fun (a : Fin 3) => Fin.ext ?_)
  fin_cases a
  · rfl
  · exact (Nat.zero_add _).trans (Nat.one_mul _)
  · exact congrArg (128 * h.val + ·) (Nat.one_mul _)

/-- The query block's columns of the gates. -/
theorem ld_gates (i : grid0.Coords) (f : Vec Ideal S1x1x8x8192 .f32) (n : Fin 8192) (hn : n.val = 256 * (i 2).val + r.val) :
    View.ld f (Rect.unit (s := S1x1x8x8192) (k0_off44 i) S1x1x8x256.size (k0_off44_inb i)) (ix4 0 0 ⟨h.val, by omega⟩ r)
      = f (ix4 0 0 ⟨h.val, by omega⟩ n) := by
  have h2 : (i 2).val < 32 := (i 2).isLt
  refine congrArg f (funext fun (a : Fin 4) => Fin.ext ?_)
  fin_cases a
  · rfl
  · rfl
  · exact (Nat.zero_add _).trans (Nat.one_mul _)
  · refine Eq.trans ?_ hn.symm
    show (BitVec.ofNat 32 (i 2).val * 256#32).toNat + 1 * r.val = 256 * (i 2).val + r.val
    rw [BitVec.toNat_mul, BitVec.toNat_ofNat]
    simp
    omega

section

variable (c : Dev nD) (i : grid0.Coords)
  (arg4 : Memref sig .tc .vmem S1x256x896 .fp8e4m3) (harg4 : arg4.IsWhole)
  (arg5 : Memref sig .tc .vmem S1x8192x128 .fp8e4m3) (harg5 : arg5.IsWhole)
  (arg6 : Memref sig .tc .vmem S1x1x128x8192 .fp8e4m3) (harg6 : arg6.IsWhole)
  (arg7 : Memref sig .tc .vmem S1x1x8x8192 .f32) (harg7 : arg7.IsWhole)
  (arg8 : Memref sig .tc .vmem S1x256x1 .i32) (harg8 : arg8.IsWhole)
  (arg9 : Memref sig .tc .vmem S1x1x8192 .i32) (harg9 : arg9.IsWhole)
  (arg10 : Memref sig .tc .vmem S1x1x1x128 .f32) (harg10 : arg10.IsWhole)
  (arg11 : Memref sig .tc .smem S2x56 .f32) (harg11 : arg11.IsWhole)
  (arg12 : Memref sig .tc .vmem S1x256x896 .bf16) (harg12 : arg12.IsWhole)
  (arg13 : Memref sig .tc .vmem S1x1x8x256 .f32) (harg13 : arg13.IsWhole)
  (arg14 : Memref sig .tc .vmem S7x256x128 .f32) (harg14 : arg14.IsWhole)
  (arg15 : Memref sig .tc .vmem S7x256x128 .f32) (harg15 : arg15.IsWhole)
  (arg16 : Memref sig .tc .vmem S7x128x256 .f32) (harg16 : arg16.IsWhole)
  (x0 : Vec Ideal S1x256x896 .fp8e4m3) (x1 : Vec Ideal S1x8192x128 .fp8e4m3) (x2 : Vec Ideal S1x1x128x8192 .fp8e4m3)
  (x3 : Vec Ideal S1x1x8x8192 .f32) (x4 : Vec Ideal S1x256x1 .i32) (x5 : Vec Ideal S1x1x8192 .i32) (x6 : Vec Ideal S1x1x1x128 .f32)
  (x7 : Vec Ideal S2x56 .f32) (xt0 : TbBuf0 (F := Ideal) c tbM0_0) (hw : k0_chk1 i (word0 c i xt0))
  (hv : (word0 c i xt0).toNat ≤ (i 2).val) (hb : ∀ n < 256 * (word0 c i xt0).toNat, sc i x0 x1 x3 x4 x5 x7 h r n = ⊥)
include hv hb

/-- The first output: the keys' values weighted, over the sum of the weights, times the values' scale. -/
theorem out8_at (d : Fin 128) :
    out0_A_8 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw (ix3 0 r ⟨128 * h.val + d.val, by omega⟩)
      = (∑ n : Fin 8192, x2 (ix4 0 0 d n) * Cert.Fox.wt (fun n : Fin 8192 => sc i x0 x1 x3 x4 x5 x7 h r n.val) n)
        * Ideal.div 1 (Cert.Fox.tot (fun n : Fin 8192 => sc i x0 x1 x3 x4 x5 x7 h r n.val)) * x6 (ix4 0 0 0 d) := by
  refine (ld_outR h r _ d).symm.trans ?_
  rw [out8_head, outPay_apply, headSum_eq i _ x0 x1 x3 x4 x5 x7 h hv r hb, headAcc_eq i _ x0 x1 x3 x4 x5 x7 x2 h hv r hb]
  rfl

/-- The second output: the greatest score and the logarithm of the sum, the query's own gate added, in natural logarithms. -/
theorem out9_at (n : Fin 8192) (hn : n.val = 256 * (i 2).val + r.val) :
    out0_A_9 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hw (ix4 0 0 ⟨h.val, by omega⟩ r)
      = (Cert.Fox.top (fun n : Fin 8192 => sc i x0 x1 x3 x4 x5 x7 h r n.val)
          + Ideal.log (Cert.Fox.tot (fun n : Fin 8192 => sc i x0 x1 x3 x4 x5 x7 h r n.val)) * (((Real.log 2)⁻¹ : ℝ) : EReal)
          + x3 (ix4 0 0 ⟨h.val, by omega⟩ n)) * ((Real.log 2 : ℝ) : EReal) := by
  rw [out9_eq, lsePay_apply, stats_col h r, foldl_col, ld_gates h r i x3 n hn, headSum_eq i _ x0 x1 x3 x4 x5 x7 h hv r hb,
    rowMax_eq i _ x0 x1 x3 x4 x5 x7 h hv r hb]
  rfl

end

end Cert.KernelIdeal.Gen

end
-- ==== Proof.Point.lean ====
/- What the body writes at a grid point, in the program's arguments. -/
module

public import proofs.«01_k».proof.Proof.HostReads
public import proofs.«01_k».proof.Proof.Windows
public import proofs.«01_k».proof.Proof.OutsAt
public import proofs.«01_k».proof.Proof.Table

@[expose] public section

noncomputable section

namespace Cert.KernelIdeal.Gen

open Idealize.ShloMosaic Idealize.ShloMosaic.TcCoe Idealize.SL Idealize.SL.Sem

variable (m : (ℓ : Loc nD τ sig) → Buf (Elt Ideal) ℓ) (hO : Ok m) (hH : Hyps m hO) (t : Fin (cfgM m hO).N) (h : Fin 7) (r : Fin 256)

theorem pos_val (n : Fin 8192) : pos n.val = n := pos_of_lt n.isLt

/-- The body's score of a key is the kernel's score in the arguments. -/
theorem sc_at (n : Fin 8192) :
    sc (grid0.coords t) (iblk m hO 0 0 t) (iblk m hO 0 1 t) (iblk m hO 0 3 t) (iblk m hO 0 4 t) (iblk m hO 0 5 t) (iblk m hO 0 7 t) h r n.val
      = Cert.Fox.yK (argsOf m 0) (bI (grid0.coords t)) (gI (grid0.coords t)) h (rowI (grid0.coords t) r) n := by
  unfold sc Cert.Fox.yK
  have hs : (iblk m hO 0 4 t (ix3 0 r 0) = iblk m hO 0 5 t (ix3 0 0 (pos n.val)) ∧ n.val ≤ 256 * (grid0.coords t 2).val + r.val)
      ↔ Cert.Fox.Sees (argsOf m 0) (bI (grid0.coords t)) (rowI (grid0.coords t) r) n := by
    rw [pos_val, blk4, blk5, segq_at, segk_at]
    rfl
  by_cases hc : Cert.Fox.Sees (argsOf m 0) (bI (grid0.coords t)) (rowI (grid0.coords t) r) n
  swap
  · rw [if_neg hc]
    exact if_neg fun h' => hc (hs.mp h')
  rw [if_pos hc]
  refine (if_pos (hs.mpr hc)).trans ?_
  rw [pos_val]
  refine congrArg₂ (· - ·) (congrArg₂ (· * ·) (Finset.sum_congr rfl fun d _ => congrArg₂ (· * ·) ?_ ?_) ?_) ?_
  · rw [blk0]
    refine Eq.trans ?_ (q_at m 0 (bI (grid0.coords t)) (rowI (grid0.coords t) r) (Cert.Fox.headI (gI (grid0.coords t)) h) d)
    exact congrArg (fun j => V m 0 main_v20 (ix3 (bI (grid0.coords t)) (rowI (grid0.coords t) r) j))
      (Fin.ext (by
        show 896 * (grid0.coords t 1).val + (128 * h.val + d.val) = 128 * (7 * (grid0.coords t 1).val + h.val) + d.val
        omega))
  · rw [blk1]
    exact k_at m 0 _ _ (gI (grid0.coords t)) d
  · rw [blk7]
    exact a_at m 0 (bI (grid0.coords t)) (gI (grid0.coords t)) h
  · rw [blk3]
    exact c_at m 0 _ _ h n

/-- The segments' numbers do not fall along a row. -/
def Sorted (a : Cert.Fox.Args) : Prop := ∀ b (i j : Fin 8192), i.val ≤ j.val → (a.seg b i).toInt ≤ (a.seg b j).toInt

theorem word_le_block : (word0 0 (grid0.coords t) (tbl m 0)).toNat ≤ (grid0.coords t 2).val := by
  unfold word0
  rw [word_eq]
  exact table_le_self m 0 (grid0.coords t 0) (grid0.coords t 2)

/-- No query of the block looks at a key before the block of keys the table names. -/
theorem sc_before (hs : Sorted (argsOf m 0)) (n : ℕ) (hn : n < 256 * (word0 0 (grid0.coords t) (tbl m 0)).toNat) :
    sc (grid0.coords t) (iblk m hO 0 0 t) (iblk m hO 0 1 t) (iblk m hO 0 3 t) (iblk m hO 0 4 t) (iblk m hO 0 5 t) (iblk m hO 0 7 t) h r n = ⊥ := by
  have hw := word_le_block m hO t
  have h2 : (grid0.coords t 2).val < 32 := (grid0.coords t 2).isLt
  have hr := r.isLt
  refine (sc_at m hO t h r ⟨n, by omega⟩).trans ?_
  unfold Cert.Fox.yK
  rw [if_neg]
  rintro ⟨he, _⟩
  have hlt : 256 * (grid0.coords t 2).val < 8192 := by omega
  have hq : (rowI (grid0.coords t) r).val = 256 * (grid0.coords t 2).val + r.val := rfl
  have h1 := hs (bI (grid0.coords t)) ⟨n, by omega⟩ ⟨256 * (grid0.coords t 2).val, hlt⟩ (by show n ≤ 256 * (grid0.coords t 2).val; omega)
  have h3 := hs (bI (grid0.coords t)) ⟨256 * (grid0.coords t 2).val, hlt⟩ (rowI (grid0.coords t) r)
    (by show 256 * (grid0.coords t 2).val ≤ 256 * (grid0.coords t 2).val + r.val; omega)
  rw [he] at h3
  have e := BitVec.eq_of_toInt_eq (le_antisymm h1 h3)
  have := table_le m 0 (bI (grid0.coords t)) (tI (grid0.coords t)) ⟨n, by omega⟩ e
  unfold word0 at hn
  rw [word_eq] at hn
  have h4 : (V m 0 main_v19 (ix2 (grid0.coords t 0) (grid0.coords t 2)) : BitVec 32).toNat ≤ n / 256 := this
  omega

/-- The scores of a query's row. -/
theorem row_at : (fun n : Fin 8192 => sc (grid0.coords t) (iblk m hO 0 0 t) (iblk m hO 0 1 t) (iblk m hO 0 3 t) (iblk m hO 0 4 t)
      (iblk m hO 0 5 t) (iblk m hO 0 7 t) h r n.val)
    = Cert.Fox.yK (argsOf m 0) (bI (grid0.coords t)) (gI (grid0.coords t)) h (rowI (grid0.coords t) r) :=
  funext fun n => sc_at m hO t h r n

/-- The body's first output is the kernel's output in the arguments. -/
theorem out_o (hs : Sorted (argsOf m 0)) (d : Fin 128) : (outsAt0 m hO hH 0 t).1 (ix3 0 r ⟨128 * h.val + d.val, by omega⟩)
    = Cert.Fox.oK (argsOf m 0) (bI (grid0.coords t)) (gI (grid0.coords t)) h (rowI (grid0.coords t) r) d := by
  unfold outsAt0
  dsimp only
  refine (out8_at h r _ _ _ _ _ _ _ _ _ _ _ _ _ _ _ _ _ _ _ _ _ _ _ _ _ _ _ _ _ _ _ _ _ _ _ _ _ _ (word_le_block m hO t)
    (sc_before m hO t h r hs) d).trans ?_
  rw [row_at]
  refine congrArg₂ (· * ·) (congrArg₂ (· * ·) (Finset.sum_congr rfl fun n _ => congrArg₂ (· * ·) ?_ rfl) rfl) ?_
  · rw [blk2]
    exact v_at m 0 _ _ _ _
  · rw [blk6]
    exact vs_at m 0 _ _ _

/-- The body's second output is the kernel's logarithm of the sum in the arguments. -/
theorem out_lse (hs : Sorted (argsOf m 0)) : (outsAt0 m hO hH 0 t).2 (ix4 0 0 ⟨h.val, by omega⟩ r)
    = Cert.Fox.lseK (argsOf m 0) (bI (grid0.coords t)) (gI (grid0.coords t)) h (rowI (grid0.coords t) r) := by
  unfold outsAt0
  dsimp only
  refine (out9_at h r _ _ _ _ _ _ _ _ _ _ _ _ _ _ _ _ _ _ _ _ _ _ _ _ _ _ _ _ _ _ _ _ _ _ _ _ _ _ (word_le_block m hO t)
    (sc_before m hO t h r hs) (rowI (grid0.coords t) r) rfl).trans ?_
  rw [row_at]
  unfold Cert.Fox.lseK
  refine congrArg (fun z : EReal => z * ((Real.log 2 : ℝ) : EReal)) (congrArg₂ (· + ·) rfl ?_)
  exact (blk3 m hO 0 t ⟨h.val, by omega⟩ (rowI (grid0.coords t) r)).trans (c_at m 0 _ _ h _)

end Cert.KernelIdeal.Gen

end
-- ==== Proof.Arrays.lean ====
/- The pipeline's output arrays after the whole run, in the program's arguments. -/
module

public import proofs.«01_k».proof.Proof.Point
public import Idealize.ShloMosaic.Lib.Pipeline.ValueKit
public import Idealize.ShloMosaic.Lib.Pipeline.Covers

@[expose] public section

noncomputable section

namespace Cert.KernelIdeal.Gen

open Idealize.ShloMosaic Idealize.ShloMosaic.TcCoe Idealize.SL Idealize.SL.Sem

/-- The first output: at a row and a column the head's output, seven heads of 128 lanes beside one another per key head. -/
def outArr (a : Cert.Fox.Args) : Vec Ideal S2x8192x7168 .bf16 := fun x =>
  Cert.Fox.oK a ⟨(x 0).val, (x 0).isLt⟩ ⟨(x 2).val / 896, Nat.div_lt_of_lt_mul (x 2).isLt⟩
    ⟨(x 2).val % 896 / 128, Nat.div_lt_of_lt_mul (Nat.mod_lt _ (by decide))⟩ ⟨(x 1).val, (x 1).isLt⟩ ⟨(x 2).val % 128, Nat.mod_lt _ (by decide)⟩

/-- The grid's point with three given coordinates. -/
def mkI (b : ℕ) (g : ℕ) (q : ℕ) (hb : b < 2) (hg : g < 8) (hq : q < 32) : grid0.Coords :=
  Fin.cons (α := fun a => Fin (grid0.bound a)) ⟨b, hb⟩
    (Fin.cons (α := fun a : Fin 2 => Fin (grid0.bound a.succ)) ⟨g, hg⟩ (Fin.cons (α := fun a : Fin 1 => Fin (grid0.bound a.succ.succ)) ⟨q, hq⟩ nofun))

variable (m : (ℓ : Loc nD τ sig) → Buf (Elt Ideal) ℓ) (hO : Ok m) (hH : Hyps m hO)

theorem covers8 : ((cfgM m hO).win 8).Covers :=
  ((cfgM m hO).win 8).covers_of_indexMap_surj rfl (show ∀ a : Fin 3, 0 < S1x256x896.size a by decide) fun β =>
    have h0 : (β (0 : Fin 3)).val < 2 := lt_of_lt_of_eq (β (0 : Fin 3)).isLt (show (2 + 1 - 1) / 1 = 2 by norm_num)
    have h1 : (β (1 : Fin 3)).val < 32 := lt_of_lt_of_eq (β (1 : Fin 3)).isLt (show (8192 + 256 - 1) / 256 = 32 by norm_num)
    have h2 : (β (2 : Fin 3)).val < 8 := lt_of_lt_of_eq (β (2 : Fin 3)).isLt (show (7168 + 896 - 1) / 896 = 8 by norm_num)
    ⟨mkI _ _ _ h0 h2 h1, fun (a : Fin 3) => by
        show cc0_transform_8 _ a = _
        rw [transform_8]
        fin_cases a <;> rfl⟩

theorem covers9 : ((cfgM m hO).win 9).Covers :=
  ((cfgM m hO).win 9).covers_of_indexMap_surj rfl (show ∀ a : Fin 4, 0 < S1x1x8x256.size a by decide) fun β =>
    have h0 : (β (0 : Fin 4)).val < 2 := lt_of_lt_of_eq (β (0 : Fin 4)).isLt (show (2 + 1 - 1) / 1 = 2 by norm_num)
    have h1 : (β (1 : Fin 4)).val < 8 := lt_of_lt_of_eq (β (1 : Fin 4)).isLt (show (8 + 1 - 1) / 1 = 8 by norm_num)
    have h2 : (β (2 : Fin 4)).val < 1 := lt_of_lt_of_eq (β (2 : Fin 4)).isLt (show (8 + 8 - 1) / 8 = 1 by norm_num)
    have h3 : (β (3 : Fin 4)).val < 32 := lt_of_lt_of_eq (β (3 : Fin 4)).isLt (show (8192 + 256 - 1) / 256 = 32 by norm_num)
    ⟨mkI _ _ _ h0 h1 h3, fun (a : Fin 4) => by
        show cc0_transform_9 _ a = _
        rw [transform_9]
        fin_cases a
        · rfl
        · rfl
        · exact (Nat.lt_one_iff.mp h2).symm
        · rfl⟩

/-- The first output array holds the kernel's output. -/
theorem arr_o (hs : Sorted (argsOf m 0)) : (dats m hO hH 0 0).arrAt 8 (cfgM m hO).N = outArr (argsOf m 0) := by
  refine (dats m hO hH 0 0).arrAt_eq_of_covers 8 _ (covers8 m hO) fun t _ y => ?_
  have e : ∀ a : Fin 3, ((((cfgM m hO).win 8).rect t).emb y a).val = cc0_transform_8 (grid0.coords t) a * S1x256x896.size a + (y a).val :=
    fun a => Pipeline.Window.rect_emb_val ((cfgM m hO).win 8) t y a
  have k1 : (y (1 : Fin 3)).val < 256 := (y (1 : Fin 3)).isLt
  have k2 : (y (2 : Fin 3)).val < 896 := (y (2 : Fin 3)).isLt
  have k0 : (y (0 : Fin 3)).val < 1 := (y (0 : Fin 3)).isLt
  have e0 := e 0
  have e1 := e 1
  have e2 := e 2
  rw [transform_8] at e0 e1 e2
  have i1 : (grid0.coords t 1).val < 8 := (grid0.coords t 1).isLt
  change _ = (grid0.coords t 0).val * 1 + _ at e0
  change _ = (grid0.coords t 2).val * 256 + _ at e1
  change _ = (grid0.coords t 1).val * 896 + _ at e2
  have ey : (y : S1x256x896.Idx) = ix3 0 ⟨(y (1 : Fin 3)).val, k1⟩
      ⟨128 * (⟨(y (2 : Fin 3)).val / 128, by omega⟩ : Fin 7).val + (⟨(y (2 : Fin 3)).val % 128, by omega⟩ : Fin 128).val,
        by show 128 * ((y (2 : Fin 3)).val / 128) + (y (2 : Fin 3)).val % 128 < 896; omega⟩ := by
    funext (a : Fin 3)
    apply Fin.ext
    fin_cases a
    · exact Nat.lt_one_iff.mp k0
    · rfl
    · show (y (2 : Fin 3)).val = 128 * ((y (2 : Fin 3)).val / 128) + (y (2 : Fin 3)).val % 128
      omega
  show (dats m hO hH 0 0).after 8 t y = outArr (argsOf m 0) ((((cfgM m hO).win 8).rect t).emb y)
  rw [after0_8]
  refine (congrArg (outsAt0 m hO hH 0 t).1 ey).trans ((out_o m hO hH t _ _ hs _).trans ?_)
  unfold outArr
  congr 1
  · exact Fin.ext (by show (grid0.coords t 0).val = _; rw [e0]; omega)
  · exact Fin.ext (by show (grid0.coords t 1).val = _ / 896; rw [e2]; omega)
  · exact Fin.ext (by show (y (2 : Fin 3)).val / 128 = _ % 896 / 128; rw [e2]; omega)
  · exact Fin.ext (by show 256 * (grid0.coords t 2).val + (y (1 : Fin 3)).val = _; rw [e1]; omega)
  · exact Fin.ext (by show (y (2 : Fin 3)).val % 128 = _ % 128; rw [e2]; omega)

/-- The second output array holds, in a head's row, the kernel's logarithm of the sum. -/
theorem arr_lse (hs : Sorted (argsOf m 0)) (b : Fin 2) (g : Fin 8) (h : Fin 7) (n : Fin 8192) :
    (dats m hO hH 0 0).arrAt 9 (cfgM m hO).N (ix4 b g ⟨h.val, by omega⟩ n : S2x8x8x8192.Idx) = Cert.Fox.lseK (argsOf m 0) b g h n := by
  have key := (dats m hO hH 0 0).arrAt_forall_of_covers 9 (fun (x : S2x8x8x8192.Idx) v => ∀ h' : (x 2).val < 7,
    v = Cert.Fox.lseK (argsOf m 0) ⟨(x 0).val, (x 0).isLt⟩ ⟨(x 1).val, (x 1).isLt⟩ ⟨(x 2).val, h'⟩ ⟨(x 3).val, (x 3).isLt⟩)
    (covers9 m hO) (fun t _ y => ?_) (ix4 b g ⟨h.val, by omega⟩ n : S2x8x8x8192.Idx)
  · exact key h.isLt
  intro h'
  have e : ∀ a : Fin 4, ((((cfgM m hO).win 9).rect t).emb y a).val = cc0_transform_9 (grid0.coords t) a * S1x1x8x256.size a + (y a).val :=
    fun a => Pipeline.Window.rect_emb_val ((cfgM m hO).win 9) t y a
  have k0 : (y (0 : Fin 4)).val < 1 := (y (0 : Fin 4)).isLt
  have k1 : (y (1 : Fin 4)).val < 1 := (y (1 : Fin 4)).isLt
  have k3 : (y (3 : Fin 4)).val < 256 := (y (3 : Fin 4)).isLt
  have e0 := e 0
  have e1 := e 1
  have e2 := e 2
  have e3 := e 3
  rw [transform_9] at e0 e1 e2 e3
  change _ = (grid0.coords t 0).val * 1 + _ at e0
  change _ = (grid0.coords t 1).val * 1 + _ at e1
  change _ = 0 * 8 + _ at e2
  change _ = (grid0.coords t 2).val * 256 + _ at e3
  have k2 : (y (2 : Fin 4)).val < 7 := by
    change ((((cfgM m hO).win 9).rect t).emb y (2 : Fin 4)).val < 7 at h'
    omega
  have ey : (y : S1x1x8x256.Idx) = ix4 0 0 ⟨(⟨(y (2 : Fin 4)).val, k2⟩ : Fin 7).val, by omega⟩ ⟨(y (3 : Fin 4)).val, k3⟩ := by
    funext (a : Fin 4)
    apply Fin.ext
    fin_cases a
    · exact Nat.lt_one_iff.mp k0
    · exact Nat.lt_one_iff.mp k1
    · rfl
    · rfl
  show (dats m hO hH 0 0).after 9 t y = _
  rw [after0_9]
  refine (congrArg (outsAt0 m hO hH 0 t).2 ey).trans ((out_lse m hO hH t _ _ hs).trans ?_)
  congr 1
  · exact Fin.ext (by show (grid0.coords t 0).val = ((((cfgM m hO).win 9).rect t).emb y (0 : Fin 4)).val; omega)
  · exact Fin.ext (by show (grid0.coords t 1).val = ((((cfgM m hO).win 9).rect t).emb y (1 : Fin 4)).val; omega)
  · exact Fin.ext (by show (y (2 : Fin 4)).val = ((((cfgM m hO).win 9).rect t).emb y (2 : Fin 4)).val; omega)
  · exact Fin.ext (by show 256 * (grid0.coords t 2).val + (y (3 : Fin 4)).val = ((((cfgM m hO).win 9).rect t).emb y (3 : Fin 4)).val; omega)

end Cert.KernelIdeal.Gen

end
-- ==== Proof.KerRun.lean ====
/- The kernel's run: its two results are functions of the arguments. -/
module

public import proofs.«01_k».proof.Proof.Arrays
public import Idealize.ShloMosaic.Lib.StableHlo.ReadAt

@[expose] public section

noncomputable section

namespace Cert.KernelIdeal.Gen

open Idealize.ShloMosaic Idealize.ShloMosaic.TcCoe Idealize.SL Idealize.SL.Sem

/-- The lines after the region take a head's row of the second array and lay it out anew. -/
theorem read_v29 (V : Valuation τ sig (Elt Ideal)) (b : Fin 2) (i : Fin 8192) (H : Fin 56) :
    StableHlo.after hostOps1 V (Proc.devRef .tc main_v29) (ix3 b i H)
      = V (Proc.devRef .tc main_v26_1) (ix4 b ⟨H.val / 7, by omega⟩ ⟨H.val % 7, by omega⟩ i) := by
  after_reads_at

/-- The kernel's logarithms of the rows' sums in its arguments. -/
def lseArr (a : Cert.Fox.Args) : S2x8192x56.Idx → EReal := fun x =>
  Cert.Fox.lseK a ⟨(x 0).val, (x 0).isLt⟩ ⟨(x 2).val / 7, Nat.div_lt_of_lt_mul (x 2).isLt⟩
    ⟨(x 2).val % 7, Nat.mod_lt _ (by decide)⟩ ⟨(x 1).val, (x 1).isLt⟩

variable (m : (ℓ : Loc nD τ sig) → Buf (Elt Ideal) ℓ) (hO : Ok m) (hH : Hyps m hO)

theorem arrays_inj : Function.Injective (Pipeline.arrRef (cfgM m hO).spec) :=
  (by decide : Function.Injective (Pipeline.arrRef spec0))

theorem end_lse (hs : Sorted (argsOf m 0)) :
    Pipeline.afterTail pcfgs (fun _ => adm m hO) (dats m hO hH) 0 (V0 m) [hostOps1] 0 main_v29 = lseArr (argsOf m 0) := by
  unfold Pipeline.afterTail
  rw [List.flatten_cons, List.flatten_nil, List.append_nil]
  funext (x : S2x8192x56.Idx)
  have ex : x = ix3 (x 0) (x 1) (x 2) := by funext a; fin_cases a <;> rfl
  refine (congrArg (StableHlo.after hostOps1 _ (Proc.devRef .tc main_v29)) ex).trans ?_
  refine (read_v29 _ (x 0) (x 1) (x 2)).trans ?_
  refine (congrFun (Pipeline.withArrays_arr (cfgM m hO).spec (arrays_inj m hO) (0 : Dev nD) (V0 m 0)
    (fun w => (dats m hO hH 0 0).arrAt w (cfgM m hO).N) 9) _).trans ?_
  exact arr_lse m hO hH hs (x 0) _ ⟨(x 2).val % 7, Nat.mod_lt _ (by decide)⟩ (x 1)

variable (ρ : Dev nD → PrngReg)
include hO hH

/-- The kernel runs, and its results are those functions of its arguments. -/
theorem run_values (hs : Sorted (argsOf m 0)) :
    θ_run (defs (F := Ideal)) (onTc (τ := τ) (main (F := Ideal))) ⟨m, fun _ => 0, ρ⟩ (fun r => ∀ c : Dev nD,
      r.2.mem ((c.tc : Thread nD τ).loc main_v26_0) = outArr (argsOf m 0)
      ∧ r.2.mem ((c.tc : Thread nD τ).loc main_v29) = lseArr (argsOf m 0)) := by
  refine (θ_run defs _ _).mono (fun r h c => ?_) (run_main m ρ hO hH)
  obtain rfl : c = 0 := Subsingleton.elim _ _
  exact ⟨((h 0).1 8).trans (arr_o m hO hH hs),
    ((h 0).2 main_v29 (Pipeline.mem_restRefs_of main_v29 (by decide)
      (by decide : ∀ w, Pipeline.arrRef spec0 w ≠ main_v29))).trans (end_lse m hO hH hs)⟩

end Cert.KernelIdeal.Gen

end
-- ==== Proof.RefReads.lean ====
/- What the reference computes: the lines after its decoding region, stretch by stretch, read at coordinates over any
   contents of the buffers before them. -/
module

public import proofs.«01_k».proof.Proof.Attn
public import proofs.«01_k».proof.Proof.Gen.ReferenceIdeal.Frame
public import Idealize.ShloMosaic.Lib.StableHlo.ReadAt
public import Idealize.ShloMosaic.Lib.Pointwise
public import Idealize.ShloMosaic.Lib.Tactic.WordOmega

@[expose] public section

noncomputable section

namespace Cert.ReferenceIdeal.Gen

open Idealize.ShloMosaic Idealize.ShloMosaic.TcCoe Idealize.SL Idealize.SL.Sem

/-! ### Each stretch of the reference's lines at coordinates, over any contents `V` of the buffers before it -/

section

variable (V : Valuation τ sig (Elt Ideal)) (b : Fin 2) (g : Fin 8) (h : Fin 7) (i n : Fin 8192)

/-- The decoded codes and the other arguments as plain functions. -/
def argsW : Cert.Fox.Args where
  q b n H d := V (Proc.devRef .tc main_v0_0) (ix4 b n H d)
  qs b H := V (Proc.devRef .tc main_arg1) (ix2 b H)
  k b n g d := V (Proc.devRef .tc main_v0_1) (ix4 b n g d)
  ks b g := V (Proc.devRef .tc main_arg3) (ix2 b g)
  v b n g d := V (Proc.devRef .tc main_v0_2) (ix4 b n g d)
  vs b g d := V (Proc.devRef .tc main_arg5) (ix3 b g d)
  c2 b H n := V (Proc.devRef .tc main_arg6) (ix3 b H n)
  seg b n := V (Proc.devRef .tc main_arg7) (ix2 b n)

/-- Masked scores, quotients, weights and logarithms as the buffers hold them. -/
def sV (b : Fin 2) (g : Fin 8) (h : Fin 7) (i n : Fin 8192) : EReal := V (Proc.devRef .tc main_v37) (ix5 b g h i n)
def pV (b : Fin 2) (g : Fin 8) (h : Fin 7) (i n : Fin 8192) : EReal := V (Proc.devRef .tc main_v54) (ix5 b g h i n)

/-- The scores before the mask. -/
theorem read_v35 : StableHlo.after hostOps1 V (Proc.devRef .tc main_v35) (ix5 b g h i n)
    = (∑ x : Fin 128, (argsW V).k b n g x * (argsW V).q b i ⟨g.val * 7 + h.val, by omega⟩ x)
        * ((argsW V).qs b ⟨g.val * 7 + h.val, by omega⟩ * (argsW V).ks b g * Ideal.ofBits .f32 1035273459#32)
      + ((argsW V).c2 b ⟨g.val * 7 + h.val, by omega⟩ i * Ideal.log (Ideal.ofBits .f32 1073741824#32)
        - (argsW V).c2 b ⟨g.val * 7 + h.val, by omega⟩ n * Ideal.log (Ideal.ofBits .f32 1073741824#32)) := by
  after_reads_at
  rfl

/-- The mask. -/
theorem read_v36 : StableHlo.after hostOps1 V (Proc.devRef .tc main_v36) (ix5 b 0 0 i n)
    = IntOp.andi (IntOp.cmpi .sle (BitVec.ofNat 32 n.val) (BitVec.ofNat 32 i.val))
        (IntOp.cmpi .eq ((argsW V).seg b i) ((argsW V).seg b n)) := by
  after_reads_at
  rfl

/-- What masked scores are. -/
theorem read_cst_1 : StableHlo.after hostOps1 V (Proc.devRef .tc main_cst_1) ix0 = Ideal.ofBits .f32 4286578688#32 := by
  after_reads_at

/-- The masked scores. -/
theorem read_v37 : StableHlo.after hostOps1_1 V (Proc.devRef .tc main_v37) (ix5 b g h i n)
    = Scalar.select (V (Proc.devRef .tc main_v36) (ix5 b 0 0 i n)) (V (Proc.devRef .tc main_v35) (ix5 b g h i n))
      (V (Proc.devRef .tc main_cst_1) ix0) := by
  after_reads_at
  rfl

/-- The greatest score of a row. -/
def rowTop (V : Valuation τ sig (Elt Ideal)) (b : Fin 2) (g : Fin 8) (h : Fin 7) (i : Fin 8192) : EReal :=
  Finset.fold max (Ideal.ofBits .f32 4286578688#32) (fun x : Fin 8192 => sV V b g h i x) Finset.univ
/-- A weight. -/
def rowWt (V : Valuation τ sig (Elt Ideal)) (b : Fin 2) (g : Fin 8) (h : Fin 7) (i n : Fin 8192) : EReal :=
  Ideal.exp (sV V b g h i n - rowTop V b g h i)

/-- The weights, divided by their row's sum. -/
theorem read_v53 : StableHlo.after hostOps1_2 V (Proc.devRef .tc main_v53) (ix5 b g h i n)
    = Ideal.div (rowWt V b g h i n) (∑ x, rowWt V b g h i x) := by
  unfold rowWt rowTop sV
  after_reads_at

/-- Whether a row's sum vanishes. -/
theorem read_v51 : StableHlo.after hostOps1_2 V (Proc.devRef .tc main_v51) (ix5 b g h i 0)
    = BitVec.ofBool (decide ((∑ x, rowWt V b g h i x) = 0)) := by
  unfold rowWt rowTop sV
  after_reads_at

theorem after_split (ops : List (HloOp τ sig (Elt Ideal))) (k : ℕ) :
    StableHlo.after ops V = StableHlo.after (ops.drop k) (StableHlo.after (ops.take k) V) := by
  induction k generalizing ops V with
  | zero => rfl
  | succ k ih =>
    cases ops with
    | nil => rfl
    | cons op ops => exact ih _ ops

/-- The greatest score, kept as a column. -/
theorem read_v39 : StableHlo.after hostOps1_2 V (Proc.devRef .tc main_v39) (ix5 b g h i 0) = rowTop V b g h i := by
  unfold rowTop sV
  after_reads_at

/-- The sum of the weights, kept as a column. -/
theorem read_v44 : StableHlo.after hostOps1_2 V (Proc.devRef .tc main_v44) (ix5 b g h i 0) = ∑ x, rowWt V b g h i x := by
  unfold rowWt rowTop sV
  after_reads_at

/-- The logarithm of the sum, from the sum. -/
theorem tail_v45 : StableHlo.after (hostOps1_2.drop 9) V (Proc.devRef .tc main_v45) (ix5 b g h i 0)
    = Ideal.log (V (Proc.devRef .tc main_v44) (ix5 b g h i 0)) := by
  simp only [hostOps1_2, List.drop_succ_cons, List.drop_zero]
  after_reads_at

/-- The greatest score plus the logarithm, from the two. -/
theorem tail_v46 : StableHlo.after (hostOps1_2.drop 10) V (Proc.devRef .tc main_v46) (ix5 b g h i 0)
    = (show EReal from V (Proc.devRef .tc main_v39) (ix5 b g h i 0))
      + (show EReal from V (Proc.devRef .tc main_v45) (ix5 b g h i 0)) := by
  simp only [hostOps1_2, List.drop_succ_cons, List.drop_zero]
  after_reads_at

/-- The lines after the column of greatest scores leave it. -/
theorem tail_v39 : StableHlo.after (hostOps1_2.drop 10) V (Proc.devRef .tc main_v39) = V (Proc.devRef .tc main_v39) := by
  simp only [hostOps1_2, List.drop_succ_cons, List.drop_zero]
  after_reads_at

/-- The lines after the logarithms leave them. -/
theorem tail_v45_kept : StableHlo.after (hostOps1_2.drop 10) V (Proc.devRef .tc main_v45) = V (Proc.devRef .tc main_v45) := by
  simp only [hostOps1_2, List.drop_succ_cons, List.drop_zero]
  after_reads_at

/-- The lines after the sums leave them. -/
theorem tail_v44 : StableHlo.after (hostOps1_2.drop 9) V (Proc.devRef .tc main_v44) = V (Proc.devRef .tc main_v44) := by
  simp only [hostOps1_2, List.drop_succ_cons, List.drop_zero]
  after_reads_at

/-- A sum of two terms, each known. -/
theorem sum_known {x y z t l : EReal} (hx : x = y + z) (hy : y = t) (hz : z = l) : x = t + l := by
  rw [hx, hy, hz]

/-- A logarithm of a known number. -/
theorem log_known {x y l : EReal} (hx : x = Ideal.log y) (hy : y = l) : x = Ideal.log l := by
  rw [hx, hy]

/-- A row's greatest score and the logarithm of its sum. -/
theorem read_v46 : StableHlo.after hostOps1_2 V (Proc.devRef .tc main_v46) (ix5 b g h i 0)
    = rowTop V b g h i + Ideal.log (∑ x, rowWt V b g h i x) := by
  have e10 := after_split V hostOps1_2 10
  have e9 := after_split V hostOps1_2 9
  have h46 := (congrFun (congrFun e10 (Proc.devRef .tc main_v46)) (ix5 b g h i 0)).trans (tail_v46 _ b g h i)
  have h39 := (congrFun ((congrFun e10 (Proc.devRef .tc main_v39)).trans (tail_v39 _)) (ix5 b g h i 0)).symm.trans
    (read_v39 V b g h i)
  have h45 := (congrFun ((congrFun e10 (Proc.devRef .tc main_v45)).trans (tail_v45_kept _)) (ix5 b g h i 0)).symm.trans
    ((congrFun (congrFun e9 (Proc.devRef .tc main_v45)) (ix5 b g h i 0)).trans (tail_v45 _ b g h i))
  have h44 := (congrFun ((congrFun e9 (Proc.devRef .tc main_v44)).trans (tail_v44 _)) (ix5 b g h i 0)).symm.trans
    (read_v44 V b g h i)
  exact sum_known h46 h39 (log_known h45 h44)

/-- The logarithm of a row's sum, laid out anew. -/
theorem read_v49 (H : Fin 56) : StableHlo.after hostOps1_2 V (Proc.devRef .tc main_v49) (ix3 b i H)
    = StableHlo.after hostOps1_2 V (Proc.devRef .tc main_v46) (ix5 b ⟨H.val / 7, by omega⟩ ⟨H.val % 7, by omega⟩ i 0) := by
  rw [after_split V hostOps1_2 11]
  generalize StableHlo.after (hostOps1_2.take 11) V = V'
  simp only [hostOps1_2, List.drop_succ_cons, List.drop_zero]
  after_reads_at

theorem read_cst_5 : StableHlo.after hostOps1_2 V (Proc.devRef .tc main_cst_5) ix0 = Ideal.ofBits .f32 0#32 := by
  after_reads_at

/-- The weights the values are summed with. -/
theorem read_v54 : StableHlo.after hostOps1_3 V (Proc.devRef .tc main_v54) (ix5 b g h i n)
    = Scalar.select (V (Proc.devRef .tc main_v51) (ix5 b g h i 0)) (V (Proc.devRef .tc main_cst_5) ix0)
      (V (Proc.devRef .tc main_v53) (ix5 b g h i n)) := by
  after_reads_at
  rfl

/-- The output. -/
theorem read_v62 (j : Fin 7168) : StableHlo.after hostOps1_4 V (Proc.devRef .tc main_v62) (ix3 b i j)
    = (∑ x : Fin 8192, (argsW V).v b x ⟨j.val / 896, by omega⟩ ⟨j.val % 128, by omega⟩
        * pV V b ⟨j.val / 896, by omega⟩ ⟨j.val / 128 % 7, by omega⟩ i x)
      * (argsW V).vs b ⟨j.val / 896, by omega⟩ ⟨j.val % 128, by omega⟩ := by
  unfold pV argsW
  after_reads_at

end

end Cert.ReferenceIdeal.Gen

end
-- ==== Proof.RefAt.lean ====
/- The reference's lines after its decoding region, put together: its two results at coordinates are the row's mean of
   the values and the logarithm of the row's sum, over the numbers the region leaves. -/
module

public import proofs.«01_k».proof.Proof.RefReads

@[expose] public section

noncomputable section

namespace Cert.ReferenceIdeal.Gen

open Idealize.ShloMosaic Idealize.ShloMosaic.TcCoe Idealize.SL Idealize.SL.Sem

theorem head_eq (g : Fin 8) (h : Fin 7) (hh : g.val * 7 + h.val < 56) :
    (⟨g.val * 7 + h.val, hh⟩ : Fin 56) = Cert.Fox.headI g h := by
  apply Fin.ext
  show g.val * 7 + h.val = 7 * g.val + h.val
  omega

/-- A fold of maxima from the least element is the supremum. -/
theorem fold_top {n : ℕ} (f : Fin n → EReal) : Finset.fold max (Ideal.ofBits .f32 4286578688#32) f Finset.univ = Finset.univ.sup f := by
  rw [Cert.Fox.low_ideal]
  rfl

/-- A choice by a word is a choice by what the word says. -/
theorem select_of {P : Prop} [Decidable P] (w : BitVec 1) (hw : w = 1#1 ↔ P) (x y : EReal) :
    Scalar.select (w : Elt Ideal .i1) (x : Elt Ideal .f32) (y : Elt Ideal .f32) = if P then x else y := by
  by_cases hP : P
  · rw [if_pos hP]
    exact if_pos (hw.mpr hP)
  · rw [if_neg hP]
    exact if_neg fun e => hP (hw.mp e)

/-- The mask's word says whether the query sees the key. -/
theorem mask_iff (a : Cert.Fox.Args) (b : Fin 2) (i n : Fin 8192) :
    IntOp.andi (IntOp.cmpi .sle (BitVec.ofNat 32 n.val) (BitVec.ofNat 32 i.val)) (IntOp.cmpi .eq (a.seg b i) (a.seg b n)) = 1#1
      ↔ Cert.Fox.Sees a b i n := by
  have h1 : ∀ x y : BitVec 1, IntOp.andi x y = 1#1 ↔ x = 1#1 ∧ y = 1#1 := by decide
  have hi := i.isLt
  have hn := n.isLt
  have h2 : IntOp.cmpi .sle (BitVec.ofNat 32 n.val) (BitVec.ofNat 32 i.val) = 1#1 ↔ n.val ≤ i.val := by word_omega
  have h3 : IntOp.cmpi .eq (a.seg b i) (a.seg b n) = 1#1 ↔ a.seg b i = a.seg b n := by word_omega
  rw [h1, h2, h3]
  exact and_comm

theorem bool_iff {P : Prop} [Decidable P] : BitVec.ofBool (decide P) = 1#1 ↔ P := by
  by_cases hP : P <;> simp [hP]

/-- The score as the reference's lines write it. -/
theorem score_eq (a : Cert.Fox.Args) (b : Fin 2) (g : Fin 8) (h : Fin 7) (i n : Fin 8192) (hh : g.val * 7 + h.val < 56) :
    (∑ x : Fin 128, a.k b n g x * a.q b i ⟨g.val * 7 + h.val, hh⟩ x)
        * (a.qs b ⟨g.val * 7 + h.val, hh⟩ * a.ks b g * Ideal.ofBits .f32 1035273459#32)
      + (a.c2 b ⟨g.val * 7 + h.val, hh⟩ i * Ideal.log (Ideal.ofBits .f32 1073741824#32)
        - a.c2 b ⟨g.val * 7 + h.val, hh⟩ n * Ideal.log (Ideal.ofBits .f32 1073741824#32))
    = Cert.Fox.dot a b g h i n * Cert.Fox.scale a b g h
      + (a.c2 b (Cert.Fox.headI g h) i * ((Real.log 2 : ℝ) : EReal) - a.c2 b (Cert.Fox.headI g h) n * ((Real.log 2 : ℝ) : EReal)) := by
  rw [head_eq g h hh, Cert.Fox.two_ideal, Cert.Fox.log_two]
  unfold Cert.Fox.dot Cert.Fox.scale
  have hs : ∑ x : Fin 128, a.k b n g x * a.q b i (Cert.Fox.headI g h) x = ∑ x : Fin 128, a.q b i (Cert.Fox.headI g h) x * a.k b n g x :=
    Finset.sum_congr rfl fun x _ => mul_comm (a.k b n g x) (a.q b i (Cert.Fox.headI g h) x)
  rw [hs]

variable (W : Valuation τ sig (Elt Ideal))

/-- The contents after each stretch. -/
def W1 : Valuation τ sig (Elt Ideal) := StableHlo.after hostOps1 W
def W2 : Valuation τ sig (Elt Ideal) := StableHlo.after hostOps1_1 (W1 W)
def W3 : Valuation τ sig (Elt Ideal) := StableHlo.after hostOps1_2 (W2 W)
def W4 : Valuation τ sig (Elt Ideal) := StableHlo.after hostOps1_3 (W3 W)
def W5 : Valuation τ sig (Elt Ideal) := StableHlo.after hostOps1_4 (W4 W)

variable (b : Fin 2) (g : Fin 8) (h : Fin 7) (i n : Fin 8192)

/-- The masked scores. -/
theorem sV_at : sV (W2 W) b g h i n = Cert.Fox.sR (argsW W) b g h i n := by
  unfold sV W2
  refine (read_v37 (W1 W) b g h i n).trans ?_
  have e1 : W1 W (Proc.devRef .tc main_v36) (ix5 b 0 0 i n) = 1#1 ↔ Cert.Fox.Sees (argsW W) b i n := by
    rw [show W1 W (Proc.devRef .tc main_v36) (ix5 b 0 0 i n) = _ from read_v36 W b i n]
    exact mask_iff (argsW W) b i n
  have e2 : W1 W (Proc.devRef .tc main_v35) (ix5 b g h i n) = _ :=
    (read_v35 W b g h i n).trans (score_eq (argsW W) b g h i n _)
  have e3 : W1 W (Proc.devRef .tc main_cst_1) ix0 = (⊥ : EReal) := (read_cst_1 W).trans Cert.Fox.low_ideal
  rw [e2, e3]
  classical
  refine (select_of _ e1 _ _).trans ?_
  unfold Cert.Fox.sR
  split_ifs <;> rfl

theorem rowTop_at : rowTop (W2 W) b g h i = Cert.Fox.mR (argsW W) b g h i := by
  unfold rowTop Cert.Fox.mR
  refine (fold_top _).trans ?_
  exact congrArg (Finset.sup Finset.univ) (funext fun x => sV_at W b g h i x)

theorem rowWt_at : rowWt (W2 W) b g h i n = Cert.Fox.eR (argsW W) b g h i n := by
  unfold rowWt Cert.Fox.eR
  rw [sV_at, rowTop_at]

theorem rowSum_at : ∑ x, rowWt (W2 W) b g h i x = Cert.Fox.lR (argsW W) b g h i := by
  unfold Cert.Fox.lR
  exact Finset.sum_congr rfl fun x _ => rowWt_at W b g h i x

/-- The guarded weights. -/
theorem pV_at : pV (W4 W) b g h i n = if Cert.Fox.lR (argsW W) b g h i = 0 then 0
    else Ideal.div (Cert.Fox.eR (argsW W) b g h i n) (Cert.Fox.lR (argsW W) b g h i) := by
  unfold pV W4
  refine (read_v54 (W3 W) b g h i n).trans ?_
  have e1 : W3 W (Proc.devRef .tc main_v51) (ix5 b g h i 0) = 1#1 ↔ Cert.Fox.lR (argsW W) b g h i = 0 := by
    rw [show W3 W (Proc.devRef .tc main_v51) (ix5 b g h i 0) = _ from read_v51 (W2 W) b g h i, rowSum_at]
    exact bool_iff
  have e2 : W3 W (Proc.devRef .tc main_cst_5) ix0 = (0 : EReal) := (read_cst_5 (W2 W)).trans Cert.Fox.zero_ideal
  have e3 : W3 W (Proc.devRef .tc main_v53) (ix5 b g h i n)
      = Ideal.div (Cert.Fox.eR (argsW W) b g h i n) (Cert.Fox.lR (argsW W) b g h i) := by
    refine (read_v53 (W2 W) b g h i n).trans ?_
    rw [rowWt_at, rowSum_at]
  rw [e2, e3]
  exact select_of _ e1 _ _

theorem kept (r : DevRef τ sig) (h1 : StableHlo.after hostOps1 W r = W r)
    (h2 : StableHlo.after hostOps1_1 (W1 W) r = W1 W r) (h3 : StableHlo.after hostOps1_2 (W2 W) r = W2 W r)
    (h4 : StableHlo.after hostOps1_3 (W3 W) r = W3 W r) : W4 W r = W r :=
  h4.trans (h3.trans (h2.trans h1))

/-- The values' codes pass through. -/
theorem v_kept : W4 W (Proc.devRef .tc main_v0_2) = W (Proc.devRef .tc main_v0_2) := by
  apply kept <;> after_reads_at

/-- The values' scales pass through. -/
theorem vs_kept : W4 W (Proc.devRef .tc main_arg5) = W (Proc.devRef .tc main_arg5) := by
  apply kept <;> after_reads_at

/-- The output at a head, a query and a feature. -/
theorem v62_at (j : Fin 7168) : W5 W (Proc.devRef .tc main_v62) (ix3 b i j)
    = Cert.Fox.oR (argsW W) b ⟨j.val / 896, by omega⟩ ⟨j.val / 128 % 7, by omega⟩ i ⟨j.val % 128, by omega⟩ := by
  unfold W5
  refine (read_v62 (W4 W) b i j).trans ?_
  have ev : (argsW (W4 W)).v = (argsW W).v := by
    funext b n g d
    exact congrFun (v_kept W) _
  have es : (argsW (W4 W)).vs = (argsW W).vs := by
    funext b g d
    exact congrFun (vs_kept W) _
  rw [ev, es]
  unfold Cert.Fox.oR
  refine congrArg (fun z : EReal => z * (argsW W).vs b ⟨j.val / 896, by omega⟩ ⟨j.val % 128, by omega⟩) ?_
  refine Finset.sum_congr rfl fun x _ => ?_
  rw [pV_at]

/-- The logarithm of the row's sum at a head and a query. -/
theorem v49_at (H : Fin 56) : W3 W (Proc.devRef .tc main_v49) (ix3 b i H)
    = Cert.Fox.lseR (argsW W) b ⟨H.val / 7, by omega⟩ ⟨H.val % 7, by omega⟩ i := by
  refine (read_v49 (W2 W) b i H).trans ?_
  refine (read_v46 (W2 W) b _ _ i).trans ?_
  rw [rowTop_at, rowSum_at]
  rfl

/-- The later lines leave the logarithms. -/
theorem v49_kept : W5 W (Proc.devRef .tc main_v49) = W3 W (Proc.devRef .tc main_v49) := by
  have h4 : StableHlo.after hostOps1_3 (W3 W) (Proc.devRef .tc main_v49) = W3 W (Proc.devRef .tc main_v49) := by
    after_reads_at
  have h5 : StableHlo.after hostOps1_4 (W4 W) (Proc.devRef .tc main_v49) = W4 W (Proc.devRef .tc main_v49) := by
    after_reads_at
  exact h5.trans h4

end Cert.ReferenceIdeal.Gen

end
-- ==== Proof.RefRun.lean ====
/- The reference's run: its decoding region leaves the codes, and its two results are functions of the arguments. -/
module

public import proofs.«01_k».proof.Proof.RefAt
public import Idealize.ShloMosaic.Lib.Pipeline.ValueKit

@[expose] public section

noncomputable section

namespace Cert.ReferenceIdeal.Gen

open Idealize.ShloMosaic Idealize.ShloMosaic.TcCoe Idealize.SL Idealize.SL.Sem

/-- The decoding region's one point. -/
abbrev t0 : Fin cfg0.N := ⟨0, by decide⟩

variable (m : (ℓ : Loc nD τ sig) → Buf (Elt Ideal) ℓ)

/-- The decoding region leaves the queries' codes as they are. -/
theorem arr_q : (dats m 0 0).arrAt 3 cfg0.N = fun x : S2x8192x56x128.Idx => (m ((0 : Dev nD), Proc.devRef .tc main_arg0) x : EReal) := by
  refine (dats m 0 0).arrAt_eq_of_after_last 3 t0 (by decide +kernel) _ fun j => ?_
  show (dats m 0 0).after 3 _ j = m ((0 : Dev nD), Proc.devRef .tc main_arg0) j
  rw [after0_3]
  frame_out
  show V m 0 main_arg0 (((cfg0.win 0).blk t0).view.emb j) = _
  refine congrArg (m ((0 : Dev nD), Proc.devRef .tc main_arg0)) ?_
  funext (a : Fin 4)
  apply Fin.ext
  refine (Pipeline.Window.rect_emb_val (cfg0.win 0) t0 j a).trans ?_
  show 0 * _ + (j a).val = _
  rw [Nat.zero_mul, Nat.zero_add]

/-- The decoding region leaves the keys' codes as they are. -/
theorem arr_k : (dats m 0 0).arrAt 4 cfg0.N = fun x : S2x8192x8x128.Idx => (m ((0 : Dev nD), Proc.devRef .tc main_arg2) x : EReal) := by
  refine (dats m 0 0).arrAt_eq_of_after_last 4 t0 (by decide +kernel) _ fun j => ?_
  show (dats m 0 0).after 4 _ j = m ((0 : Dev nD), Proc.devRef .tc main_arg2) j
  rw [after0_4]
  frame_out
  show V m 0 main_arg2 (((cfg0.win 1).blk t0).view.emb j) = _
  refine congrArg (m ((0 : Dev nD), Proc.devRef .tc main_arg2)) ?_
  funext (a : Fin 4)
  apply Fin.ext
  refine (Pipeline.Window.rect_emb_val (cfg0.win 1) t0 j a).trans ?_
  show 0 * _ + (j a).val = _
  rw [Nat.zero_mul, Nat.zero_add]

/-- The decoding region leaves the values' codes as they are. -/
theorem arr_v : (dats m 0 0).arrAt 5 cfg0.N = fun x : S2x8192x8x128.Idx => (m ((0 : Dev nD), Proc.devRef .tc main_arg4) x : EReal) := by
  refine (dats m 0 0).arrAt_eq_of_after_last 5 t0 (by decide +kernel) _ fun j => ?_
  show (dats m 0 0).after 5 _ j = m ((0 : Dev nD), Proc.devRef .tc main_arg4) j
  rw [after0_5]
  frame_out
  show V m 0 main_arg4 (((cfg0.win 2).blk t0).view.emb j) = _
  refine congrArg (m ((0 : Dev nD), Proc.devRef .tc main_arg4)) ?_
  funext (a : Fin 4)
  apply Fin.ext
  refine (Pipeline.Window.rect_emb_val (cfg0.win 2) t0 j a).trans ?_
  show 0 * _ + (j a).val = _
  rw [Nat.zero_mul, Nat.zero_add]

/-- The arguments as plain functions. -/
def argsR : Cert.Fox.Args where
  q b n H d := m ((0 : Dev nD), Proc.devRef .tc main_arg0) (ix4 b n H d)
  qs b H := m ((0 : Dev nD), Proc.devRef .tc main_arg1) (ix2 b H)
  k b n g d := m ((0 : Dev nD), Proc.devRef .tc main_arg2) (ix4 b n g d)
  ks b g := m ((0 : Dev nD), Proc.devRef .tc main_arg3) (ix2 b g)
  v b n g d := m ((0 : Dev nD), Proc.devRef .tc main_arg4) (ix4 b n g d)
  vs b g d := m ((0 : Dev nD), Proc.devRef .tc main_arg5) (ix3 b g d)
  c2 b H n := m ((0 : Dev nD), Proc.devRef .tc main_arg6) (ix3 b H n)
  seg b n := m ((0 : Dev nD), Proc.devRef .tc main_arg7) (ix2 b n)

/-- The buffers after the decoding region. -/
def decoded : Valuation τ sig (Elt Ideal) :=
  Pipeline.withArrays (cfgs 0).spec (0 : Dev nD) (V0 m 0) fun w => (dats m 0 0).arrAt w (cfgs 0).N

theorem arrays_inj : Function.Injective (Pipeline.arrRef spec0) := by decide

theorem decoded_q : decoded m (Proc.devRef .tc main_v0_0) = fun x : S2x8192x56x128.Idx => (m ((0 : Dev nD), Proc.devRef .tc main_arg0) x : EReal) :=
  (Pipeline.withArrays_arr spec0 arrays_inj (0 : Dev nD) (V0 m 0) (fun w => (dats m 0 0).arrAt w cfg0.N) 3).trans (arr_q m)

theorem decoded_k : decoded m (Proc.devRef .tc main_v0_1) = fun x : S2x8192x8x128.Idx => (m ((0 : Dev nD), Proc.devRef .tc main_arg2) x : EReal) :=
  (Pipeline.withArrays_arr spec0 arrays_inj (0 : Dev nD) (V0 m 0) (fun w => (dats m 0 0).arrAt w cfg0.N) 4).trans (arr_k m)

theorem decoded_v : decoded m (Proc.devRef .tc main_v0_2) = fun x : S2x8192x8x128.Idx => (m ((0 : Dev nD), Proc.devRef .tc main_arg4) x : EReal) :=
  (Pipeline.withArrays_arr spec0 arrays_inj (0 : Dev nD) (V0 m 0) (fun w => (dats m 0 0).arrAt w cfg0.N) 5).trans (arr_v m)

/-- An argument outside the region stays. -/
theorem decoded_arg (r : Ref sig .tc) (h : ∀ w, Pipeline.arrRef spec0 w ≠ r) :
    decoded m (Proc.devRef .tc r) = m ((0 : Dev nD), Proc.devRef .tc r) :=
  Pipeline.withArrays_of_ne spec0 (0 : Dev nD) (V0 m 0) (fun w => (dats m 0 0).arrAt w cfg0.N) r h

/-- The numbers the later lines start from are the arguments. -/
theorem argsW_decoded : argsW (decoded m) = argsR m := by
  have hq := decoded_q m
  have hk := decoded_k m
  have hv := decoded_v m
  have h1 := decoded_arg m main_arg1 (by decide)
  have h3 := decoded_arg m main_arg3 (by decide)
  have h5 := decoded_arg m main_arg5 (by decide)
  have h6 := decoded_arg m main_arg6 (by decide)
  have h7 := decoded_arg m main_arg7 (by decide)
  unfold argsW argsR
  rw [Cert.Fox.Args.mk.injEq]
  exact ⟨by funext b n H d; exact congrFun hq _, by funext b H; exact congrFun h1 _, by funext b n g d; exact congrFun hk _,
    by funext b g; exact congrFun h3 _, by funext b n g d; exact congrFun hv _, by funext b g d; exact congrFun h5 _,
    by funext b H n; exact congrFun h6 _, by funext b n; exact congrFun h7 _⟩

theorem after_app (xs ys : List (HloOp τ sig (Elt Ideal))) (V : Valuation τ sig (Elt Ideal)) :
    StableHlo.after (xs ++ ys) V = StableHlo.after ys (StableHlo.after xs V) := by
  induction xs generalizing V with
  | nil => rfl
  | cons x xs ih => exact ih _

/-- The later lines, stretch by stretch. -/
theorem tail_eq (W : Valuation τ sig (Elt Ideal)) :
    StableHlo.after (List.flatten [hostOps1, hostOps1_1, hostOps1_2, hostOps1_3, hostOps1_4]) W = W5 W := by
  rw [List.flatten_cons, List.flatten_cons, List.flatten_cons, List.flatten_cons, List.flatten_cons, List.flatten_nil,
    List.append_nil, after_app, after_app, after_app, after_app]
  rfl

/-- The reference's output in its arguments. -/
def outRef (a : Cert.Fox.Args) : S2x8192x7168.Idx → EReal := fun x =>
  Cert.Fox.oR a ⟨(x 0).val, (x 0).isLt⟩ ⟨(x 2).val / 896, Nat.div_lt_of_lt_mul (x 2).isLt⟩
    ⟨(x 2).val / 128 % 7, Nat.mod_lt _ (by decide)⟩ ⟨(x 1).val, (x 1).isLt⟩ ⟨(x 2).val % 128, Nat.mod_lt _ (by decide)⟩

/-- The reference's logarithms of the rows' sums in its arguments. -/
def lseRef (a : Cert.Fox.Args) : S2x8192x56.Idx → EReal := fun x =>
  Cert.Fox.lseR a ⟨(x 0).val, (x 0).isLt⟩ ⟨(x 2).val / 7, Nat.div_lt_of_lt_mul (x 2).isLt⟩
    ⟨(x 2).val % 7, Nat.mod_lt _ (by decide)⟩ ⟨(x 1).val, (x 1).isLt⟩

theorem end_o : W5 (decoded m) (Proc.devRef .tc main_v62) = outRef (argsR m) := by
  funext (x : S2x8192x7168.Idx)
  have ex : x = ix3 (x 0) (x 1) (x 2) := by funext a; fin_cases a <;> rfl
  refine (congrArg (W5 (decoded m) (Proc.devRef .tc main_v62)) ex).trans ?_
  refine (v62_at (decoded m) (x 0) (x 1) (x 2)).trans ?_
  rw [argsW_decoded]
  rfl

theorem end_lse : W5 (decoded m) (Proc.devRef .tc main_v49) = lseRef (argsR m) := by
  rw [v49_kept]
  funext (x : S2x8192x56.Idx)
  have ex : x = ix3 (x 0) (x 1) (x 2) := by funext a; fin_cases a <;> rfl
  refine (congrArg (W3 (decoded m) (Proc.devRef .tc main_v49)) ex).trans ?_
  refine (v49_at (decoded m) (x 0) (x 1) (x 2)).trans ?_
  rw [argsW_decoded]
  rfl

variable (ρ : Dev nD → PrngReg)

/-- The reference runs, and its results are those functions of its arguments. -/
theorem run_values : θ_run (defs (F := Ideal)) (onTc (τ := τ) (main (F := Ideal))) ⟨m, fun _ => 0, ρ⟩ (fun r => ∀ c : Dev nD,
      r.2.mem ((c.tc : Thread nD τ).loc main_v62) = outRef (argsR m)
      ∧ r.2.mem ((c.tc : Thread nD τ).loc main_v49) = lseRef (argsR m)) := by
  refine (θ_run defs _ _).mono (fun r h c => ?_) (run_main m ρ)
  obtain rfl : c = 0 := Subsingleton.elim _ _
  have e (b : Ref sig .tc) : Pipeline.afterTail₀ cfgs (dats m) 0 (V0 m) [hostOps1, hostOps1_1, hostOps1_2, hostOps1_3, hostOps1_4] 0 b
      = W5 (decoded m) (Proc.devRef .tc b) := congrFun (tail_eq (decoded m)) _
  exact ⟨((h 0).2 main_v62 (Pipeline.mem_restRefs_of main_v62 (by decide) (by decide))).trans ((e main_v62).trans (end_o m)),
    ((h 0).2 main_v49 (Pipeline.mem_restRefs_of main_v49 (by decide) (by decide))).trans ((e main_v49).trans (end_lse m))⟩

end Cert.ReferenceIdeal.Gen

end
-- ==== Proof.Pre.lean ====
/- What the precondition says: the cumulated log gates are real numbers, and the segments' numbers do not fall. -/
module

public import proofs.«01_k».proof.Defs
public import proofs.«01_k».proof.Proof.Gen.Pre_pre
public import proofs.«01_k».proof.Proof.Point
public import Idealize.ShloMosaic.Lib.Tactic.WordOmega

@[expose] public section

noncomputable section

namespace Cert.KernelIdeal.Gen

open Idealize.ShloMosaic Idealize.ShloMosaic.TcCoe Idealize.SL Idealize.SL.Sem

/-- The bits of infinity. -/
theorem inf_ideal : Ideal.ofBits .f32 0x7F800000#32 = ⊤ := by
  simp [Ideal.ofBits, Ideal.ieee]

/-- A number whose absolute value lies below infinity is real. -/
theorem real_of_abs (z : EReal) (h : max z (-z) < ⊤) : ∃ x : ℝ, z = (x : EReal) := by
  induction z with
  | bot => exact absurd h (by simp)
  | top => exact absurd h (by simp)
  | coe x => exact ⟨x, rfl⟩

variable (x6 : FVec Ideal Cert.Pre_pre.S2x56x8192 .f32) (x7 : IVec Cert.Pre_pre.S2x8192 32)

attribute [local instance] Cert.Pre_pre.Gen.facts

theorem pre_gates (h : cmpf .olt (Host.absf x6) (broadcastInDim Cert.Pre_pre.S2x56x8192 ![] Cert.Pre_pre.Facts.bcast_S_S2x56x8192
      (constant (F := Ideal) Cert.Pre_pre.S_ .f32 0x7F800000#32)) = fun _ => 1#1) (j : Cert.Pre_pre.S2x56x8192.Idx) :
    ∃ x : ℝ, x6 j = (x : EReal) := by
  have hj := congrFun h j
  have e : BitVec.ofBool (decide (max (x6 j : EReal) (-(x6 j : EReal)) < Ideal.ofBits .f32 0x7F800000#32)) = 1#1 := hj
  rw [inf_ideal] at e
  refine real_of_abs (x6 j) ?_
  by_contra hn
  rw [decide_eq_false hn] at e
  exact absurd e (by decide)

theorem pre_step (h : cmpi .sle (extractStridedSlice Cert.Pre_pre.S2x8191 ![0, 0] x7 Cert.Pre_pre.Facts.slices_S2x8192_S2x8191_0_0)
      (extractStridedSlice Cert.Pre_pre.S2x8191 ![0, 1] x7 Cert.Pre_pre.Facts.slices_S2x8192_S2x8191_0_1) = fun _ => 1#1)
    (b : Fin 2) (j : ℕ) (hj : j + 1 < 8192) :
    (x7 (ix2 b ⟨j, by omega⟩)).toInt ≤ (x7 (ix2 b ⟨j + 1, hj⟩)).toInt := by
  have e : IntOp.cmpi .sle (x7 (ix2 b ⟨j, by omega⟩)) (x7 (ix2 b ⟨j + 1, hj⟩)) = 1#1 := by
    have hb := congrFun h (ix2 b ⟨j, by omega⟩)
    refine Eq.trans ?_ hb
    show _ = IntOp.cmpi .sle (x7 _) (x7 _)
    congr 2
    · funext a; apply Fin.ext; fin_cases a
      · show b.val = 0 + b.val
        omega
      · show j = 0 + j
        omega
    · funext a; apply Fin.ext; fin_cases a
      · show b.val = 0 + b.val
        omega
      · show j + 1 = 1 + j
        omega
  generalize x7 (ix2 b ⟨j, by omega⟩) = u at e
  generalize x7 (ix2 b ⟨j + 1, hj⟩) = w at e
  have : u.sle w = true := by
    by_contra hn
    have : IntOp.cmpi .sle u w = 0#1 := by
      show BitVec.ofBool (u.sle w) = _
      rw [Bool.eq_false_iff.mpr hn]; rfl
    rw [this] at e
    exact absurd e (by decide)
  exact BitVec.sle_iff_toInt_le.mp this

/-- Adjacent steps which do not fall make a sequence which does not fall. -/
theorem sorted_of_step (f : ℕ → ℤ) (N : ℕ) (h : ∀ j, j + 1 < N → f j ≤ f (j + 1)) (i j : ℕ) (hij : i ≤ j) (hj : j < N) : f i ≤ f j := by
  induction j with
  | zero => rw [Nat.le_zero.mp hij]
  | succ j ih =>
    rcases Nat.lt_or_ge i (j + 1) with hlt | hge
    · exact (ih (by omega) (by omega)).trans (h j hj)
    · rw [le_antisymm hij hge]

variable (m : (ℓ : Loc nD τ sig) → Buf (Elt Ideal) ℓ)

/-- The gates are real numbers. -/
theorem gates_real (h : Cert.Pre_KernelIdeal_pre m) : ∃ cr : Fin 2 → Fin 56 → Fin 8192 → ℝ, ∀ b H n, (argsOf m 0).c2 b H n = (cr b H n : EReal) := by
  have h1 := (h 0).1
  have key := fun b H n => pre_gates _ h1 (ix3 b H n)
  choose cr hcr using key
  exact ⟨cr, hcr⟩

/-- The segments' numbers do not fall. -/
theorem segs_sorted (h : Cert.Pre_KernelIdeal_pre m) : Sorted (argsOf m 0) := by
  have h2 := (h 0).2
  intro b i j hij
  have key := pre_step _ h2 b
  have hi := i.isLt
  have hjl := j.isLt
  have s := sorted_of_step (fun n => if hn : n < 8192 then ((argsOf m 0).seg b ⟨n, hn⟩).toInt else 0) 8192 (fun n hn => by
    rw [dif_pos (by omega), dif_pos hn]
    exact key n hn) i.val j.val hij hjl
  rw [dif_pos hi, dif_pos hjl] at s
  exact s

end Cert.KernelIdeal.Gen

end
-- ==== Proof.DecayTile.lean ====
/- The decay kernel's 32 tiles: each stores one function of its slice of the row and of the carry from the tile before. -/
module

public import proofs.«01_k».proof.Proof.Gen.DecayIdeal.Value

@[expose] public section

noncomputable section

namespace Cert.DecayIdeal.Gen

open Idealize.ShloMosaic Idealize.ShloMosaic.TcCoe

theorem tile_inb (n : Fin 32) : ∀ a, (![0, 0, 256 * n.val] : Fin 3 → Nat) a + S1x56x256.size a ≤ S1x56x8192.size a := by
  have h := n.isLt
  intro a
  fin_cases a
  · exact Nat.le_refl 1
  · exact Nat.le_refl 56
  · show 256 * n.val + 256 ≤ 8192
    omega

/-- Tile `n`: positions `256 n` to `256 n + 255` of every head. -/
abbrev tileR (n : Fin 32) : Rect S1x56x8192 := Rect.unit (s := S1x56x8192) ![0, 0, 256 * n.val] S1x56x256.size (tile_inb n)

variable {F : FTy → Type} [FloatOps F] [Named F]

/-- The logarithm of the sigmoid on a tile. -/
def logSig (x : Vec F S1x56x256 .f32) : FVec F S56x256 .f32 :=
  subf (minimumf (shapeCast S56x256 x shapeCasts_S1x56x256_S56x256) (broadcast S56x256 (Scalar.ofBits .f32 0x00000000#32)))
    (log1p (exp (subf (broadcast S56x256 (Scalar.ofBits .f32 0x00000000#32)) (absf (shapeCast S56x256 x shapeCasts_S1x56x256_S56x256)))))

/-- The running sums on a tile: the product with the upper triangle of ones, and the carry on every lane. -/
def tileSum (carry : FVec F S56x1 .f32) (x : Vec F S1x56x256 .f32) : FVec F S56x256 .f32 :=
  addf (matmul dot_S56x256_S256x256_S56x256_1_0_0_1_n_n (some .fp32) (logSig x) (k0_pay2 (F := F)) (constant S56x256 .f32 0x00000000#32))
    (broadcastTo S56x256 carry broadcasts_S56x1_S56x256)

/-- The last lane of the running sums: the carry into the next tile. -/
def lastLane (s : FVec F S56x256 .f32) : FVec F S56x1 .f32 :=
  extractStridedSlice S56x1 ![0, 255] s slices_S56x256_o0_255_S56x1

/-- What a tile stores: its running sums in units of `log 2`. -/
def tilePay (s : FVec F S56x256 .f32) : FVec F S1x56x256 .f32 :=
  shapeCast S1x56x256 (mulf s (broadcast S56x256 (Named.named κ "log2e" 0x3FB8AA3B#32))) shapeCasts_S56x256_S1x56x256

/-- The carry into tile `n`. -/
def carryIn (x0 : Vec F S1x56x8192 .f32) : ℕ → FVec F S56x1 .f32
  | 0 => broadcast S56x1 (Scalar.ofBits .f32 0x00000000#32)
  | n + 1 => lastLane (tileSum (carryIn x0 n) (View.ld x0 (tileR ⟨n % 32, Nat.mod_lt _ (by decide)⟩)))

/-- Tile `n` as a store: its place and what it writes there. -/
def piece (x0 : Vec F S1x56x8192 .f32) (n : Fin 32) : View.Piece (Elt F) S1x56x8192 .f32 :=
  ⟨tileR n, tilePay (tileSum (carryIn x0 n.val) (View.ld x0 (tileR n)))⟩

/-- The kernel's stores are the tiles' (last first). -/
theorem out0_1_eq (x0 : Vec F S1x56x8192 .f32) :
    out0_1 x0 = View.canon ((List.finRange 32).reverse.map (piece x0)) := by
  rfl

end Cert.DecayIdeal.Gen

end
-- ==== Proof.DecaySum.lean ====
/- The decay kernel over the extended reals: position `p` of a head holds the sum of the logarithms up to `p`, in units of `log 2`. -/
module

public import proofs.«01_k».proof.Proof.DecayTile
public import Idealize.ShloMosaic.Lib.Pointwise
public import Idealize.ShloMosaic.Lib.Tactic.WordOmega

@[expose] public section

noncomputable section

namespace Cert.Fox

open Idealize.ShloMosaic

/-- The logarithm of the sigmoid, as the kernel forms it. -/
def lsig (z : EReal) : EReal := min z 0 - Ideal.log (1 + Ideal.exp (0 - max z (-z)))

/-- A position of the sequence, from any number. -/
def gpos (n : ℕ) : Fin 8192 := ⟨n % 8192, Nat.mod_lt _ (by decide)⟩

theorem gpos_of_lt {n : ℕ} (h : n < 8192) : gpos n = ⟨n, h⟩ := Fin.ext (Nat.mod_eq_of_lt h)

end Cert.Fox

namespace Cert.DecayIdeal.Gen

open Idealize.ShloMosaic Idealize.ShloMosaic.TcCoe

theorem log2e_ideal : (Named.named κ "log2e" 0x3FB8AA3B#32 : Ideal .f32) = (((Real.log 2)⁻¹ : ℝ) : EReal) :=
  IdealRules.named_const.ideal_named_scalar _ _ _ _ rfl

theorem logSig_apply (x : Vec Ideal S1x56x256 .f32) (r : Fin 56) (k : Fin 256) :
    logSig x (ix2 r k) = Cert.Fox.lsig (x (ix3 0 r k)) := by
  unfold logSig Cert.Fox.lsig
  pointwise
  rfl

theorem upper_apply (k j : Fin 256) : (k0_pay2 (F := Ideal)) (ix2 k j) = if k.val ≤ j.val then 1 else 0 := by
  unfold k0_pay2
  pointwise
  show (((BitVec.setWidth 32 (IntOp.cmpi .sle (BitVec.ofNat 32 k.val) (BitVec.ofNat 32 j.val))).toInt : ℝ) : EReal) = _
  have hk := k.isLt
  have hj := j.isLt
  by_cases h : k.val ≤ j.val
  · have e : IntOp.cmpi .sle (BitVec.ofNat 32 k.val) (BitVec.ofNat 32 j.val) = 1#1 := by word_omega
    rw [e, if_pos h, show (BitVec.setWidth 32 1#1).toInt = 1 by decide]
    norm_num
  · have e : IntOp.cmpi .sle (BitVec.ofNat 32 k.val) (BitVec.ofNat 32 j.val) = 0#1 := by word_omega
    rw [e, if_neg h, show (BitVec.setWidth 32 0#1).toInt = 0 by decide]
    norm_num

theorem tileSum_apply (carry : FVec Ideal S56x1 .f32) (x : Vec Ideal S1x56x256 .f32) (r : Fin 56) (j : Fin 256) :
    tileSum carry x (ix2 r j)
      = (∑ k : Fin 256, Cert.Fox.lsig (x (ix3 0 r k)) * if k.val ≤ j.val then 1 else 0) + carry (ix2 r 0) := by
  unfold tileSum
  generalize hA : logSig x = A
  generalize hB : k0_pay2 (F := Ideal) = B
  pointwise
  subst hA hB
  exact congrArg (· + _) (Finset.sum_congr rfl fun k _ => by rw [logSig_apply, upper_apply])

theorem lastLane_apply (s : FVec Ideal S56x256 .f32) (r : Fin 56) : lastLane s (ix2 r 0) = s (ix2 r 255) := by
  unfold lastLane
  pointwise

theorem tilePay_apply (s : FVec Ideal S56x256 .f32) (r : Fin 56) (j : Fin 256) :
    tilePay s (ix3 0 r j) = s (ix2 r j) * (((Real.log 2)⁻¹ : ℝ) : EReal) := by
  unfold tilePay
  pointwise
  rw [log2e_ideal]

/-- A tile's slice of the row. -/
theorem ld_tile (x0 : Vec Ideal S1x56x8192 .f32) (n : Fin 32) (r : Fin 56) (k : Fin 256) :
    View.ld x0 (tileR n) (ix3 0 r k) = x0 (ix3 0 r (Cert.Fox.gpos (256 * n.val + k.val))) := by
  have hn := n.isLt
  have hk := k.isLt
  rw [Cert.Fox.gpos_of_lt (by omega)]
  refine congrArg x0 (funext fun (a : Fin 3) => Fin.ext ?_)
  fin_cases a
  · rfl
  · show 0 + 1 * r.val = r.val
    omega
  · show 256 * n.val + 1 * k.val = 256 * n.val + k.val
    omega

/-- The sums of a tile continue the sums before it. -/
theorem tile_prefix (g : ℕ → EReal) (b : ℕ) (j : Fin 256) :
    (∑ k : Fin 256, g (b + k.val) * if k.val ≤ j.val then 1 else 0) + ∑ q ∈ Finset.range b, g q
      = ∑ q ∈ Finset.range (b + (j.val + 1)), g q := by
  have hj := j.isLt
  rw [Finset.sum_range_add, add_comm]
  congr 1
  rw [Fin.sum_univ_eq_sum_range (fun k => g (b + k) * if k ≤ j.val then 1 else 0) 256]
  simp only [mul_ite, mul_one, mul_zero]
  rw [← Finset.sum_filter]
  refine Finset.sum_congr (Finset.ext fun k => ?_) fun _ _ => rfl
  rw [Finset.mem_filter, Finset.mem_range, Finset.mem_range]
  omega

/-- The logarithm at a position of a head's row. -/
def rowLog (x0 : Vec Ideal S1x56x8192 .f32) (r : Fin 56) (q : ℕ) : EReal := Cert.Fox.lsig (x0 (ix3 0 r (Cert.Fox.gpos q)))

/-- With the carry the sum of all before the tile, its sums are the row's. -/
theorem tileSum_prefix (x0 : Vec Ideal S1x56x8192 .f32) (n : Fin 32) (carry : FVec Ideal S56x1 .f32) (r : Fin 56) (j : Fin 256)
    (hc : carry (ix2 r 0) = ∑ q ∈ Finset.range (256 * n.val), rowLog x0 r q) :
    tileSum carry (View.ld x0 (tileR n)) (ix2 r j) = ∑ q ∈ Finset.range (256 * n.val + (j.val + 1)), rowLog x0 r q := by
  rw [tileSum_apply, hc, ← tile_prefix]
  exact congrArg (· + _) (Finset.sum_congr rfl fun k _ => by rw [ld_tile]; rfl)

/-- The carry into a tile is the sum of all before it. -/
theorem carryIn_apply (x0 : Vec Ideal S1x56x8192 .f32) (r : Fin 56) :
    ∀ n : ℕ, n < 32 → carryIn x0 n (ix2 r 0) = ∑ q ∈ Finset.range (256 * n), rowLog x0 r q
  | 0, _ => by
    show Ideal.ofBits FTy.f32 0x00000000#32 = _
    simp [Ideal.ofBits, Ideal.ieee]
  | n + 1, h => by
    have e : n % 32 = n := Nat.mod_eq_of_lt (by omega)
    have ih := carryIn_apply x0 r n (by omega)
    refine (lastLane_apply _ r).trans ((tileSum_prefix x0 ⟨n % 32, Nat.mod_lt _ (by decide)⟩ _ r 255 ?_).trans ?_)
    · show _ = ∑ q ∈ Finset.range (256 * (n % 32)), rowLog x0 r q
      rw [e, ih]
    · show ∑ q ∈ Finset.range (256 * (n % 32) + (255 + 1)), rowLog x0 r q = _
      rw [e, show 256 * n + (255 + 1) = 256 * (n + 1) by omega]

/-- What the kernel leaves in its output block: the running sums of the row, in units of `log 2`. -/
def rowOut (x0 : Vec Ideal S1x56x8192 .f32) : Vec Ideal S1x56x8192 .f32 := fun y =>
  (∑ q ∈ Finset.range ((y 2).val + 1), rowLog x0 ⟨(y 1).val, (y 1).isLt⟩ q : EReal) * (((Real.log 2)⁻¹ : ℝ) : EReal)

/-- A tile's store agrees with that. -/
theorem piece_apply (x0 : Vec Ideal S1x56x8192 .f32) (n : Fin 32) (y : (piece x0 n).1.shape.Idx) :
    (piece x0 n).2 y = rowOut x0 ((piece x0 n).1.emb y) := by
  obtain ⟨r, j, rfl⟩ : ∃ (r : Fin 56) (j : Fin 256), y = (ix3 0 r j : S1x56x256.Idx) := ⟨y (1 : Fin 3), y (2 : Fin 3), by
    funext (a : Fin 3)
    fin_cases a
    · exact Subsingleton.elim (α := Fin 1) _ _
    · rfl
    · rfl⟩
  refine (tilePay_apply _ r j).trans ?_
  rw [tileSum_prefix x0 n _ r j (carryIn_apply x0 r n.val n.isLt)]
  have e1 : (((piece x0 n).1.emb (ix3 0 r j : S1x56x256.Idx)) (1 : Fin 3)).val = r.val := by
    show 0 + 1 * r.val = r.val
    omega
  have e2 : (((piece x0 n).1.emb (ix3 0 r j : S1x56x256.Idx)) (2 : Fin 3)).val = 256 * n.val + j.val := by
    show 256 * n.val + 1 * j.val = _
    omega
  unfold rowOut
  rw [e2]
  have e3 : (⟨(((piece x0 n).1.emb (ix3 0 r j : S1x56x256.Idx)) (1 : Fin 3)).val, Fin.isLt _⟩ : Fin 56) = r := Fin.ext e1
  exact congrArg (fun H => (∑ q ∈ Finset.range (256 * n.val + j.val + 1), rowLog x0 H q : EReal) * (((Real.log 2)⁻¹ : ℝ) : EReal)) e3.symm

/-- The kernel's output block. -/
theorem out0_1_apply (x0 : Vec Ideal S1x56x8192 .f32) : out0_1 x0 = rowOut x0 := by
  rw [out0_1_eq]
  funext y
  refine View.canon_apply_of_pieces (rowOut x0) _ (fun p hp => ?_) y (cover0_1 _ _ _ _ _ _ _ _ _ _ _ _ _ _ _ _ _ _ _ _ _ _ _ _ _ _ _ _ _ _ _ _ y)
  obtain ⟨n, -, rfl⟩ := List.mem_map.mp hp
  exact piece_apply x0 n

end Cert.DecayIdeal.Gen

end
-- ==== Proof.DecayRun.lean ====
/- The decay kernel's run: its result is a function of its argument. -/
module

public import proofs.«01_k».proof.Proof.DecaySum
public import Idealize.ShloMosaic.Lib.StableHlo.ReadAt
public import Idealize.ShloMosaic.Lib.Pipeline.ValueKit
public import Idealize.ShloMosaic.Lib.Pipeline.Covers

@[expose] public section

noncomputable section

namespace Cert.Fox

open Idealize.ShloMosaic

/-- The cumulated gates of the gates' logits: sums along the sequence of the logarithms, in units of `log 2`. -/
def gates (f : (⟨3, ![2, 8192, 56]⟩ : Shape).Idx → EReal) : (⟨3, ![2, 56, 8192]⟩ : Shape).Idx → EReal := fun x =>
  (∑ q ∈ Finset.range ((x 2).val + 1), lsig (f (ix3 (x 0) (gpos q) (x 1)))) * (((Real.log 2)⁻¹ : ℝ) : EReal)

end Cert.Fox

namespace Cert.DecayIdeal.Gen

open Idealize.ShloMosaic Idealize.ShloMosaic.TcCoe Idealize.SL Idealize.SL.Sem

section

variable (i : grid0.Coords)

theorem small0 : (i 0).val < 4294967296 := by have h : (i 0).val < 2 := (i 0).isLt; omega

theorem transform_0 : cc0_transform_0 i = ![(i 0).val, 0, 0] := by
  unfold cc0_transform_0
  simp [small0]

theorem transform_1 : cc0_transform_1 i = ![(i 0).val, 0, 0] := by
  unfold cc0_transform_1
  simp [small0]

end

/-- The grid's point of a batch. -/
def mkI (b : ℕ) (hb : b < 2) : grid0.Coords := Fin.cons (α := fun a => Fin (grid0.bound a)) ⟨b, hb⟩ nofun

variable (m : (ℓ : Loc nD τ sig) → Buf (Elt Ideal) ℓ) (c : Dev nD)

/-- A logit as the pipeline finds it: positions last. -/
theorem f_at (b : Fin 2) (H : Fin 56) (n : Fin 8192) :
    V m c main_v0 (ix3 b H n) = m (c, Proc.tc.devRef main_arg0) (ix3 b n H) := by
  unfold V
  simp only [hostOps0]
  after_reads_at

/-- A point's block: the rows of its batch. -/
theorem blk0 (t : Fin cfg0.N) (H : Fin 56) (n : Fin 8192) :
    iblk m c 0 t (ix3 0 H n) = V m c main_v0 (ix3 ⟨(grid0.coords t 0).val, (grid0.coords t 0).isLt⟩ H n) := by
  refine congrArg (V m c main_v0) (funext fun (a : Fin 3) => Fin.ext ?_)
  refine (Pipeline.Window.rect_emb_val (cfg0.win 0) t (ix3 0 H n) a).trans ?_
  show cc0_transform_0 (grid0.coords t) a * S1x56x8192.size a + ((ix3 0 H n : S1x56x8192.Idx) a).val = _
  rw [transform_0]
  fin_cases a <;> simp

theorem covers1 : (cfg0.win 1).Covers :=
  (cfg0.win 1).covers_of_indexMap_surj rfl (show ∀ a : Fin 3, 0 < S1x56x8192.size a by decide) fun β =>
    have h0 : (β (0 : Fin 3)).val < 2 := lt_of_lt_of_eq (β (0 : Fin 3)).isLt (show (2 + 1 - 1) / 1 = 2 by norm_num)
    have h1 : (β (1 : Fin 3)).val < 1 := lt_of_lt_of_eq (β (1 : Fin 3)).isLt (show (56 + 56 - 1) / 56 = 1 by norm_num)
    have h2 : (β (2 : Fin 3)).val < 1 := lt_of_lt_of_eq (β (2 : Fin 3)).isLt (show (8192 + 8192 - 1) / 8192 = 1 by norm_num)
    ⟨mkI _ h0, fun (a : Fin 3) => by
        show cc0_transform_1 _ a = _
        rw [transform_1]
        fin_cases a
        · rfl
        · exact (Nat.lt_one_iff.mp h1).symm
        · exact (Nat.lt_one_iff.mp h2).symm⟩

/-- The output array holds the cumulated gates. -/
theorem arr_gates : (dats m 0 c).arrAt 1 cfg0.N = Cert.Fox.gates (m (c, Proc.tc.devRef main_arg0)) := by
  refine (dats m 0 c).arrAt_eq_of_covers 1 _ covers1 fun t _ y => ?_
  have e : ∀ a : Fin 3, (((cfg0.win 1).rect t).emb y a).val = cc0_transform_1 (grid0.coords t) a * S1x56x8192.size a + (y a).val :=
    fun a => Pipeline.Window.rect_emb_val (cfg0.win 1) t y a
  have e0 := e 0
  have e1 := e 1
  have e2 := e 2
  rw [transform_1] at e0 e1 e2
  change _ = (grid0.coords t 0).val * 1 + _ at e0
  change _ = 0 * 56 + _ at e1
  change _ = 0 * 8192 + _ at e2
  have k0 : (y (0 : Fin 3)).val < 1 := (y (0 : Fin 3)).isLt
  show (dats m 0 c).after 1 t y = Cert.Fox.gates _ (((cfg0.win 1).rect t).emb y)
  rw [after0_1, out0_1_apply]
  unfold rowOut rowLog Cert.Fox.gates
  rw [show (((cfg0.win 1).rect t).emb y 2).val = (y (2 : Fin 3)).val by rw [e2]; omega]
  refine congrArg (· * (((Real.log 2)⁻¹ : ℝ) : EReal)) (Finset.sum_congr rfl fun q _ => congrArg Cert.Fox.lsig ?_)
  refine (blk0 m c t _ _).trans ((f_at m c _ _ _).trans ?_)
  refine congrArg (m (c, Proc.tc.devRef main_arg0)) (funext fun (a : Fin 3) => Fin.ext ?_)
  fin_cases a
  · show (grid0.coords t 0).val = (((cfg0.win 1).rect t).emb y (0 : Fin 3)).val
    omega
  · rfl
  · show (y (1 : Fin 3)).val = (((cfg0.win 1).rect t).emb y (1 : Fin 3)).val
    omega

/-- The kernel runs, and its result is the cumulated gates. -/
theorem run_values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = Cert.Fox.gates (m ((c.tc : Thread nD τ).loc main_arg0))
      ∧ r.2.mem ((c.tc : Thread nD τ).loc main_arg0) = m ((c.tc : Thread nD τ).loc main_arg0)) :=
  (θ_run defs _ _).mono (fun _ h c => ⟨(h c).1.trans (arr_gates m c), (h c).2⟩) (Cert.DecayIdeal.Value.run_blocks m ρ)

end Cert.DecayIdeal.Gen

end
-- ==== Proof.DecayCumsum.lean ====
/- The host's cumulative sum along the middle axis, as it prints: a window of the whole axis, padded low by one less. -/
module

public import Idealize.ShloMosaic.Lib.Routing.OpsOne
public import Idealize.ShloMosaic.Lib.Pipeline.Value
public import Idealize.ShloMosaic.Lib.Pointwise

@[expose] public section

noncomputable section

namespace Cert.Fox

open Idealize.ShloMosaic

/-- A left fold of addition is the first value plus the sum. -/
theorem foldl_add {ι : Type} (l : List ι) (g : ι → EReal) (v : EReal) :
    l.foldl (fun r a => r + g a) v = v + (l.map g).sum := by
  induction l generalizing v with
  | nil => simp
  | cons a l ih => rw [List.foldl_cons, ih, List.map_cons, List.sum_cons, add_assoc]

/-- The window's part inside the array: the values up to the index. -/
theorem window_sum (f : ℕ → EReal) (N j : ℕ) (hj : j < N) :
    ((List.range N).map fun w => if N - 1 ≤ j + w then f (j + w - (N - 1)) else 0).sum = ∑ q ∈ Finset.range (j + 1), f q := by
  obtain ⟨d, rfl⟩ : ∃ d, N = d + (j + 1) := ⟨N - (j + 1), by omega⟩
  rw [List.range_add, List.map_append, List.sum_append, List.map_map]
  have h1 : ((List.range d).map fun w => if d + (j + 1) - 1 ≤ j + w then f (j + w - (d + (j + 1) - 1)) else 0)
      = (List.range d).map fun _ => (0 : EReal) :=
    List.map_congr_left fun w hw => if_neg (by have := List.mem_range.1 hw; omega)
  have h2 : ((List.range (j + 1)).map ((fun w => if d + (j + 1) - 1 ≤ j + w then f (j + w - (d + (j + 1) - 1)) else 0) ∘ (d + ·)))
      = (List.range (j + 1)).map f := by
    refine List.map_congr_left fun i _ => ?_
    show (if d + (j + 1) - 1 ≤ j + (d + i) then f (j + (d + i) - (d + (j + 1) - 1)) else 0) = f i
    rw [if_pos (by omega), show j + (d + i) - (d + (j + 1) - 1) = i by omega]
  rw [h1, h2, List.map_const', List.sum_replicate, smul_zero, zero_add]
  rfl

/-- A `[1, N, 1]` window has `N` positions, and position `w` is its index `(0, w, 0)`. -/
theorem numel_mid (N : ℕ) : (⟨3, ![1, N, 1]⟩ : Shape).numel = N := (Shape.numel_rank3 _).trans (by simp)

theorem symm_mid {N : ℕ} (w : Fin (⟨3, ![1, N, 1]⟩ : Shape).numel) :
    (⟨3, ![1, N, 1]⟩ : Shape).rowMajor.symm w = ix3 (0 : Fin 1) (w.cast (numel_mid N)) (0 : Fin 1) :=
  ((⟨3, ![1, N, 1]⟩ : Shape).rowMajor.symm_apply_eq).2 (Fin.ext (by
    rw [Shape.rowMajor_val_three]
    show w.val = (0 * N + w.val) * 1 + 0
    omega))

/-- Entry `(b, n, H)` of the cumulative sum is the sum of the entries `(b, 0, H)` to `(b, n, H)`. -/
theorem cumsum_mid {A N M C : ℕ} (hN : M + 1 = N) (x : (⟨3, ![A, N, C]⟩ : Shape).Idx → EReal) (f : ℕ → EReal) (b : Fin A) (n : Fin N) (H : Fin C)
    (hf : ∀ q : Fin N, x (ix3 b q H) = f q.val)
    (h : (⟨3, ![A, N, C]⟩ : Shape).ReduceWindows (![1, N, 1] : Fin 3 → Nat) ![1, 1, 1] ![0, M, 0] ![0, 0, 0] ⟨3, ![A, N, C]⟩) :
    Ideal.hostReduceWindowAdd (![1, N, 1] : Fin 3 → Nat) ![1, 1, 1] ![0, M, 0] ![0, 0, 0] h x 0 (ix3 b n H)
      = ∑ q ∈ Finset.range (n.val + 1), f q := by
  subst hN
  have hn := n.isLt
  have hb := b.isLt
  have hH := H.isLt
  unfold Ideal.hostReduceWindowAdd Host.reduceWindow
  refine (foldl_add _ _ _).trans ?_
  rw [zero_add]
  refine Eq.trans (congrArg List.sum (List.map_congr_left (g := fun w => (fun v => if M + 1 - 1 ≤ n.val + v then f (n.val + v - (M + 1 - 1)) else 0) w.val) fun w _ => ?_)) ?_
  · have hw0 : ((⟨3, ![1, M + 1, 1]⟩ : Shape).rowMajor.symm w 0).val = 0 := by rw [symm_mid]; rfl
    have hw1 : ((⟨3, ![1, M + 1, 1]⟩ : Shape).rowMajor.symm w 1).val = w.val := by rw [symm_mid]; rfl
    have hw2 : ((⟨3, ![1, M + 1, 1]⟩ : Shape).rowMajor.symm w 2).val = 0 := by rw [symm_mid]; rfl
    have hw : w.val < M + 1 := (w.cast (numel_mid _)).isLt
    dsimp only
    split
    · next hin =>
      have h1 := hin 1
      change M ≤ n.val * 1 + ((⟨3, ![1, M + 1, 1]⟩ : Shape).rowMajor.symm w 1).val
        ∧ n.val * 1 + ((⟨3, ![1, M + 1, 1]⟩ : Shape).rowMajor.symm w 1).val - M < M + 1 at h1
      rw [hw1] at h1
      rw [if_pos (by omega)]
      refine (congrArg x (funext fun a => Fin.ext ?_)).trans (hf ⟨n.val + w.val - M, by omega⟩)
      match a with
      | ⟨0, _⟩ =>
        show b.val * 1 + ((⟨3, ![1, M + 1, 1]⟩ : Shape).rowMajor.symm w 0).val - 0 = b.val
        rw [hw0]
        omega
      | ⟨1, _⟩ =>
        show n.val * 1 + ((⟨3, ![1, M + 1, 1]⟩ : Shape).rowMajor.symm w 1).val - M = n.val + w.val - M
        rw [hw1]
        omega
      | ⟨2, _⟩ =>
        show H.val * 1 + ((⟨3, ![1, M + 1, 1]⟩ : Shape).rowMajor.symm w 2).val - 0 = H.val
        rw [hw2]
        omega
    · next hin =>
      rw [if_neg fun hle => hin fun a => by
        match a with
        | ⟨0, _⟩ =>
          show 0 ≤ b.val * 1 + ((⟨3, ![1, M + 1, 1]⟩ : Shape).rowMajor.symm w 0).val
            ∧ b.val * 1 + ((⟨3, ![1, M + 1, 1]⟩ : Shape).rowMajor.symm w 0).val - 0 < A
          rw [hw0]
          omega
        | ⟨1, _⟩ =>
          show M ≤ n.val * 1 + ((⟨3, ![1, M + 1, 1]⟩ : Shape).rowMajor.symm w 1).val
            ∧ n.val * 1 + ((⟨3, ![1, M + 1, 1]⟩ : Shape).rowMajor.symm w 1).val - M < M + 1
          rw [hw1]
          omega
        | ⟨2, _⟩ =>
          show 0 ≤ H.val * 1 + ((⟨3, ![1, M + 1, 1]⟩ : Shape).rowMajor.symm w 2).val
            ∧ H.val * 1 + ((⟨3, ![1, M + 1, 1]⟩ : Shape).rowMajor.symm w 2).val - 0 < C
          rw [hw2]
          omega]
  · rw [Routing.map_finRange_val _ (fun v => if M + 1 - 1 ≤ n.val + v then f (n.val + v - (M + 1 - 1)) else 0)]
    refine Eq.trans (congrArg (fun K => ((List.range K).map fun v => if M + 1 - 1 ≤ n.val + v then f (n.val + v - (M + 1 - 1)) else 0).sum) (numel_mid (M + 1))) ?_
    exact window_sum f (M + 1) n.val hn

/-- The same of the host operation, from an initial value of zero. -/
theorem host_cumsum {A N M C : ℕ} (hN : M + 1 = N) {u : Shape} (x : FVec Ideal (⟨3, ![A, N, C]⟩ : Shape) .f32) (init : FVec Ideal u .f32)
    (hu : 0 < u.numel) (h0 : init (Shape.Idx.first hu) = 0) (f : ℕ → EReal) (b : Fin A) (n : Fin N) (H : Fin C)
    (hf : ∀ q : Fin N, x (ix3 b q H) = f q.val)
    (h : (⟨3, ![A, N, C]⟩ : Shape).ReduceWindows (![1, N, 1] : Fin 3 → Nat) ![1, 1, 1] ![0, M, 0] ![0, 0, 0] ⟨3, ![A, N, C]⟩) :
    Host.reduceWindowAdd (![1, N, 1] : Fin 3 → Nat) ![1, 1, 1] ![0, M, 0] ![0, 0, 0] x init h hu (ix3 b n H)
      = ∑ q ∈ Finset.range (n.val + 1), f q := by
  unfold Host.reduceWindowAdd
  rw [h0]
  exact cumsum_mid hN x f b n H hf h

end Cert.Fox

end
-- ==== Proof.DecayRef.lean ====
/- The decay reference's run: its result is the same function of its argument. -/
module

public import proofs.«01_k».proof.Proof.DecayRun
public import proofs.«01_k».proof.Proof.DecayCumsum
public import proofs.«01_k».proof.Proof.Attn
public import proofs.«01_k».proof.Proof.Gen.DecayReferenceIdeal.Read

@[expose] public section

noncomputable section

namespace Cert.DecayReferenceIdeal.Gen

open Idealize.ShloMosaic Idealize.ShloMosaic.TcCoe Idealize.SL Idealize.SL.Sem Cert.DecayReferenceIdeal.Read

theorem zero_ideal : Ideal.ofBits FTy.f32 0x00000000#32 = 0 := by
  simp [Ideal.ofBits, Ideal.ieee]

/-- The exponential of what is at most zero is a real number, not negative. -/
theorem exp_range (z : EReal) (hz : z ≤ 0) : ∃ e : ℝ, Ideal.exp z = (e : EReal) ∧ 0 ≤ e := by
  induction z using EReal.rec with
  | bot => exact ⟨0, rfl, le_refl 0⟩
  | top => exact absurd hz (by simp)
  | coe r => exact ⟨Real.exp r, rfl, (Real.exp_pos r).le⟩

/-- So the logarithm of one more is a real number. -/
theorem log1p_real (z : EReal) (hz : z ≤ 0) : ∃ L : ℝ, Ideal.log (1 + Ideal.exp z) = (L : EReal) := by
  obtain ⟨e, he, h0⟩ := exp_range z hz
  refine ⟨Real.log (1 + e), ?_⟩
  rw [he]
  show (if 1 + e ≤ 0 then (⊥ : EReal) else (Real.log (1 + e) : EReal)) = _
  rw [if_neg (by linarith)]

/-- The reference's logarithm of the sigmoid is the kernel's. -/
theorem logSig_eq (z : EReal) :
    -(max (-z) 0 + Ideal.log (1 + Ideal.exp (-(max (-z) (-(-z)))))) = Cert.Fox.lsig z := by
  unfold Cert.Fox.lsig
  have h0 : -(max (-z) (-(-z))) ≤ 0 := by
    rw [neg_neg, EReal.neg_le_zero]
    rcases le_total 0 z with h | h
    · exact le_max_of_le_right h
    · exact le_max_of_le_left (EReal.neg_nonneg.mpr h)
  obtain ⟨L, hL⟩ := log1p_real _ h0
  have e : (0 - max z (-z) : EReal) = -(max (-z) (-(-z))) := by
    rw [neg_neg, max_comm, zero_sub]
  rw [e, hL, EReal.neg_add (Or.inr (EReal.coe_ne_top L)) (Or.inr (EReal.coe_ne_bot L))]
  refine congrArg (· - (L : EReal)) ?_
  rcases le_total 0 z with h | h
  · rw [min_eq_right h, max_eq_right (EReal.neg_le_zero.mpr h), neg_zero]
  · rw [min_eq_left h, max_eq_left (EReal.neg_nonneg.mpr h), neg_neg]

theorem logs_at (x : S2x8192x56.Idx → EReal) (i : S2x8192x56.Idx) : val_main_v0 (F := Ideal) x i = Cert.Fox.lsig (x i) := by
  rw [← logSig_eq]
  simp only [val_main_v0_apply, val_main_call0_v1_apply, val_main_call0_call0_v4_apply, val_main_call0_call0_v6_apply,
    val_main_call0_call0_v11_apply, val_main_call0_call0_v1_apply, val_main_call0_call0_v0_apply, val_main_call0_call0_v2_apply,
    val_main_call0_call0_v3_apply, val_main_call0_call0_v7_apply, val_main_call0_call0_v8_apply, val_main_call0_call0_v9_apply,
    val_main_call0_call0_v10_apply, val_main_call0_v0_apply, val_main_call0_call0_cst_apply]
  rw [show (FloatOps.ofBits FTy.f32 0x00000000#32 : Ideal .f32) = 0 from zero_ideal]
  have e : (FloatOps.subf (FloatOps.hostNegf (x i : Ideal .f32)) (0 : EReal) : Ideal .f32) = (-(x i) : EReal) := by
    show (-(x i) - 0 : EReal) = _
    rw [sub_zero]
  rw [e, show FloatOps.cmpf (F := Ideal) (φ := .f32) CmpFPredicate.une (-(x i) : EReal) (-(x i) : EReal) = 0#1 by
    show BitVec.ofBool (decide _) = _
    simp]
  rfl

/-- The reference's cumulative sum at an index. -/
theorem cumsum_at (x : S2x8192x56.Idx → EReal) (b : Fin 2) (n : Fin 8192) (H : Fin 56) :
    val_main_v1 (F := Ideal) x (ix3 b n H) = ∑ q ∈ Finset.range (n.val + 1), Cert.Fox.lsig (x (ix3 b (Cert.Fox.gpos q) H)) := by
  have h0 : val_main_call1_call0_v0 (F := Ideal) (Shape.Idx.first h_S_) = 0 := zero_ideal
  have hf : ∀ q : Fin 8192, val_main_v0 (F := Ideal) x (ix3 b q H) = Cert.Fox.lsig (x (ix3 b (Cert.Fox.gpos q.val) H)) := fun q => by
    rw [logs_at, Cert.Fox.gpos_of_lt q.isLt]
  unfold val_main_v1
  exact Cert.Fox.host_cumsum (N := 8192) (M := 8191) (by norm_num) (val_main_v0 (F := Ideal) x) (val_main_call1_call0_v0 (F := Ideal)) h_S_ h0
    (fun q => Cert.Fox.lsig (x (ix3 b (Cert.Fox.gpos q) H))) b n H hf reduceWindows_S2x8192x56_S2x8192x56_w1s1p0_0_w8192s1p8191_0_w1s1p0_0

/-- The reference's result is the cumulated gates. -/
theorem ref_gates (x : S2x8192x56.Idx → EReal) : val_main_v5 (F := Ideal) x = Cert.Fox.gates x := by
  funext i
  have ei : idx_main_v2 i = ix3 (i 0) (i 2) (i 1) := by
    funext (a : Fin 3)
    fin_cases a <;> rfl
  rw [val_main_v5_apply, val_main_v2_apply, val_main_v4_apply, val_main_v3_apply, val_main_cst_apply, ei]
  refine (congrArg (fun s => Ideal.div s (Ideal.log (Ideal.ofBits FTy.f32 0x40000000#32))) (cumsum_at x (i 0) (i 2) (i 1))).trans ?_
  rw [Cert.Fox.two_ideal, Cert.Fox.log_two, Ideal.div_coe Cert.Fox.ln2_pos.ne', one_div]
  rfl

/-- The reference runs, and its result is the cumulated gates. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Fox.gates (m ((c.tc : Thread nD τ).loc main_arg0))
      ∧ r.2.mem ((c.tc : Thread nD τ).loc main_arg0) = m ((c.tc : Thread nD τ).loc main_arg0)) :=
  (θ_run defs _ _).mono (fun _ h c => ⟨(h c).1.trans ((val_main_v5_eq _).trans (ref_gates _)), (h c).2⟩)
    (Cert.DecayReferenceIdeal.Value.run m ρ)

end Cert.DecayReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Decay
public import proofs.«01_k».proof.Proof.Gen.Decay.Skeleton
public import proofs.«01_k».proof.Proof.Gen.Decay.Launch
public import proofs.«01_k».proof.Proof.Gen.Decay.Points
public import proofs.«01_k».proof.Proof.Gen.Decay.Frame
public import proofs.«01_k».proof.Proof.Gen.DecayIdeal
public import proofs.«01_k».proof.Proof.Gen.DecayIdeal.Skeleton
public import proofs.«01_k».proof.Proof.Gen.DecayIdeal.Launch
public import proofs.«01_k».proof.Proof.Gen.DecayIdeal.Points
public import proofs.«01_k».proof.Proof.Gen.DecayIdeal.Frame
public import proofs.«01_k».proof.Proof.Gen.DecayReferenceIdeal
public import proofs.«01_k».proof.Proof.Gen.DecayReferenceIdeal.Run
public import proofs.«01_k».proof.Proof.Gen.DecayReferenceIdeal.Read
public import proofs.«01_k».proof.Proof.Gen.DecayIdeal.Value
public import proofs.«01_k».proof.Proof.Gen.Pre_pre
public import proofs.«01_k».proof.Proof.TableBits
public import proofs.«01_k».proof.Proof.KerRun
public import proofs.«01_k».proof.Proof.RefRun
public import proofs.«01_k».proof.Proof.Pre
public import proofs.«01_k».proof.Proof.DecayRef
public import Idealize.ShloMosaic.Adequacy
public import Idealize.ShloMosaic.Init

@[expose] public section

noncomputable section

namespace Cert.Proof

open Idealize.ShloMosaic Idealize.SL.Sem Cert.Kernel

/-- Memories which agree on the arguments give the same numbers. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h0 : m' ((0 : Dev Cert.ReferenceIdeal.nD), Proc.devRef .tc Cert.ReferenceIdeal.main_arg0) = m ((0 : Dev Cert.KernelIdeal.nD), Proc.devRef .tc Cert.KernelIdeal.main_arg0))
    (h1 : m' ((0 : Dev Cert.ReferenceIdeal.nD), Proc.devRef .tc Cert.ReferenceIdeal.main_arg1) = m ((0 : Dev Cert.KernelIdeal.nD), Proc.devRef .tc Cert.KernelIdeal.main_arg1))
    (h2 : m' ((0 : Dev Cert.ReferenceIdeal.nD), Proc.devRef .tc Cert.ReferenceIdeal.main_arg2) = m ((0 : Dev Cert.KernelIdeal.nD), Proc.devRef .tc Cert.KernelIdeal.main_arg2))
    (h3 : m' ((0 : Dev Cert.ReferenceIdeal.nD), Proc.devRef .tc Cert.ReferenceIdeal.main_arg3) = m ((0 : Dev Cert.KernelIdeal.nD), Proc.devRef .tc Cert.KernelIdeal.main_arg3))
    (h4 : m' ((0 : Dev Cert.ReferenceIdeal.nD), Proc.devRef .tc Cert.ReferenceIdeal.main_arg4) = m ((0 : Dev Cert.KernelIdeal.nD), Proc.devRef .tc Cert.KernelIdeal.main_arg4))
    (h5 : m' ((0 : Dev Cert.ReferenceIdeal.nD), Proc.devRef .tc Cert.ReferenceIdeal.main_arg5) = m ((0 : Dev Cert.KernelIdeal.nD), Proc.devRef .tc Cert.KernelIdeal.main_arg5))
    (h6 : m' ((0 : Dev Cert.ReferenceIdeal.nD), Proc.devRef .tc Cert.ReferenceIdeal.main_arg6) = m ((0 : Dev Cert.KernelIdeal.nD), Proc.devRef .tc Cert.KernelIdeal.main_arg6))
    (h7 : m' ((0 : Dev Cert.ReferenceIdeal.nD), Proc.devRef .tc Cert.ReferenceIdeal.main_arg7) = m ((0 : Dev Cert.KernelIdeal.nD), Proc.devRef .tc Cert.KernelIdeal.main_arg7)) :
    Cert.ReferenceIdeal.Gen.argsR m' = Cert.KernelIdeal.Gen.argsOf m 0 := by
  unfold Cert.ReferenceIdeal.Gen.argsR Cert.KernelIdeal.Gen.argsOf
  rw [Cert.Fox.Args.mk.injEq]
  exact ⟨by funext b n H d; exact congrFun h0 _, by funext b H; exact congrFun h1 _, by funext b n g d; exact congrFun h2 _,
    by funext b g; exact congrFun h3 _, by funext b n g d; exact congrFun h4 _, by funext b g d; exact congrFun h5 _,
    by funext b H n; exact congrFun h6 _, by funext b n; exact congrFun h7 _⟩

/-- The kernel's output array is the reference's. -/
theorem out_eq (a : Cert.Fox.Args) (cr : Fin 2 → Fin 56 → Fin 8192 → ℝ) (hc : ∀ b H n, a.c2 b H n = (cr b H n : EReal)) :
    Cert.ReferenceIdeal.Gen.outRef a = Cert.KernelIdeal.Gen.outArr a := by
  funext (x : Cert.KernelIdeal.S2x8192x7168.Idx)
  unfold Cert.ReferenceIdeal.Gen.outRef Cert.KernelIdeal.Gen.outArr
  refine (Cert.Fox.o_eq a _ _ _ _ cr hc _).symm.trans ?_
  have h2 : (x 2).val < 7168 := (x 2).isLt
  have e : (⟨(x 2).val / 128 % 7, Nat.mod_lt _ (by decide)⟩ : Fin 7)
      = ⟨(x 2).val % 896 / 128, Nat.div_lt_of_lt_mul (Nat.mod_lt _ (by decide))⟩ := Fin.ext (by
    show (x 2).val / 128 % 7 = (x 2).val % 896 / 128
    omega)
  rw [e]

/-- The kernel's logarithms are the reference's. -/
theorem lse_eq (a : Cert.Fox.Args) (cr : Fin 2 → Fin 56 → Fin 8192 → ℝ) (hc : ∀ b H n, a.c2 b H n = (cr b H n : EReal)) :
    Cert.ReferenceIdeal.Gen.lseRef a = Cert.KernelIdeal.Gen.lseArr a := by
  funext x
  exact (Cert.Fox.lse_eq a _ _ _ _ cr hc).symm

/-- The value claim of the attention call. -/
theorem value : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hpre hagree
  obtain ⟨cr, hc⟩ := Cert.KernelIdeal.Gen.gates_real m hpre
  have hs := Cert.KernelIdeal.Gen.segs_sorted m hpre
  obtain ⟨h0, h1, h2, h3, h4, h5, h6, h7⟩ := hagree 0
  have ha := args_agree m m' h0 h1 h2 h3 h4 h5 h6 h7
  have hO := Cert.KernelIdeal.Gen.okay m
  have hH := Cert.KernelIdeal.Gen.hyps m hO
  refine ⟨fun _ => Cert.KernelIdeal.Gen.outArr (Cert.KernelIdeal.Gen.argsOf m 0),
    fun _ => Cert.KernelIdeal.Gen.lseArr (Cert.KernelIdeal.Gen.argsOf m 0), ?_, ?_⟩
  · refine (θ_run _ _ _).mono (fun r h c => ?_)
      (θ_run_and (Cert.KernelIdeal.Gen.run_values m hO hH g hs) (Cert.KernelIdeal.Gen.unchanged m g hO hH))
    exact ⟨(h.1 c).1, (h.1 c).2, h.2 c⟩
  · refine (θ_run _ _ _).mono (fun r h c => ?_)
      (θ_run_and (Cert.ReferenceIdeal.Gen.run_values m' g') (Cert.ReferenceIdeal.Gen.unchanged m' g'))
    refine ⟨(h.1 c).1.trans ?_, (h.1 c).2.trans ?_, h.2 c⟩
    · rw [ha]
      exact out_eq _ cr hc
    · rw [ha]
      exact lse_eq _ cr hc

/-- The value claim of the decay call. -/
theorem value_decay : Cert.algebraic_DecayIdeal_DecayReferenceIdeal (hDecayIdeal := Cert.DecayIdeal.Gen.facts)
    (hDecayReferenceIdeal := Cert.DecayReferenceIdeal.Gen.facts) := by
  intro m g m' g' _ hagree
  refine ⟨fun c => Cert.Fox.gates (m ((c.tc : Thread Cert.DecayIdeal.nD Cert.DecayIdeal.τ).loc Cert.DecayIdeal.main_arg0)),
    Cert.DecayIdeal.Gen.run_values m g, ?_⟩
  refine (θ_run _ _ _).mono (fun r h c => ⟨(h c).1.trans ?_, (h c).2⟩) (Cert.DecayReferenceIdeal.Gen.run_values m' g')
  exact congrArg Cert.Fox.gates (hagree c)

/-- The decay reference runs and leaves its argument; it has no semaphores. -/
theorem frame_decayRef : Cert.quiescent_DecayReferenceIdeal (hDecayReferenceIdeal := Cert.DecayReferenceIdeal.Gen.facts) := fun m g _ =>
  (θ_run _ _ _).mono (fun r h => ⟨fun c => (h c).2, sem_eq_zero_of_no_sems (by decide) r.2⟩) (Cert.DecayReferenceIdeal.Value.run m g)

theorem claim : Cert.Claim :=
  ⟨Cert.Kernel.Gen.facts, Cert.KernelIdeal.Gen.facts, Cert.ReferenceIdeal.Gen.facts, Cert.Decay.Gen.facts, Cert.DecayIdeal.Gen.facts,
    Cert.DecayReferenceIdeal.Gen.facts, Cert.Pre_pre.Gen.facts,
    fun m g _ => Cert.Kernel.Gen.frame m g (Cert.Kernel.Gen.okay m) (Cert.Kernel.Gen.hyps m _),
    fun m g _ => Cert.KernelIdeal.Gen.frame m g (Cert.KernelIdeal.Gen.okay m) (Cert.KernelIdeal.Gen.hyps m _),
    fun m g _ => Cert.KernelIdeal.Gen.frame m g (Cert.KernelIdeal.Gen.okay m) (Cert.KernelIdeal.Gen.hyps m _),
    fun m g _ => Cert.ReferenceIdeal.Gen.frame m g,
    fun m g _ => Cert.ReferenceIdeal.Gen.frame m g,
    fun m g _ => Cert.Decay.Gen.frame m g,
    fun m g _ => Cert.DecayIdeal.Gen.frame m g,
    frame_decayRef,
    ⟨IdealRules.named_const.statement _ _ _ _ _ rfl, IdealRules.named_const.statement _ _ _ _ _ rfl⟩,
    value,
    IdealRules.named_const.statement _ _ _ _ _ rfl,
    value_decay⟩

end Cert.Proof

end
